-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v109) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S256x512 : Shape := ⟨2, ![256, 512]⟩
abbrev S2x128 : Shape := ⟨2, ![2, 128]⟩
abbrev S128x3072 : Shape := ⟨2, ![128, 3072]⟩
abbrev S512x512 : Shape := ⟨2, ![512, 512]⟩
abbrev S8x64x512 : Shape := ⟨3, ![8, 64, 512]⟩
abbrev S4x8x512 : Shape := ⟨3, ![4, 8, 512]⟩
abbrev S2x8 : Shape := ⟨2, ![2, 8]⟩
abbrev S_ : Shape := ⟨0, ![]⟩
abbrev S2x3072 : Shape := ⟨2, ![2, 3072]⟩
abbrev S2x512 : Shape := ⟨2, ![2, 512]⟩
abbrev S1x512 : Shape := ⟨2, ![1, 512]⟩
abbrev S4x512 : Shape := ⟨2, ![4, 512]⟩
abbrev S8x512 : Shape := ⟨2, ![8, 512]⟩
abbrev S1x8x512 : Shape := ⟨3, ![1, 8, 512]⟩
abbrev S1x256x512 : Shape := ⟨3, ![1, 256, 512]⟩
abbrev S256 : Shape := ⟨1, ![256]⟩
abbrev S256x1 : Shape := ⟨2, ![256, 1]⟩
abbrev S256x256 : Shape := ⟨2, ![256, 256]⟩
abbrev S256x64 : Shape := ⟨2, ![256, 64]⟩
abbrev S1x1 : Shape := ⟨2, ![1, 1]⟩
abbrev S1x64x512 : Shape := ⟨3, ![1, 64, 512]⟩
abbrev S64x512 : Shape := ⟨2, ![64, 512]⟩
abbrev S1x1x512 : Shape := ⟨3, ![1, 1, 512]⟩
abbrev S64 : Shape := ⟨1, ![64]⟩
abbrev S64x1 : Shape := ⟨2, ![64, 1]⟩
abbrev S64x256 : Shape := ⟨2, ![64, 256]⟩

abbrev nBuf : Space → Nat
  | .hbm => 10
  | .vmem => 18
  | .smem => 0
  | _ => 0

abbrev bufTy : (tb : Table) → Fin (tcTables nBuf tb) → BufTy
  | .hbm, ⟨0, _⟩ => ⟨S2x256x512, .f32⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S2x128, .bf16⟩
  | .hbm, ⟨6, _⟩ => ⟨S128x3072, .bf16⟩
  | .hbm, ⟨7, _⟩ => ⟨S512x256, .bf16⟩
  | .hbm, ⟨8, _⟩ => ⟨S256x512, .bf16⟩
  | .hbm, ⟨9, _⟩ => ⟨S512x512, .f32⟩
  | .local _ .vmem, ⟨0, _⟩ => ⟨S2x256x512, .f32⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S2x128, .bf16⟩
  | .local _ .vmem, ⟨6, _⟩ => ⟨S128x3072, .bf16⟩
  | .local _ .vmem, ⟨7, _⟩ => ⟨S512x256, .bf16⟩
  | .local _ .vmem, ⟨8, _⟩ => ⟨S256x512, .bf16⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S8x64x512, .bf16⟩
  | .local _ .vmem, ⟨13, _⟩ => ⟨S8x64x512, .bf16⟩
  | .local _ .vmem, ⟨14, _⟩ => ⟨S8x64x512, .bf16⟩
  | .local _ .vmem, ⟨15, _⟩ => ⟨S8x64x512, .bf16⟩
  | .local _ .vmem, ⟨16, _⟩ => ⟨S512x512, .f32⟩
  | .local _ .vmem, ⟨17, _⟩ => ⟨S4x8x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v99 : BitVec 32 := Scalar.addi v2 c1_i32_58
  let c8_i32_59 : BitVec 32 := 8#32
  let v100 : BitVec 32 := Scalar.remsi v99 c8_i32_59
  let c0_i32_113 : BitVec 32 := 0#32
  let v231 : BitVec 1 := Scalar.cmpi .sge v100 c0_i32_113
  let c4_i32_114 : BitVec 32 := 4#32
  let v232 : BitVec 1 := Scalar.cmpi .slt v100 c4_i32_114
  let v233 : BitVec 1 := Scalar.andi v231 v232
  let v234 : BitVec 32 := Scalar.extui v233
  let c0_i32_119 : BitVec 32 := 0#32
  let v235 : BitVec 1 := Scalar.cmpi .ne v234 c0_i32_119
  v235

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v99 : BitVec 32 := Scalar.addi v2 c1_i32_58
  let c8_i32_59 : BitVec 32 := 8#32
  let v100 : BitVec 32 := Scalar.remsi v99 c8_i32_59
  let c64_i32 : BitVec 32 := 64#32
  let v101 : BitVec 32 := Scalar.muli v100 c64_i32
  let c0_i32_1344 : BitVec 32 := 0#32
  ![v101.toNat, 0]
def k0_dev8 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v99 : BitVec 32 := Scalar.addi v2 c1_i32_58
  let c8_i32_59 : BitVec 32 := 8#32
  let v100 : BitVec 32 := Scalar.remsi v99 c8_i32_59
  let c1_i32_1340 : BitVec 32 := 1#32
  let v1784 : BitVec 32 := Scalar.muli v100 c1_i32_1340
  let v1785 : BitVec 32 := Scalar.addi c0_i32_1341 v1784
  v1785.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v102 : BitVec 32 := Scalar.addi v2 c2_i32_60
  let c8_i32_61 : BitVec 32 := 8#32
  let v103 : BitVec 32 := Scalar.remsi v102 c8_i32_61
  let c0_i32_120 : BitVec 32 := 0#32
  let v236 : BitVec 1 := Scalar.cmpi .sge v103 c0_i32_120
  let c4_i32_121 : BitVec 32 := 4#32
  let v237 : BitVec 1 := Scalar.cmpi .slt v103 c4_i32_121
  let v238 : BitVec 1 := Scalar.andi v236 v237
  let v239 : BitVec 32 := Scalar.extui v238
  let c0_i32_126 : BitVec 32 := 0#32
  let v240 : BitVec 1 := Scalar.cmpi .ne v239 c0_i32_126
  v240

def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v102 : BitVec 32 := Scalar.addi v2 c2_i32_60
  let c8_i32_61 : BitVec 32 := 8#32
  let v103 : BitVec 32 := Scalar.remsi v102 c8_i32_61
  let c64_i32_62 : BitVec 32 := 64#32
  let v104 : BitVec 32 := Scalar.muli v103 c64_i32_62
  let c0_i32_1344 : BitVec 32 := 0#32
  ![v104.toNat, 0]
def k0_dev9 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v102 : BitVec 32 := Scalar.addi v2 c2_i32_60
  let c8_i32_61 : BitVec 32 := 8#32
  let v103 : BitVec 32 := Scalar.remsi v102 c8_i32_61
  let c1_i32_1340 : BitVec 32 := 1#32
  let v1784 : BitVec 32 := Scalar.muli v103 c1_i32_1340
  let v1785 : BitVec 32 := Scalar.addi c0_i32_1341 v1784
  v1785.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_63 : BitVec 32 := 3#32
  let v105 : BitVec 32 := Scalar.addi v2 c3_i32_63
  let c8_i32_64 : BitVec 32 := 8#32
  let v106 : BitVec 32 := Scalar.remsi v105 c8_i32_64
  let c0_i32_127 : BitVec 32 := 0#32
  let v241 : BitVec 1 := Scalar.cmpi .sge v106 c0_i32_127
  let c4_i32_128 : BitVec 32 := 4#32
  let v242 : BitVec 1 := Scalar.cmpi .slt v106 c4_i32_128
  let v243 : BitVec 1 := Scalar.andi v241 v242
  let v244 : BitVec 32 := Scalar.extui v243
  let c0_i32_133 : BitVec 32 := 0#32
  let v245 : BitVec 1 := Scalar.cmpi .ne v244 c0_i32_133
  v245

def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_63 : BitVec 32 := 3#32
  let v105 : BitVec 32 := Scalar.addi v2 c3_i32_63
  let c8_i32_64 : BitVec 32 := 8#32
  let v106 : BitVec 32 := Scalar.remsi v105 c8_i32_64
  let c64_i32_65 : BitVec 32 := 64#32
  let v107 : BitVec 32 := Scalar.muli v106 c64_i32_65
  let c0_i32_1344 : BitVec 32 := 0#32
  ![v107.toNat, 0]
def k0_dev10 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_63 : BitVec 32 := 3#32
  let v105 : BitVec 32 := Scalar.addi v2 c3_i32_63
  let c8_i32_64 : BitVec 32 := 8#32
  let v106 : BitVec 32 := Scalar.remsi v105 c8_i32_64
  let c1_i32_1340 : BitVec 32 := 1#32
  let v1784 : BitVec 32 := Scalar.muli v106 c1_i32_1340
  let v1785 : BitVec 32 := Scalar.addi c0_i32_1341 v1784
  v1785.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v108 : BitVec 32 := Scalar.addi v2 c4_i32_66
  let c8_i32_67 : BitVec 32 := 8#32
  let v109 : BitVec 32 := Scalar.remsi v108 c8_i32_67
  let c0_i32_134 : BitVec 32 := 0#32
  let v246 : BitVec 1 := Scalar.cmpi .sge v109 c0_i32_134
  let c4_i32_135 : BitVec 32 := 4#32
  let v247 : BitVec 1 := Scalar.cmpi .slt v109 c4_i32_135
  let v248 : BitVec 1 := Scalar.andi v246 v247
  let v249 : BitVec 32 := Scalar.extui v248
  let c0_i32_140 : BitVec 32 := 0#32
  let v250 : BitVec 1 := Scalar.cmpi .ne v249 c0_i32_140
  v250

def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v108 : BitVec 32 := Scalar.addi v2 c4_i32_66
  let c8_i32_67 : BitVec 32 := 8#32
  let v109 : BitVec 32 := Scalar.remsi v108 c8_i32_67
  let c64_i32_68 : BitVec 32 := 64#32
  let v110 : BitVec 32 := Scalar.muli v109 c64_i32_68
  let c0_i32_1344 : BitVec 32 := 0#32
  ![v110.toNat, 0]
def k0_dev11 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v108 : BitVec 32 := Scalar.addi v2 c4_i32_66
  let c8_i32_67 : BitVec 32 := 8#32
  let v109 : BitVec 32 := Scalar.remsi v108 c8_i32_67
  let c1_i32_1340 : BitVec 32 := 1#32
  let v1784 : BitVec 32 := Scalar.muli v109 c1_i32_1340
  let v1785 : BitVec 32 := Scalar.addi c0_i32_1341 v1784
  v1785.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_69 : BitVec 32 := 5#32
  let v111 : BitVec 32 := Scalar.addi v2 c5_i32_69
  let c8_i32_70 : BitVec 32 := 8#32
  let v112 : BitVec 32 := Scalar.remsi v111 c8_i32_70
  let c0_i32_141 : BitVec 32 := 0#32
  let v251 : BitVec 1 := Scalar.cmpi .sge v112 c0_i32_141
  let c4_i32_142 : BitVec 32 := 4#32
  let v252 : BitVec 1 := Scalar.cmpi .slt v112 c4_i32_142
  let v253 : BitVec 1 := Scalar.andi v251 v252
  let v254 : BitVec 32 := Scalar.extui v253
  let c0_i32_147 : BitVec 32 := 0#32
  let v255 : BitVec 1 := Scalar.cmpi .ne v254 c0_i32_147
  v255

def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_69 : BitVec 32 := 5#32
  let v111 : BitVec 32 := Scalar.addi v2 c5_i32_69
  let c8_i32_70 : BitVec 32 := 8#32
  let v112 : BitVec 32 := Scalar.remsi v111 c8_i32_70
  let c64_i32_71 : BitVec 32 := 64#32
  let v113 : BitVec 32 := Scalar.muli v112 c64_i32_71
  let c0_i32_1344 : BitVec 32 := 0#32
  ![v113.toNat, 0]
def k0_dev12 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_69 : BitVec 32 := 5#32
  let v111 : BitVec 32 := Scalar.addi v2 c5_i32_69
  let c8_i32_70 : BitVec 32 := 8#32
  let v112 : BitVec 32 := Scalar.remsi v111 c8_i32_70
  let c1_i32_1340 : BitVec 32 := 1#32
  let v1784 : BitVec 32 := Scalar.muli v112 c1_i32_1340
  let v1785 : BitVec 32 := Scalar.addi c0_i32_1341 v1784
  v1785.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_72 : BitVec 32 := 6#32
  let v114 : BitVec 32 := Scalar.addi v2 c6_i32_72
  let c8_i32_73 : BitVec 32 := 8#32
  let v115 : BitVec 32 := Scalar.remsi v114 c8_i32_73
  let c0_i32_148 : BitVec 32 := 0#32
  let v256 : BitVec 1 := Scalar.cmpi .sge v115 c0_i32_148
  let c4_i32_149 : BitVec 32 := 4#32
  let v257 : BitVec 1 := Scalar.cmpi .slt v115 c4_i32_149
  let v258 : BitVec 1 := Scalar.andi v256 v257
  let v259 : BitVec 32 := Scalar.extui v258
  let c0_i32_154 : BitVec 32 := 0#32
  let v260 : BitVec 1 := Scalar.cmpi .ne v259 c0_i32_154
  v260

def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_72 : BitVec 32 := 6#32
  let v114 : BitVec 32 := Scalar.addi v2 c6_i32_72
  let c8_i32_73 : BitVec 32 := 8#32
  let v115 : BitVec 32 := Scalar.remsi v114 c8_i32_73
  let c64_i32_74 : BitVec 32 := 64#32
  let v116 : BitVec 32 := Scalar.muli v115 c64_i32_74
  let c0_i32_1344 : BitVec 32 := 0#32
  ![v116.toNat, 0]
def k0_dev13 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_72 : BitVec 32 := 6#32
  let v114 : BitVec 32 := Scalar.addi v2 c6_i32_72
  let c8_i32_73 : BitVec 32 := 8#32
  let v115 : BitVec 32 := Scalar.remsi v114 c8_i32_73
  let c1_i32_1340 : BitVec 32 := 1#32
  let v1784 : BitVec 32 := Scalar.muli v115 c1_i32_1340
  let v1785 : BitVec 32 := Scalar.addi c0_i32_1341 v1784
  v1785.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_75 : BitVec 32 := 7#32
  let v117 : BitVec 32 := Scalar.addi v2 c7_i32_75
  let c8_i32_76 : BitVec 32 := 8#32
  let v118 : BitVec 32 := Scalar.remsi v117 c8_i32_76
  let c0_i32_155 : BitVec 32 := 0#32
  let v261 : BitVec 1 := Scalar.cmpi .sge v118 c0_i32_155
  let c4_i32_156 : BitVec 32 := 4#32
  let v262 : BitVec 1 := Scalar.cmpi .slt v118 c4_i32_156
  let v263 : BitVec 1 := Scalar.andi v261 v262
  let v264 : BitVec 32 := Scalar.extui v263
  let c0_i32_161 : BitVec 32 := 0#32
  let v265 : BitVec 1 := Scalar.cmpi .ne v264 c0_i32_161
  v265

def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_75 : BitVec 32 := 7#32
  let v117 : BitVec 32 := Scalar.addi v2 c7_i32_75
  let c8_i32_76 : BitVec 32 := 8#32
  let v118 : BitVec 32 := Scalar.remsi v117 c8_i32_76
  let c64_i32_77 : BitVec 32 := 64#32
  let v119 : BitVec 32 := Scalar.muli v118 c64_i32_77
  let c0_i32_1344 : BitVec 32 := 0#32
  ![v119.toNat, 0]
def k0_dev14 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_75 : BitVec 32 := 7#32
  let v117 : BitVec 32 := Scalar.addi v2 c7_i32_75
  let c8_i32_76 : BitVec 32 := 8#32
  let v118 : BitVec 32 := Scalar.remsi v117 c8_i32_76
  let c1_i32_1340 : BitVec 32 := 1#32
  let v1784 : BitVec 32 := Scalar.muli v118 c1_i32_1340
  let v1785 : BitVec 32 := Scalar.addi c0_i32_1341 v1784
  v1785.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v99 : BitVec 32 := Scalar.addi v2 c1_i32_58
  let c8_i32_59 : BitVec 32 := 8#32
  let v100 : BitVec 32 := Scalar.remsi v99 c8_i32_59
  let c4_i32_197 : BitVec 32 := 4#32
  let v377 : BitVec 1 := Scalar.cmpi .sge v100 c4_i32_197
  let c8_i32_198 : BitVec 32 := 8#32
  let v378 : BitVec 1 := Scalar.cmpi .slt v100 c8_i32_198
  let v379 : BitVec 1 := Scalar.andi v377 v378
  let v380 : BitVec 32 := Scalar.extui v379
  let c0_i32_203 : BitVec 32 := 0#32
  let v381 : BitVec 1 := Scalar.cmpi .ne v380 c0_i32_203
  v381

def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v99 : BitVec 32 := Scalar.addi v2 c1_i32_58
  let c8_i32_59 : BitVec 32 := 8#32
  let v100 : BitVec 32 := Scalar.remsi v99 c8_i32_59
  let c64_i32 : BitVec 32 := 64#32
  let v101 : BitVec 32 := Scalar.muli v100 c64_i32
  let c0_i32_1344 : BitVec 32 := 0#32
  ![v101.toNat, 0]
def k0_dev15 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v99 : BitVec 32 := Scalar.addi v2 c1_i32_58
  let c8_i32_59 : BitVec 32 := 8#32
  let v100 : BitVec 32 := Scalar.remsi v99 c8_i32_59
  let c1_i32_1340 : BitVec 32 := 1#32
  let v1784 : BitVec 32 := Scalar.muli v100 c1_i32_1340
  let v1785 : BitVec 32 := Scalar.addi c0_i32_1341 v1784
  v1785.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v102 : BitVec 32 := Scalar.addi v2 c2_i32_60
  let c8_i32_61 : BitVec 32 := 8#32
  let v103 : BitVec 32 := Scalar.remsi v102 c8_i32_61
  let c4_i32_204 : BitVec 32 := 4#32
  let v382 : BitVec 1 := Scalar.cmpi .sge v103 c4_i32_204
  let c8_i32_205 : BitVec 32 := 8#32
  let v383 : BitVec 1 := Scalar.cmpi .slt v103 c8_i32_205
  let v384 : BitVec 1 := Scalar.andi v382 v383
  let v385 : BitVec 32 := Scalar.extui v384
  let c0_i32_210 : BitVec 32 := 0#32
  let v386 : BitVec 1 := Scalar.cmpi .ne v385 c0_i32_210
  v386

def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v102 : BitVec 32 := Scalar.addi v2 c2_i32_60
  let c8_i32_61 : BitVec 32 := 8#32
  let v103 : BitVec 32 := Scalar.remsi v102 c8_i32_61
  let c64_i32_62 : BitVec 32 := 64#32
  let v104 : BitVec 32 := Scalar.muli v103 c64_i32_62
  let c0_i32_1344 : BitVec 32 := 0#32
  ![v104.toNat, 0]
def k0_dev16 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v102 : BitVec 32 := Scalar.addi v2 c2_i32_60
  let c8_i32_61 : BitVec 32 := 8#32
  let v103 : BitVec 32 := Scalar.remsi v102 c8_i32_61
  let c1_i32_1340 : BitVec 32 := 1#32
  let v1784 : BitVec 32 := Scalar.muli v103 c1_i32_1340
  let v1785 : BitVec 32 := Scalar.addi c0_i32_1341 v1784
  v1785.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_63 : BitVec 32 := 3#32
  let v105 : BitVec 32 := Scalar.addi v2 c3_i32_63
  let c8_i32_64 : BitVec 32 := 8#32
  let v106 : BitVec 32 := Scalar.remsi v105 c8_i32_64
  let c4_i32_211 : BitVec 32 := 4#32
  let v387 : BitVec 1 := Scalar.cmpi .sge v106 c4_i32_211
  let c8_i32_212 : BitVec 32 := 8#32
  let v388 : BitVec 1 := Scalar.cmpi .slt v106 c8_i32_212
  let v389 : BitVec 1 := Scalar.andi v387 v388
  let v390 : BitVec 32 := Scalar.extui v389
  let c0_i32_217 : BitVec 32 := 0#32
  let v391 : BitVec 1 := Scalar.cmpi .ne v390 c0_i32_217
  v391

def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_63 : BitVec 32 := 3#32
  let v105 : BitVec 32 := Scalar.addi v2 c3_i32_63
  let c8_i32_64 : BitVec 32 := 8#32
  let v106 : BitVec 32 := Scalar.remsi v105 c8_i32_64
  let c64_i32_65 : BitVec 32 := 64#32
  let v107 : BitVec 32 := Scalar.muli v106 c64_i32_65
  let c0_i32_1344 : BitVec 32 := 0#32
  ![v107.toNat, 0]
def k0_dev17 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_63 : BitVec 32 := 3#32
  let v105 : BitVec 32 := Scalar.addi v2 c3_i32_63
  let c8_i32_64 : BitVec 32 := 8#32
  let v106 : BitVec 32 := Scalar.remsi v105 c8_i32_64
  let c1_i32_1340 : BitVec 32 := 1#32
  let v1784 : BitVec 32 := Scalar.muli v106 c1_i32_1340
  let v1785 : BitVec 32 := Scalar.addi c0_i32_1341 v1784
  v1785.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v108 : BitVec 32 := Scalar.addi v2 c4_i32_66
  let c8_i32_67 : BitVec 32 := 8#32
  let v109 : BitVec 32 := Scalar.remsi v108 c8_i32_67
  let c4_i32_218 : BitVec 32 := 4#32
  let v392 : BitVec 1 := Scalar.cmpi .sge v109 c4_i32_218
  let c8_i32_219 : BitVec 32 := 8#32
  let v393 : BitVec 1 := Scalar.cmpi .slt v109 c8_i32_219
  let v394 : BitVec 1 := Scalar.andi v392 v393
  let v395 : BitVec 32 := Scalar.extui v394
  let c0_i32_224 : BitVec 32 := 0#32
  let v396 : BitVec 1 := Scalar.cmpi .ne v395 c0_i32_224
  v396

def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v108 : BitVec 32 := Scalar.addi v2 c4_i32_66
  let c8_i32_67 : BitVec 32 := 8#32
  let v109 : BitVec 32 := Scalar.remsi v108 c8_i32_67
  let c64_i32_68 : BitVec 32 := 64#32
  let v110 : BitVec 32 := Scalar.muli v109 c64_i32_68
  let c0_i32_1344 : BitVec 32 := 0#32
  ![v110.toNat, 0]
def k0_dev18 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v108 : BitVec 32 := Scalar.addi v2 c4_i32_66
  let c8_i32_67 : BitVec 32 := 8#32
  let v109 : BitVec 32 := Scalar.remsi v108 c8_i32_67
  let c1_i32_1340 : BitVec 32 := 1#32
  let v1784 : BitVec 32 := Scalar.muli v109 c1_i32_1340
  let v1785 : BitVec 32 := Scalar.addi c0_i32_1341 v1784
  v1785.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_69 : BitVec 32 := 5#32
  let v111 : BitVec 32 := Scalar.addi v2 c5_i32_69
  let c8_i32_70 : BitVec 32 := 8#32
  let v112 : BitVec 32 := Scalar.remsi v111 c8_i32_70
  let c4_i32_225 : BitVec 32 := 4#32
  let v397 : BitVec 1 := Scalar.cmpi .sge v112 c4_i32_225
  let c8_i32_226 : BitVec 32 := 8#32
  let v398 : BitVec 1 := Scalar.cmpi .slt v112 c8_i32_226
  let v399 : BitVec 1 := Scalar.andi v397 v398
  let v400 : BitVec 32 := Scalar.extui v399
  let c0_i32_231 : BitVec 32 := 0#32
  let v401 : BitVec 1 := Scalar.cmpi .ne v400 c0_i32_231
  v401

def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_69 : BitVec 32 := 5#32
  let v111 : BitVec 32 := Scalar.addi v2 c5_i32_69
  let c8_i32_70 : BitVec 32 := 8#32
  let v112 : BitVec 32 := Scalar.remsi v111 c8_i32_70
  let c64_i32_71 : BitVec 32 := 64#32
  let v113 : BitVec 32 := Scalar.muli v112 c64_i32_71
  let c0_i32_1344 : BitVec 32 := 0#32
  ![v113.toNat, 0]
def k0_dev19 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_69 : BitVec 32 := 5#32
  let v111 : BitVec 32 := Scalar.addi v2 c5_i32_69
  let c8_i32_70 : BitVec 32 := 8#32
  let v112 : BitVec 32 := Scalar.remsi v111 c8_i32_70
  let c1_i32_1340 : BitVec 32 := 1#32
  let v1784 : BitVec 32 := Scalar.muli v112 c1_i32_1340
  let v1785 : BitVec 32 := Scalar.addi c0_i32_1341 v1784
  v1785.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_72 : BitVec 32 := 6#32
  let v114 : BitVec 32 := Scalar.addi v2 c6_i32_72
  let c8_i32_73 : BitVec 32 := 8#32
  let v115 : BitVec 32 := Scalar.remsi v114 c8_i32_73
  let c4_i32_232 : BitVec 32 := 4#32
  let v402 : BitVec 1 := Scalar.cmpi .sge v115 c4_i32_232
  let c8_i32_233 : BitVec 32 := 8#32
  let v403 : BitVec 1 := Scalar.cmpi .slt v115 c8_i32_233
  let v404 : BitVec 1 := Scalar.andi v402 v403
  let v405 : BitVec 32 := Scalar.extui v404
  let c0_i32_238 : BitVec 32 := 0#32
  let v406 : BitVec 1 := Scalar.cmpi .ne v405 c0_i32_238
  v406

def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_72 : BitVec 32 := 6#32
  let v114 : BitVec 32 := Scalar.addi v2 c6_i32_72
  let c8_i32_73 : BitVec 32 := 8#32
  let v115 : BitVec 32 := Scalar.remsi v114 c8_i32_73
  let c64_i32_74 : BitVec 32 := 64#32
  let v116 : BitVec 32 := Scalar.muli v115 c64_i32_74
  let c0_i32_1344 : BitVec 32 := 0#32
  ![v116.toNat, 0]
def k0_dev20 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_72 : BitVec 32 := 6#32
  let v114 : BitVec 32 := Scalar.addi v2 c6_i32_72
  let c8_i32_73 : BitVec 32 := 8#32
  let v115 : BitVec 32 := Scalar.remsi v114 c8_i32_73
  let c1_i32_1340 : BitVec 32 := 1#32
  let v1784 : BitVec 32 := Scalar.muli v115 c1_i32_1340
  let v1785 : BitVec 32 := Scalar.addi c0_i32_1341 v1784
  v1785.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_75 : BitVec 32 := 7#32
  let v117 : BitVec 32 := Scalar.addi v2 c7_i32_75
  let c8_i32_76 : BitVec 32 := 8#32
  let v118 : BitVec 32 := Scalar.remsi v117 c8_i32_76
  let c4_i32_239 : BitVec 32 := 4#32
  let v407 : BitVec 1 := Scalar.cmpi .sge v118 c4_i32_239
  let c8_i32_240 : BitVec 32 := 8#32
  let v408 : BitVec 1 := Scalar.cmpi .slt v118 c8_i32_240
  let v409 : BitVec 1 := Scalar.andi v407 v408
  let v410 : BitVec 32 := Scalar.extui v409
  let c0_i32_245 : BitVec 32 := 0#32
  let v411 : BitVec 1 := Scalar.cmpi .ne v410 c0_i32_245
  v411

def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1342 : BitVec 32 := 0#32
  let c0_i32_1343 : BitVec 32 := 0#32
  ![v2.toNat, 0, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_75 : BitVec 32 := 7#32
  let v117 : BitVec 32 := Scalar.addi v2 c7_i32_75
  let c8_i32_76 : BitVec 32 := 8#32
  let v118 : BitVec 32 := Scalar.remsi v117 c8_i32_76
  let c64_i32_77 : BitVec 32 := 64#32
  let v119 : BitVec 32 := Scalar.muli v118 c64_i32_77
  let c0_i32_1344 : BitVec 32 := 0#32
  ![v119.toNat, 0]
def k0_dev21 (d0 : Dev nD) : Nat :=
  let c0_i32_1341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_75 : BitVec 32 := 7#32
  let v117 : BitVec 32 := Scalar.addi v2 c7_i32_75
  let c8_i32_76 : BitVec 32 := 8#32
  let v118 : BitVec 32 := Scalar.remsi v117 c8_i32_76
  let c1_i32_1340 : BitVec 32 := 1#32
  let v1784 : BitVec 32 := Scalar.muli v118 c1_i32_1340
  let v1785 : BitVec 32 := Scalar.addi c0_i32_1341 v1784
  v1785.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_246 : BitVec 32 := 64#32
  let v412 : BitVec 32 := Scalar.muli v2 c64_i32_246
  let v413 : Index := Scalar.indexCast v412
  let c0_247 : Index := 0#32
  ![v413.toNat, 0]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v416 : Index := Scalar.indexCast v2
  let c0_248 : Index := 0#32
  let c0_249 : Index := 0#32
  ![v416.toNat, 0, 0]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let c0_i32_257 : BitVec 32 := 0#32
  ![v2.toNat, 0, 0]
def k0_off32 (d0 : Dev nD) (c1_i32_58 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : BitVec 32 := Scalar.addi v2 c1_i32_58
  let c8_i32_59 : BitVec 32 := 8#32
  let v100 : BitVec 32 := Scalar.remsi v99 c8_i32_59
  let c64_i32 : BitVec 32 := 64#32
  let v101 : BitVec 32 := Scalar.muli v100 c64_i32
  let c0_i32_258 : BitVec 32 := 0#32
  ![v101.toNat, 0]
def k0_dev22 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_335 : BitVec 32 := 1#32
  let v506 : BitVec 32 := Scalar.addi v2 c1_i32_335
  let c8_i32_336 : BitVec 32 := 8#32
  let v507 : BitVec 32 := Scalar.remsi v506 c8_i32_336
  let c1_i32_353 : BitVec 32 := 1#32
  let v520 : BitVec 32 := Scalar.muli v507 c1_i32_353
  let v521 : BitVec 32 := Scalar.addi c0_i32_354 v520
  v521.toNat
def k0_dev23 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_337 : BitVec 32 := 2#32
  let v508 : BitVec 32 := Scalar.addi v2 c2_i32_337
  let c8_i32_338 : BitVec 32 := 8#32
  let v509 : BitVec 32 := Scalar.remsi v508 c8_i32_338
  let c1_i32_363 : BitVec 32 := 1#32
  let v530 : BitVec 32 := Scalar.muli v509 c1_i32_363
  let v531 : BitVec 32 := Scalar.addi c0_i32_364 v530
  v531.toNat
def k0_dev24 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_339 : BitVec 32 := 3#32
  let v510 : BitVec 32 := Scalar.addi v2 c3_i32_339
  let c8_i32_340 : BitVec 32 := 8#32
  let v511 : BitVec 32 := Scalar.remsi v510 c8_i32_340
  let c1_i32_373 : BitVec 32 := 1#32
  let v540 : BitVec 32 := Scalar.muli v511 c1_i32_373
  let v541 : BitVec 32 := Scalar.addi c0_i32_374 v540
  v541.toNat
def k0_dev25 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_341 : BitVec 32 := 4#32
  let v512 : BitVec 32 := Scalar.addi v2 c4_i32_341
  let c8_i32_342 : BitVec 32 := 8#32
  let v513 : BitVec 32 := Scalar.remsi v512 c8_i32_342
  let c1_i32_383 : BitVec 32 := 1#32
  let v550 : BitVec 32 := Scalar.muli v513 c1_i32_383
  let v551 : BitVec 32 := Scalar.addi c0_i32_384 v550
  v551.toNat
def k0_dev26 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_343 : BitVec 32 := 5#32
  let v514 : BitVec 32 := Scalar.addi v2 c5_i32_343
  let c8_i32_344 : BitVec 32 := 8#32
  let v515 : BitVec 32 := Scalar.remsi v514 c8_i32_344
  let c1_i32_393 : BitVec 32 := 1#32
  let v560 : BitVec 32 := Scalar.muli v515 c1_i32_393
  let v561 : BitVec 32 := Scalar.addi c0_i32_394 v560
  v561.toNat
def k0_dev27 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_345 : BitVec 32 := 6#32
  let v516 : BitVec 32 := Scalar.addi v2 c6_i32_345
  let c8_i32_346 : BitVec 32 := 8#32
  let v517 : BitVec 32 := Scalar.remsi v516 c8_i32_346
  let c1_i32_403 : BitVec 32 := 1#32
  let v570 : BitVec 32 := Scalar.muli v517 c1_i32_403
  let v571 : BitVec 32 := Scalar.addi c0_i32_404 v570
  v571.toNat
def k0_dev28 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_347 : BitVec 32 := 7#32
  let v518 : BitVec 32 := Scalar.addi v2 c7_i32_347
  let c8_i32_348 : BitVec 32 := 8#32
  let v519 : BitVec 32 := Scalar.remsi v518 c8_i32_348
  let c1_i32_413 : BitVec 32 := 1#32
  let v580 : BitVec 32 := Scalar.muli v519 c1_i32_413
  let v581 : BitVec 32 := Scalar.addi c0_i32_414 v580
  v581.toNat
def k0_off33 (d0 : Dev nD) : Fin 3 → Nat :=
  let c0_425 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v597 : Index := Scalar.indexCast v2
  let c0_426 : Index := 0#32
  ![0, v597.toNat, 0]
def k0_off34 (d0 : Dev nD) : Fin 3 → Nat :=
  let c1_432 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v619 : Index := Scalar.indexCast v2
  let c0_433 : Index := 0#32
  ![1, v619.toNat, 0]
def k0_off35 (d0 : Dev nD) : Fin 3 → Nat :=
  let c2_435 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v626 : Index := Scalar.indexCast v2
  let c0_436 : Index := 0#32
  ![2, v626.toNat, 0]
def k0_off36 (d0 : Dev nD) (c7_i32_453 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v655 : BitVec 32 := Scalar.addi v2 c7_i32_453
  let c8_i32_454 : BitVec 32 := 8#32
  let v656 : BitVec 32 := Scalar.remsi v655 c8_i32_454
  let v657 : Index := Scalar.indexCast v656
  let c0_455 : Index := 0#32
  let c0_456 : Index := 0#32
  ![v657.toNat, 0, 0]
def k0_off37 (d0 : Dev nD) (c7_i32_453 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v655 : BitVec 32 := Scalar.addi v2 c7_i32_453
  let c8_i32_454 : BitVec 32 := 8#32
  let v656 : BitVec 32 := Scalar.remsi v655 c8_i32_454
  let c64_i32_457 : BitVec 32 := 64#32
  let v661 : BitVec 32 := Scalar.muli v656 c64_i32_457
  let v662 : Index := Scalar.indexCast v661
  let c0_458 : Index := 0#32
  ![v662.toNat, 0]
def k0_off38 (d0 : Dev nD) (c7_i32_453 : BitVec 32) : Fin 3 → Nat :=
  let c0_459 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v655 : BitVec 32 := Scalar.addi v2 c7_i32_453
  let c8_i32_454 : BitVec 32 := 8#32
  let v656 : BitVec 32 := Scalar.remsi v655 c8_i32_454
  let v664 : Index := Scalar.indexCast v656
  let c0_460 : Index := 0#32
  ![0, v664.toNat, 0]
def k0_off39 (d0 : Dev nD) (c7_i32_453 : BitVec 32) : Fin 3 → Nat :=
  let c1_466 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v655 : BitVec 32 := Scalar.addi v2 c7_i32_453
  let c8_i32_454 : BitVec 32 := 8#32
  let v656 : BitVec 32 := Scalar.remsi v655 c8_i32_454
  let v686 : Index := Scalar.indexCast v656
  let c0_467 : Index := 0#32
  ![1, v686.toNat, 0]
def k0_off40 (d0 : Dev nD) (c7_i32_453 : BitVec 32) : Fin 3 → Nat :=
  let c2_469 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v655 : BitVec 32 := Scalar.addi v2 c7_i32_453
  let c8_i32_454 : BitVec 32 := 8#32
  let v656 : BitVec 32 := Scalar.remsi v655 c8_i32_454
  let v693 : Index := Scalar.indexCast v656
  let c0_470 : Index := 0#32
  ![2, v693.toNat, 0]
def k0_dev29 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_453 : BitVec 32 := 7#32
  let v655 : BitVec 32 := Scalar.addi v2 c7_i32_453
  let c8_i32_454 : BitVec 32 := 8#32
  let v656 : BitVec 32 := Scalar.remsi v655 c8_i32_454
  let c1_i32_482 : BitVec 32 := 1#32
  let v715 : BitVec 32 := Scalar.muli v656 c1_i32_482
  let v716 : BitVec 32 := Scalar.addi c0_i32_483 v715
  v716.toNat
def k0_dev30 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_497 : BitVec 32 := 6#32
  let v732 : BitVec 32 := Scalar.addi v2 c6_i32_497
  let c8_i32_498 : BitVec 32 := 8#32
  let v733 : BitVec 32 := Scalar.remsi v732 c8_i32_498
  let c1_i32_526 : BitVec 32 := 1#32
  let v792 : BitVec 32 := Scalar.muli v733 c1_i32_526
  let v793 : BitVec 32 := Scalar.addi c0_i32_527 v792
  v793.toNat
def k0_dev31 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_541 : BitVec 32 := 5#32
  let v809 : BitVec 32 := Scalar.addi v2 c5_i32_541
  let c8_i32_542 : BitVec 32 := 8#32
  let v810 : BitVec 32 := Scalar.remsi v809 c8_i32_542
  let c1_i32_570 : BitVec 32 := 1#32
  let v869 : BitVec 32 := Scalar.muli v810 c1_i32_570
  let v870 : BitVec 32 := Scalar.addi c0_i32_571 v869
  v870.toNat
def k0_dev32 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_585 : BitVec 32 := 4#32
  let v886 : BitVec 32 := Scalar.addi v2 c4_i32_585
  let c8_i32_586 : BitVec 32 := 8#32
  let v887 : BitVec 32 := Scalar.remsi v886 c8_i32_586
  let c1_i32_614 : BitVec 32 := 1#32
  let v946 : BitVec 32 := Scalar.muli v887 c1_i32_614
  let v947 : BitVec 32 := Scalar.addi c0_i32_615 v946
  v947.toNat
def k0_dev33 (d0 : Dev nD) : Nat :=
  let c0_i32_659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_629 : BitVec 32 := 3#32
  let v963 : BitVec 32 := Scalar.addi v2 c3_i32_629
  let c8_i32_630 : BitVec 32 := 8#32
  let v964 : BitVec 32 := Scalar.remsi v963 c8_i32_630
  let c1_i32_658 : BitVec 32 := 1#32
  let v1023 : BitVec 32 := Scalar.muli v964 c1_i32_658
  let v1024 : BitVec 32 := Scalar.addi c0_i32_659 v1023
  v1024.toNat
def k0_dev34 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_673 : BitVec 32 := 2#32
  let v1040 : BitVec 32 := Scalar.addi v2 c2_i32_673
  let c8_i32_674 : BitVec 32 := 8#32
  let v1041 : BitVec 32 := Scalar.remsi v1040 c8_i32_674
  let c1_i32_702 : BitVec 32 := 1#32
  let v1100 : BitVec 32 := Scalar.muli v1041 c1_i32_702
  let v1101 : BitVec 32 := Scalar.addi c0_i32_703 v1100
  v1101.toNat
def k0_dev35 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_717 : BitVec 32 := 1#32
  let v1117 : BitVec 32 := Scalar.addi v2 c1_i32_717
  let c8_i32_718 : BitVec 32 := 8#32
  let v1118 : BitVec 32 := Scalar.remsi v1117 c8_i32_718
  let c1_i32_746 : BitVec 32 := 1#32
  let v1177 : BitVec 32 := Scalar.muli v1118 c1_i32_746
  let v1178 : BitVec 32 := Scalar.addi c0_i32_747 v1177
  v1178.toNat
def k0_dev36 (d0 : Dev nD) : Nat :=
  let c0_i32_859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_840 : BitVec 32 := 1#32
  let v1272 : BitVec 32 := Scalar.addi v2 c1_i32_840
  let c8_i32_841 : BitVec 32 := 8#32
  let v1273 : BitVec 32 := Scalar.remsi v1272 c8_i32_841
  let c1_i32_858 : BitVec 32 := 1#32
  let v1286 : BitVec 32 := Scalar.muli v1273 c1_i32_858
  let v1287 : BitVec 32 := Scalar.addi c0_i32_859 v1286
  v1287.toNat
def k0_dev37 (d0 : Dev nD) : Nat :=
  let c0_i32_869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_842 : BitVec 32 := 2#32
  let v1274 : BitVec 32 := Scalar.addi v2 c2_i32_842
  let c8_i32_843 : BitVec 32 := 8#32
  let v1275 : BitVec 32 := Scalar.remsi v1274 c8_i32_843
  let c1_i32_868 : BitVec 32 := 1#32
  let v1296 : BitVec 32 := Scalar.muli v1275 c1_i32_868
  let v1297 : BitVec 32 := Scalar.addi c0_i32_869 v1296
  v1297.toNat
def k0_dev38 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_844 : BitVec 32 := 3#32
  let v1276 : BitVec 32 := Scalar.addi v2 c3_i32_844
  let c8_i32_845 : BitVec 32 := 8#32
  let v1277 : BitVec 32 := Scalar.remsi v1276 c8_i32_845
  let c1_i32_878 : BitVec 32 := 1#32
  let v1306 : BitVec 32 := Scalar.muli v1277 c1_i32_878
  let v1307 : BitVec 32 := Scalar.addi c0_i32_879 v1306
  v1307.toNat
def k0_dev39 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_846 : BitVec 32 := 4#32
  let v1278 : BitVec 32 := Scalar.addi v2 c4_i32_846
  let c8_i32_847 : BitVec 32 := 8#32
  let v1279 : BitVec 32 := Scalar.remsi v1278 c8_i32_847
  let c1_i32_888 : BitVec 32 := 1#32
  let v1316 : BitVec 32 := Scalar.muli v1279 c1_i32_888
  let v1317 : BitVec 32 := Scalar.addi c0_i32_889 v1316
  v1317.toNat
def k0_dev40 (d0 : Dev nD) : Nat :=
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_848 : BitVec 32 := 5#32
  let v1280 : BitVec 32 := Scalar.addi v2 c5_i32_848
  let c8_i32_849 : BitVec 32 := 8#32
  let v1281 : BitVec 32 := Scalar.remsi v1280 c8_i32_849
  let c1_i32_898 : BitVec 32 := 1#32
  let v1326 : BitVec 32 := Scalar.muli v1281 c1_i32_898
  let v1327 : BitVec 32 := Scalar.addi c0_i32_899 v1326
  v1327.toNat
def k0_dev41 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_850 : BitVec 32 := 6#32
  let v1282 : BitVec 32 := Scalar.addi v2 c6_i32_850
  let c8_i32_851 : BitVec 32 := 8#32
  let v1283 : BitVec 32 := Scalar.remsi v1282 c8_i32_851
  let c1_i32_908 : BitVec 32 := 1#32
  let v1336 : BitVec 32 := Scalar.muli v1283 c1_i32_908
  let v1337 : BitVec 32 := Scalar.addi c0_i32_909 v1336
  v1337.toNat
def k0_dev42 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_852 : BitVec 32 := 7#32
  let v1284 : BitVec 32 := Scalar.addi v2 c7_i32_852
  let c8_i32_853 : BitVec 32 := 8#32
  let v1285 : BitVec 32 := Scalar.remsi v1284 c8_i32_853
  let c1_i32_918 : BitVec 32 := 1#32
  let v1346 : BitVec 32 := Scalar.muli v1285 c1_i32_918
  let v1347 : BitVec 32 := Scalar.addi c0_i32_919 v1346
  v1347.toNat
def k0_off41 (d0 : Dev nD) : Fin 3 → Nat :=
  let c3_930 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1369 : Index := Scalar.indexCast v2
  let c0_931 : Index := 0#32
  ![3, v1369.toNat, 0]
def k0_off42 (d0 : Dev nD) (c7_i32_944 : BitVec 32) : Fin 3 → Nat :=
  let c3_954 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1386 : BitVec 32 := Scalar.addi v2 c7_i32_944
  let c8_i32_945 : BitVec 32 := 8#32
  let v1387 : BitVec 32 := Scalar.remsi v1386 c8_i32_945
  let v1405 : Index := Scalar.indexCast v1387
  let c0_955 : Index := 0#32
  ![3, v1405.toNat, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2048x512 : Shape := ⟨2, ![2048, 512]⟩
abbrev S2x128 : Shape := ⟨2, ![2, 128]⟩
abbrev S128x3072 : Shape := ⟨2, ![128, 3072]⟩
abbrev S2x3072 : Shape := ⟨2, ![2, 3072]⟩
abbrev S2x512 : Shape := ⟨2, ![2, 512]⟩
abbrev S_ : Shape := ⟨0, ![]⟩
abbrev S2x256 : Shape := ⟨2, ![2, 256]⟩
abbrev S2x256x1 : Shape := ⟨3, ![2, 256, 1]⟩
abbrev S2x1x512 : Shape := ⟨3, ![2, 1, 512]⟩
abbrev S2x256x2048 : Shape := ⟨3, ![2, 256, 2048]⟩
abbrev S2x256x32x64 : Shape := ⟨4, ![2, 256, 32, 64]⟩
abbrev S2x32x256x256 : Shape := ⟨4, ![2, 32, 256, 256]⟩
abbrev S2x32x256 : Shape := ⟨3, ![2, 32, 256]⟩
abbrev S2x32x256x1 : Shape := ⟨4, ![2, 32, 256, 1]⟩
abbrev S2x32x64x256 : Shape := ⟨4, ![2, 32, 64, 256]⟩
abbrev S2x256x32x1 : Shape := ⟨4, ![2, 256, 32, 1]⟩
abbrev S512x512 : Shape := ⟨2, ![512, 512]⟩

abbrev nBuf : Space → Nat
  | .hbm => 135
  | .vmem => 0
  | .smem => 0
  | _ => 0

abbrev hbmTy0_0 (i : Nat) : BufTy := match i % 128 with
  | 0 => ⟨S2x256x512, .f32⟩
  | 1 => ⟨S512x2048, .bf16⟩
  | 2 => ⟨S512x2048, .bf16⟩
  | 3 => ⟨S512x2048, .bf16⟩
  | 4 => ⟨S2048x512, .bf16⟩
  | 5 => ⟨S2x128, .bf16⟩
  | 6 => ⟨S128x3072, .bf16⟩
  | 7 => ⟨S512x2048, .bf16⟩
  | 8 => ⟨S2048x512, .bf16⟩
  | 9 => ⟨S512x2048, .f32⟩
  | 10 => ⟨S512x2048, .f32⟩
  | 11 => ⟨S512x2048, .f32⟩
  | 12 => ⟨S2048x512, .f32⟩
  | 13 => ⟨S2x128, .f32⟩
  | 14 => ⟨S128x3072, .f32⟩
  | 15 => ⟨S512x2048, .f32⟩
  | 16 => ⟨S2048x512, .f32⟩
  | 17 => ⟨S2x3072, .f32⟩
  | 18 => ⟨S2x512, .f32⟩
  | 19 => ⟨S2x512, .f32⟩
  | 20 => ⟨S2x512, .f32⟩
  | 21 => ⟨S2x512, .f32⟩
  | 22 => ⟨S2x512, .f32⟩
  | 23 => ⟨S2x512, .f32⟩
  | 24 => ⟨S_, .f32⟩
  | 25 => ⟨S2x256, .f32⟩
  | 26 => ⟨S2x256x1, .f32⟩
  | 27 => ⟨S_, .f32⟩
  | 28 => ⟨S2x256x1, .f32⟩
  | 29 => ⟨S2x256x1, .f32⟩
  | 30 => ⟨S2x256x512, .f32⟩
  | 31 => ⟨S2x256x512, .f32⟩
  | 32 => ⟨S2x256x512, .f32⟩
  | 33 => ⟨S2x256x512, .f32⟩
  | 34 => ⟨S2x256x512, .f32⟩
  | 35 => ⟨S_, .f32⟩
  | 36 => ⟨S2x256, .f32⟩
  | 37 => ⟨S2x256x1, .f32⟩
  | 38 => ⟨S_, .f32⟩
  | 39 => ⟨S2x256x1, .f32⟩
  | 40 => ⟨S2x256x1, .f32⟩
  | 41 => ⟨S2x256x512, .f32⟩
  | 42 => ⟨S2x256x512, .f32⟩
  | 43 => ⟨S_, .f32⟩
  | 44 => ⟨S2x256x1, .f32⟩
  | 45 => ⟨S2x256x1, .f32⟩
  | 46 => ⟨S2x256x1, .f32⟩
  | 47 => ⟨S2x256x512, .f32⟩
  | 48 => ⟨S2x256x512, .f32⟩
  | 49 => ⟨S2x1x512, .f32⟩
  | 50 => ⟨S_, .f32⟩
  | 51 => ⟨S2x1x512, .f32⟩
  | 52 => ⟨S2x1x512, .f32⟩
  | 53 => ⟨S2x256x512, .f32⟩
  | 54 => ⟨S2x256x512, .f32⟩
  | 55 => ⟨S2x1x512, .f32⟩
  | 56 => ⟨S2x256x512, .f32⟩
  | 57 => ⟨S2x256x512, .f32⟩
  | 58 => ⟨S2x256x2048, .f32⟩
  | 59 => ⟨S2x256x32x64, .f32⟩
  | 60 => ⟨S2x256x2048, .f32⟩
  | 61 => ⟨S2x256x32x64, .f32⟩
  | 62 => ⟨S2x256x2048, .f32⟩
  | 63 => ⟨S2x256x32x64, .f32⟩
  | 64 => ⟨S2x32x256x256, .f32⟩
  | 65 => ⟨S_, .f32⟩
  | 66 => ⟨S2x32x256x256, .f32⟩
  | 67 => ⟨S2x32x256x256, .f32⟩
  | 68 => ⟨S_, .f32⟩
  | 69 => ⟨S2x32x256, .f32⟩
  | 70 => ⟨S2x32x256x1, .f32⟩
  | 71 => ⟨S2x32x256x256, .f32⟩
  | 72 => ⟨S2x32x256x256, .f32⟩
  | 73 => ⟨S2x32x256x256, .f32⟩
  | 74 => ⟨S_, .f32⟩
  | 75 => ⟨S2x32x256, .f32⟩
  | 76 => ⟨S2x32x256x1, .f32⟩
  | 77 => ⟨S2x32x64x256, .f32⟩
  | 78 => ⟨S2x256x32x64, .f32⟩
  | 79 => ⟨S2x256x32x1, .f32⟩
  | 80 => ⟨S2x256x32x64, .f32⟩
  | 81 => ⟨S2x256x32x64, .f32⟩
  | 82 => ⟨S2x1x512, .f32⟩
  | 83 => ⟨S2x256x2048, .f32⟩
  | 84 => ⟨S2x256x512, .f32⟩
  | 85 => ⟨S2x256x512, .f32⟩
  | 86 => ⟨S2x256x512, .f32⟩
  | 87 => ⟨S2x256x512, .f32⟩
  | 88 => ⟨S_, .f32⟩
  | 89 => ⟨S2x256, .f32⟩
  | 90 => ⟨S2x256x1, .f32⟩
  | 91 => ⟨S_, .f32⟩
  | 92 => ⟨S2x256x1, .f32⟩
  | 93 => ⟨S2x256x1, .f32⟩
  | 94 => ⟨S2x256x512, .f32⟩
  | 95 => ⟨S2x256x512, .f32⟩
  | 96 => ⟨S2x256x512, .f32⟩
  | 97 => ⟨S2x256x512, .f32⟩
  | 98 => ⟨S2x256x512, .f32⟩
  | 99 => ⟨S_, .f32⟩
  | 100 => ⟨S2x256, .f32⟩
  | 101 => ⟨S2x256x1, .f32⟩
  | 102 => ⟨S_, .f32⟩
  | 103 => ⟨S2x256x1, .f32⟩
  | 104 => ⟨S2x256x1, .f32⟩
  | 105 => ⟨S2x256x512, .f32⟩
  | 106 => ⟨S2x256x512, .f32⟩
  | 107 => ⟨S_, .f32⟩
  | 108 => ⟨S2x256x1, .f32⟩
  | 109 => ⟨S2x256x1, .f32⟩
  | 110 => ⟨S2x256x1, .f32⟩
  | 111 => ⟨S2x256x512, .f32⟩
  | 112 => ⟨S2x256x512, .f32⟩
  | 113 => ⟨S2x1x512, .f32⟩
  | 114 => ⟨S_, .f32⟩
  | 115 => ⟨S2x1x512, .f32⟩
  | 116 => ⟨S2x1x512, .f32⟩
  | 117 => ⟨S2x256x512, .f32⟩
  | 118 => ⟨S2x256x512, .f32⟩
  | 119 => ⟨S2x1x512, .f32⟩
  | 120 => ⟨S2x256x512, .f32⟩
  | 121 => ⟨S2x256x512, .f32⟩
  | 122 => ⟨S2x256x2048, .f32⟩
  | 123 => ⟨S2x256x2048, .f32⟩
  | 124 => ⟨S2x256x2048, .f32⟩
  | 125 => ⟨S_, .f32⟩
  | 126 => ⟨S2x256x2048, .f32⟩
  | 127 => ⟨S2x256x2048, .f32⟩
  | _ => ⟨S2x256x512, .f32⟩

abbrev hbmTy0_1 (i : Nat) : BufTy := match i % 128 with
  | 0 => ⟨S2x256x2048, .f32⟩
  | 1 => ⟨S2x1x512, .f32⟩
  | 2 => ⟨S2x256x512, .f32⟩
  | 3 => ⟨S2x256x512, .f32⟩
  | 4 => ⟨S2x256x512, .f32⟩
  | 5 => ⟨S2x256x512, .f32⟩
  | 6 => ⟨S512x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_12 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_13 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_14 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩

abbrev nD : Nat := 1
abbrev τ : Topo := Topo.v7x

variable {F : FTy → Type} [FloatOps F]
-- ==== Proof.Proto.lean ====
/-
The protocol of the tensor-parallel DiT block: the devices' semaphore cells, the schedule of what is paid into each cell
and what comes with it, what each device owes at the start, and the order in which cells may be waited for.

Four exchange phases, each device to each of its seven peers: 0 and 2 send a chunk of a partial sum into the peer's
slot (reduce-scatter), 1 and 3 send the device's own reduced chunk to everybody (all-gather). Phase `p`'s copy from
device `c` to `peer c k` lands in slot `c` of the peer's buffer `slotRef p`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ViewIndex
public import Idealize.ShloMosaic.Lib.Transfers

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The devices around each device -/

set_option backward.proofsInPublic true in
/-- The device `k + 1` places after `c`. -/
def peer (c : Dev nD) (k : Fin 7) : Dev nD := ⟨(c.val + k.val + 1) % 8, Nat.mod_lt _ (by decide)⟩
set_option backward.proofsInPublic true in
/-- The device `k + 1` places before `c`. -/
def back (c : Dev nD) (k : Fin 7) : Dev nD := ⟨(c.val + 7 - k.val) % 8, Nat.mod_lt _ (by decide)⟩

theorem back_peer (c : Dev nD) (k : Fin 7) : back (peer c k) k = c := by revert c k; decide
theorem peer_back (c : Dev nD) (k : Fin 7) : peer (back c k) k = c := by revert c k; decide
theorem peer_ne (c : Dev nD) (k : Fin 7) : peer c k ≠ c := by revert c k; decide
theorem back_eq_peer (c : Dev nD) (k : Fin 7) : back c k = peer c k.rev := by revert c k; decide
theorem peer_inj (c : Dev nD) : Function.Injective (peer c) := by revert c; decide
theorem univ_dev (c : Dev nD) : (Finset.univ : Finset (Dev nD)) = insert c (Finset.univ.image (peer c)) := by revert c; decide
theorem not_mem_peers (c : Dev nD) : c ∉ Finset.univ.image (peer c) := by revert c; decide

/-- Going `k + 1` places on, as a rearrangement of (device, `k`). -/
def ring : Dev nD × Fin 7 ≃ Dev nD × Fin 7 where
  toFun x := (peer x.1 x.2, x.2)
  invFun x := (back x.1 x.2, x.2)
  left_inv x := by simp only [back_peer]
  right_inv x := by simp only [peer_back]

theorem bigSep_dev {M : Type} [URA M] (c : Dev nD) (Φ : Dev nD → sProp M) :
    bigSep Finset.univ Φ = iprop(Φ c ∗ bigSep Finset.univ fun k : Fin 7 => Φ (peer c k)) := by
  rw [univ_dev c, bigSep_insert (not_mem_peers c), bigSep_image_of_injOn ((peer_inj c).injOn)]; rfl

theorem bigSep_back {M : Type} [URA M] (c : Dev nD) (Φ : Dev nD → sProp M) :
    (bigSep Finset.univ fun k : Fin 7 => Φ (back c k)) = bigSep Finset.univ fun k : Fin 7 => Φ (peer c k) := by
  rw [bigSep_univ_equiv Fin.revPerm (fun k : Fin 7 => Φ (peer c k))]
  exact bigSep_congr fun k _ => by rw [back_eq_peer]; rfl

/-! ## The semaphores -/

set_option backward.proofsInPublic true in
/-- The send semaphore of phase `p`'s copy to the peer `k + 1` places on; -/
def sIx (p : Fin 4) (k : Fin 7) : DmaSem sig := ⟨10 + 32 * (p.val % 2) + 8 * (p.val / 2) + (k.val + 1), by show _ < 74; omega⟩
set_option backward.proofsInPublic true in
/-- the receive semaphore of the copy that comes from `k + 1` places before. -/
def rIx (p : Fin 4) (k : Fin 7) : DmaSem sig := ⟨26 + 32 * (p.val % 2) + 8 * (p.val / 2) + (k.val + 1), by show _ < 74; omega⟩

/-- Which copy's send (`false`) or receive (`true`) semaphore this is, if any. -/
def dec (s : DmaSem sig) : Option (Bool × Fin 4 × Fin 7) :=
  if h : 10 ≤ s.val ∧ (s.val - 10) % 8 ≠ 0 then
    some (decide ((s.val - 10) / 16 % 2 = 1), ⟨((s.val - 10) / 32 + 2 * ((s.val - 10) % 16 / 8)) % 4, Nat.mod_lt _ (by decide)⟩,
      ⟨((s.val - 10) % 8 - 1) % 7, Nat.mod_lt _ (by decide)⟩)
  else none

theorem dec_sIx (p : Fin 4) (k : Fin 7) : dec (sIx p k) = some (false, p, k) := by revert p k; decide
theorem dec_rIx (p : Fin 4) (k : Fin 7) : dec (rIx p k) = some (true, p, k) := by revert p k; decide

abbrev barS : Sem sig := (SemArray.scalar (sig.barrier 0 rfl) : Sems sig S_).sem
abbrev barCell (c : Dev nD) : GSem nD τ sig := ((c : Thread nD τ), .reg barS)
abbrev sendCell (c : Dev nD) (p : Fin 4) (k : Fin 7) : GSem nD τ sig := ((c : Thread nD τ), .dma (sIx p k))
abbrev recvCell (c : Dev nD) (p : Fin 4) (k : Fin 7) : GSem nD τ sig := ((c : Thread nD τ), .dma (rIx p k))

/-- A device's cells. -/
abbrev KI : Type := Option (Bool × Fin 4 × Fin 7)
def csem : KI → SemLoc sig
  | none => .reg barS
  | some (false, p, k) => .dma (sIx p k)
  | some (true, p, k) => .dma (rIx p k)
def kcell (x : Dev nD × KI) : GSem nD τ sig := ((x.1 : Thread nD τ), csem x.2)

/-! ## The buffers' parts -/

/-- Phase `p`'s landing buffer. -/
abbrev slotRef : Fin 4 → Ref sig .tc
  | 0 => cc0_scratch2 | 1 => cc0_scratch4 | 2 => cc0_scratch3 | 3 => cc0_scratch5

/-- Slot `e` of an eight-slot buffer; -/
def S8 (e : Dev nD) : Finset S8x64x512.Idx := Finset.univ.filter fun i => (i 0).val = e.val
/-- rows `64 e` to `64 e + 63` of a 512-row buffer. -/
def C8 (e : Dev nD) : Finset S512x512.Idx := Finset.univ.filter fun i => (i 0).val / 64 = e.val

def slotSet : (p : Fin 4) → Dev nD → Finset (slotRef p).ty.Idx
  | 0, e => S8 e | 1, e => S8 e | 2, e => S8 e | 3, e => S8 e

/-- The contents the protocol carries: each device's two partial sums, the two gathered buffers, and the chunk a device
    keeps of its second partial sum. -/
structure Vals (F : FTy → Type) where
  part1 : Dev nD → (cc0_scratch0 : Ref sig .tc).ty.Contents (Elt F)
  part2 : Dev nD → (cc0_scratch1 : Ref sig .tc).ty.Contents (Elt F)
  ag1 : (cc0_scratch4 : Ref sig .tc).ty.Contents (Elt F)
  ag2 : (cc0_scratch5 : Ref sig .tc).ty.Contents (Elt F)
  own2 : Dev nD → (cc0_scratch3 : Ref sig .tc).ty.Contents (Elt F)

/-- Row `64 d + r` of a 512-row buffer, from slot coordinates. -/
def rowIx (d : Dev nD) (i : S8x64x512.Idx) : S512x512.Idx := fun a => match a with
  | ⟨0, _⟩ => ⟨64 * d.val + (i 1).val, by have h1 : (i 1).val < 64 := (i 1).isLt; have h2 : d.val < 8 := d.isLt; show _ < 512; omega⟩
  | ⟨1, _⟩ => ⟨(i 2).val, (i 2).isLt⟩

/-- Slot coordinate 0 as a device. -/
def devOf (i : S8x64x512.Idx) : Dev nD := ⟨(i 0).val, (i 0).isLt⟩

/-- What phase `p`'s landing buffer of device `d` holds once everything has arrived. -/
def Vals.slot (V : Vals F) : (p : Fin 4) → Dev nD → (slotRef p).ty.Contents (Elt F)
  | 0, d => fun i => V.part1 (devOf i) (rowIx d i)
  | 1, _ => V.ag1
  | 2, d => fun i => if devOf i = d then V.own2 d i else V.part2 (devOf i) (rowIx d i)
  | 3, _ => V.ag2

/-- Slot `e` of device `c`'s phase-`p` buffer, holding `f`. -/
def slotPts (q : PosShare TreeShare) (p : Fin 4) (c e : Dev nD) (f : (slotRef p).ty.Contents (Elt F)) : sProp 𝕄 :=
  ((c : Thread nD τ).loc (slotRef p)) ↦[slotSet p e]{q} (f : Buf (Elt F) ((c : Thread nD τ).loc (slotRef p)))
def slotAny (p : Fin 4) (c e : Dev nD) : sProp 𝕄 := iprop(∃ f, slotPts fullShare p c e f)

/-- Chunk `e` of a 512-row buffer of device `c`, holding `f`. -/
def chunk1Pts (c e : Dev nD) (f : (cc0_scratch0 : Ref sig .tc).ty.Contents (Elt F)) : sProp 𝕄 :=
  ((c : Thread nD τ).loc cc0_scratch0) ↦[C8 e]{fullShare} (f : Buf (Elt F) ((c : Thread nD τ).loc cc0_scratch0))
def chunk2Pts (c e : Dev nD) (f : (cc0_scratch1 : Ref sig .tc).ty.Contents (Elt F)) : sProp 𝕄 :=
  ((c : Thread nD τ).loc cc0_scratch1) ↦[C8 e]{fullShare} (f : Buf (Elt F) ((c : Thread nD τ).loc cc0_scratch1))

/-! ## The schedule -/

/-- The share of its own slot that a device lends to its copy number `k` of an all-gather. -/
abbrev lent (k : Fin 7) : PosShare TreeShare := Transfers.shareTokN fullShare k.val

variable (V : Vals F)

/-- What a device takes back when its copy has left; -/
def sendPay (p : Fin 4) (c : Dev nD) (k : Fin 7) : sProp 𝕄 := match p with
  | 0 => chunk1Pts c (peer c k) (V.part1 c)
  | 1 => slotPts (lent k) 1 c c (V.slot 1 c)
  | 2 => chunk2Pts c (peer c k) (V.part2 c)
  | 3 => slotPts (lent k) 3 c c (V.slot 3 c)
/-- what it gets when its peer's copy has arrived; -/
def recvPay (p : Fin 4) (d : Dev nD) (k : Fin 7) : sProp 𝕄 := slotPts fullShare p d (back d k) (V.slot p d)
/-- what `peer`'s entry signal hands it: its four slots on that peer. -/
def give (c e : Dev nD) : sProp 𝕄 := bigSep Finset.univ fun p : Fin 4 => slotAny p c e

instance slotPts_storable (q p) (c e : Dev nD) (f) : BI.Storable (upEmb : UEmb _ 𝕄) (slotPts (F := F) q p c e f) := by unfold slotPts; infer_instance
instance slotAny_storable (p) (c e : Dev nD) : BI.Storable (upEmb : UEmb _ 𝕄) (slotAny (F := F) p c e) := by unfold slotAny; infer_instance
instance chunk1Pts_storable (c e : Dev nD) (f) : BI.Storable (upEmb : UEmb _ 𝕄) (chunk1Pts (F := F) c e f) := by unfold chunk1Pts; infer_instance
instance chunk2Pts_storable (c e : Dev nD) (f) : BI.Storable (upEmb : UEmb _ 𝕄) (chunk2Pts (F := F) c e f) := by unfold chunk2Pts; infer_instance
instance sendPay_storable (p) (c : Dev nD) (k) : BI.Storable (upEmb : UEmb _ 𝕄) (sendPay V p c k) := by
  unfold sendPay; split <;> infer_instance
instance recvPay_storable (p) (c : Dev nD) (k) : BI.Storable (upEmb : UEmb _ 𝕄) (recvPay V p c k) := by unfold recvPay; infer_instance
instance give_storable (c e : Dev nD) : BI.Storable (upEmb : UEmb _ 𝕄) (give (F := F) c e) := by unfold give; infer_instance

abbrev slotM0 : Memref sig .tc .vmem S8x64x512 .bf16 := Memref.whole cc0_scratch2
/-- A chunk's transfer credit. -/
def N : ℕ := ((slotM0.slice (Rect.unit (s := S8x64x512) ![0, 0, 0] S1x64x512.size (by decide)) (fun _ => rfl)).squeeze S64x512 squeezes_S1x64x512_S64x512).view.dmaCredit
theorem N_pos : 0 < N := View.dmaCredit_pos _ (by decide)

def payOf (c : Dev nD) (s : SemLoc sig) (k : Fin 7) : sProp 𝕄 := match s with
  | .reg _ => give (back c k) c
  | .dma s => match dec s with
    | some (true, p, k) => recvPay V p c k
    | some (false, p, k) => sendPay V p c k
    | none => iprop(emp)

instance payOf_storable (c : Dev nD) (s) (k) : BI.Storable (upEmb : UEmb _ 𝕄) (payOf V c s k) := by
  unfold payOf; (repeat' split) <;> infer_instance

def dutiesOf (s : SemLoc sig) : Finset (Fin 7) := match s with
  | .reg s => if s = barS then Finset.univ else ∅
  | .dma s => if (dec s).isSome then {0} else ∅

/-- One round: a barrier cell has a duty of one unit for each peer; a copy's cells one duty of the chunk's credit. -/
def sched : Rounds.Schedule (GSem nD τ sig) (Fin 7) 𝕄 where
  duties g r := if r = 0 ∧ g.1.2 = .tc then dutiesOf g.2 else ∅
  unitless _ := False
  amount g _ _ := match g.2 with | .reg _ => 1 | .dma _ => N
  payload g _ d := payOf V g.1.1 g.2 d
  amount_pos g _ _ _ := by
    obtain ⟨t, s⟩ := g
    cases s
    · exact Nat.one_pos
    · exact N_pos

instance sched_payload_storable (g : GSem nD τ sig) (r : ℕ) (d : Fin 7) : BI.Storable (upEmb : UEmb _ 𝕄) ((sched V).payload g r d) := by
  show BI.Storable upEmb (payOf V g.1.1 g.2 d); infer_instance

section Sched
variable (c : Dev nD) (p : Fin 4) (k : Fin 7)

theorem duties_tc (sm : SemLoc sig) : (sched V).duties ((c : Thread nD τ), sm) 0 = dutiesOf sm := by
  show (if (0 : ℕ) = 0 ∧ (c : Thread nD τ).2 = .tc then dutiesOf sm else ∅) = _; exact if_pos ⟨rfl, rfl⟩
theorem duties_bar : (sched V).duties (barCell c) 0 = Finset.univ := (duties_tc V c _).trans (by unfold dutiesOf; exact if_pos rfl)
theorem duties_send : (sched V).duties (sendCell c p k) 0 = {0} :=
  (duties_tc V c _).trans (by unfold dutiesOf; exact if_pos (by rw [dec_sIx]; rfl))
theorem duties_recv : (sched V).duties (recvCell c p k) 0 = {0} :=
  (duties_tc V c _).trans (by unfold dutiesOf; exact if_pos (by rw [dec_rIx]; rfl))
theorem duties_later (g : GSem nD τ sig) : ∀ r, 1 ≤ r → (sched V).duties g r = ∅ :=
  fun r hr => by unfold sched; exact if_neg fun h => by omega

theorem payload_bar (d : Fin 7) : (sched V).payload (barCell c) 0 d = give (back c d) c := rfl
theorem payload_send (d : Fin 7) : (sched V).payload (sendCell c p k) 0 d = sendPay V p c k := by
  show payOf V c (.dma (sIx p k)) d = _; unfold payOf; simp only [dec_sIx]
theorem payload_recv (d : Fin 7) : (sched V).payload (recvCell c p k) 0 d = recvPay V p c k := by
  show payOf V c (.dma (rIx p k)) d = _; unfold payOf; simp only [dec_rIx]

theorem expect_bar : (sched V).expect (barCell c) 0 = 7 := by
  unfold Schedule.expect Schedule.amountOf
  rw [duties_bar]; show (∑ _d : Fin 7, 1) = 7; rfl
theorem expect_send : (sched V).expect (sendCell c p k) 0 = N := by
  unfold Schedule.expect Schedule.amountOf; rw [duties_send, Finset.sum_singleton]; rfl
theorem expect_recv : (sched V).expect (recvCell c p k) 0 = N := by
  unfold Schedule.expect Schedule.amountOf; rw [duties_recv, Finset.sum_singleton]; rfl

theorem rest_bar : bigSep ((sched V).duties (barCell c) 0 \ ∅) (fun d => (sched V).payload (barCell c) 0 d)
    = bigSep Finset.univ fun k : Fin 7 => (give (F := F) (peer c k) c) := by
  rw [Finset.sdiff_empty, duties_bar]; exact bigSep_back c fun e => give e c
theorem rest_send : bigSep ((sched V).duties (sendCell c p k) 0 \ ∅) (fun d => (sched V).payload (sendCell c p k) 0 d) = sendPay V p c k := by
  rw [Finset.sdiff_empty, duties_send, bigSep_singleton, payload_send]
theorem rest_recv : bigSep ((sched V).duties (recvCell c p k) 0 \ ∅) (fun d => (sched V).payload (recvCell c p k) 0 d) = recvPay V p c k := by
  rw [Finset.sdiff_empty, duties_recv, bigSep_singleton, payload_recv]

end Sched

/-! ## What a device owes, and the levels -/

/-- The copies of phase `p` not yet started; -/
def Or (c : Dev nD) (p : Fin 4) (S : Finset (Fin 7)) : CellTallies nD τ sig Unit :=
  ∑ k ∈ Finset.univ \ S, tallyAt (recvCell (peer c k) p k) () N
/-- the entry signals not yet sent. -/
def Ob (c : Dev nD) (S : Finset (Fin 7)) : CellTallies nD τ sig Unit :=
  ∑ k ∈ Finset.univ \ S, tallyAt (barCell (peer c k)) () 1
def O₀ (c : Dev nD) : CellTallies nD τ sig Unit := Or c 3 ∅ + Or c 2 ∅ + Or c 1 ∅ + Or c 0 ∅ + Ob c ∅

theorem sdiff_insert_eq (S : Finset (Fin 7)) (k : Fin 7) (h : k ∉ S) : Finset.univ \ S = insert k (Finset.univ \ insert k S) := by
  ext x; simp only [Finset.mem_sdiff, Finset.mem_univ, true_and, Finset.mem_insert]
  by_cases hx : x = k
  · subst hx; simp [h]
  · simp [hx]

theorem Or_peel (c : Dev nD) (p : Fin 4) {S : Finset (Fin 7)} {k : Fin 7} (h : k ∉ S) :
    Or c p S = Or c p (insert k S) + tallyAt (recvCell (peer c k) p k) () N := by
  unfold Or; rw [sdiff_insert_eq S k h, Finset.sum_insert (by simp), add_comm]
theorem Ob_peel (c : Dev nD) {S : Finset (Fin 7)} {k : Fin 7} (h : k ∉ S) :
    Ob c S = Ob c (insert k S) + tallyAt (barCell (peer c k)) () 1 := by
  unfold Ob; rw [sdiff_insert_eq S k h, Finset.sum_insert (by simp), add_comm]
theorem Or_univ (c : Dev nD) (p : Fin 4) : Or c p Finset.univ = 0 := by unfold Or; rw [Finset.sdiff_self, Finset.sum_empty]
theorem Ob_univ (c : Dev nD) : Ob c Finset.univ = 0 := by unfold Ob; rw [Finset.sdiff_self, Finset.sum_empty]

def L (g : GSem nD τ sig) : Finset Unit := if g.1.2 = .tc then {()} else ∅
/-- Barrier cells at 1, receive cells of phase `p` at `2 + p`, everything else at 0. -/
def lv (g : GSem nD τ sig) (_ : Unit) : ℕ := match g.2 with
  | .reg _ => 1
  | .dma s => match dec s with
    | some (true, p, _) => 2 + p.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := rfl
theorem lv_recv (c : Dev nD) (p k u) : lv (recvCell c p k) u = 2 + p.val := by unfold lv; simp only [dec_rIx]

/-- Everything `O` owes lies above level `n`. -/
def Above (n : ℕ) (O : CellTallies nD τ sig Unit) : Prop := ∀ g u, 0 < O g u → () ∈ L g ∧ n < lv g u

theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.zero (n : ℕ) : Above n 0 := fun g u hg => absurd hg (by simp)
theorem Above.tally {n : ℕ} {c : Dev nD} {sm : SemLoc sig} {k : ℕ} (h : n < lv ((c : Thread nD τ), sm) ()) : Above n (tallyAt ((c : Thread nD τ), sm) () k) := fun g u hg => by
  rw [tallyAt_apply] at hg
  by_cases h' : g = ((c : Thread nD τ), sm) ∧ u = ()
  · rw [h'.1]; exact ⟨by rw [L_tc]; exact Finset.mem_singleton_self _, h⟩
  · rw [if_neg h'] at hg; exact absurd hg (Nat.lt_irrefl 0)
theorem Above.sum {ι : Type} {n : ℕ} (S : Finset ι) (f : ι → CellTallies nD τ sig Unit) (h : ∀ i ∈ S, Above n (f i)) : Above n (∑ i ∈ S, f i) := by
  classical
  induction S using Finset.induction_on with
  | empty => rw [Finset.sum_empty]; exact Above.zero n
  | insert i S hi ih =>
    rw [Finset.sum_insert hi]
    exact (h i (Finset.mem_insert_self _ _)).add (ih fun j hj => h j (Finset.mem_insert_of_mem hj))
theorem above_Or {n : ℕ} (c : Dev nD) (p : Fin 4) (S) (h : n < 2 + p.val) : Above n (Or c p S) :=
  Above.sum _ _ fun k _ => Above.tally (by rw [lv_recv]; exact h)
theorem above_Ob {n : ℕ} (c : Dev nD) (S) (h : n < 1) : Above n (Ob c S) :=
  Above.sum _ _ fun k _ => Above.tally (by rw [lv_bar]; exact h)

theorem mayWait_of (c : Dev nD) (sm : SemLoc sig) {n : ℕ} (hn : lv ((c : Thread nD τ), sm) () ≤ n) {O : CellTallies nD τ sig Unit} (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1)
    (fun p hp => by rw [Finset.mem_singleton.mp hp]; exact hn)
    (fun g u hg => (h g u hg).2)

theorem above_O₀ (c : Dev nD) : Above 0 (O₀ c) :=
  ((((above_Or c 3 _ (by decide)).add (above_Or c 2 _ (by decide))).add (above_Or c 1 _ (by decide))).add (above_Or c 0 _ (by decide))).add (above_Ob c _ (by decide))

end Cert.Dit

end
-- ==== Proof.Steps.lean ====
/-
One lemma for each kind of effect of the kernel's body, over the bundles of protocol state a device carries: its unsent
entry signals, its copies sent and unsent in each phase, its landing slots filled and unfilled, the chunks it still sends.
-/
module

public import proofs.«01_k».proof.Proof.Proto

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A device's body run from a program. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (V : Vals F) (K : Dev nD × KI → ℕ)

/-! ## What everybody knows -/

/-- Every cell's invariant, that every cell has reached round 0, and the levels. -/
def env : sProp 𝕄 :=
  iprop((bigSep Finset.univ fun x : Dev nD × KI => cellInv ER (sched V) (K x) (kcell x))
    ∗ (bigSep Finset.univ fun x : Dev nD × KI => reached ER (kcell x) 0) ∗ levAts L lv)

instance env_persistent : BI.Persistent (env V K) := by unfold env; infer_instance

theorem inv_at (x : Dev nD × KI) :
    (bigSep Finset.univ fun x : Dev nD × KI => (cellInv ER (sched V) (K x) (kcell x) : sProp 𝕄)) ⊢ cellInv ER (sched V) (K x) (kcell x) :=
  bigSep_elim (Finset.mem_univ x)
theorem reached_at (x : Dev nD × KI) :
    (bigSep Finset.univ fun x : Dev nD × KI => (reached ER (kcell x) 0 : sProp 𝕄)) ⊢ reached ER (kcell x) 0 :=
  bigSep_elim (Finset.mem_univ x)
theorem env_inv (x : Dev nD × KI) : env V K ⊢ cellInv ER (sched V) (K x) (kcell x) := by
  unfold env; iintro ⟨H, -, -⟩; iapply (inv_at V K x); iexact H
theorem env_reached (x : Dev nD × KI) : env V K ⊢ reached ER (kcell x) 0 := by
  unfold env; iintro ⟨-, H, -⟩; iapply (reached_at (F := F) x); iexact H
theorem env_lev : env V K ⊢ levAts L lv := by unfold env; iintro ⟨-, -, H⟩; iexact H

/-- A device owing `O`, whatever waits it has made. -/
def owesX (c : Dev nD) (O : CellTallies nD τ sig Unit) : sProp 𝕄 := iprop(∃ W, owes (c : Thread nD τ) O W)

/-! ## The bundles -/

/-- The entry signals: of those not in `S`, the token and the slots that go with it. -/
def BS (c : Dev nD) (S : Finset (Fin 7)) : sProp 𝕄 :=
  bigSep Finset.univ fun k => if k ∈ S then iprop(emp) else iprop(dutyTok ER (barCell (peer c k)) 0 k ∗ give c (peer c k))

/-- Phase `p`'s copies: of those in `S`, started, the credit of the send cell; of the others the two tokens and the slot
    the copy is to land in. -/
def SS (c : Dev nD) (p : Fin 4) (S : Finset (Fin 7)) : sProp 𝕄 :=
  bigSep Finset.univ fun k => if k ∈ S then iprop(cred (tallyAt (sendCell c p k) () N))
    else iprop(dutyTok ER (sendCell c p k) 0 0 ∗ dutyTok ER (recvCell (peer c k) p k) 0 0 ∗ slotAny p (peer c k) c)

/-- Phase `p`'s arrivals: of those in `S`, waited for, the filled slot; of the others the credit. -/
def RR (c : Dev nD) (p : Fin 4) (S : Finset (Fin 7)) : sProp 𝕄 :=
  bigSep Finset.univ fun k => if k ∈ S then iprop(atPos ER (recvCell c p k) 1 ∅ 0 ∗ recvPay V p c k)
    else iprop(atPos ER (recvCell c p k) 0 ∅ 0 ∗ cred (tallyAt (recvCell c p k) () N))

/-- Phase `p`'s departures: of those in `S`, waited for, what the copy was made from. -/
def SW (c : Dev nD) (p : Fin 4) (S : Finset (Fin 7)) : sProp 𝕄 :=
  bigSep Finset.univ fun k => if k ∈ S then iprop(atPos ER (sendCell c p k) 1 ∅ 0 ∗ sendPay V p c k)
    else iprop(atPos ER (sendCell c p k) 0 ∅ 0 ∗ cred (tallyAt (sendCell c p k) () N))

theorem ite_insert {A : Type} {S : Finset (Fin 7)} {k : Fin 7} (a b : Fin 7 → A) : ∀ j, j ≠ k →
    (if j ∈ insert k S then a j else b j) = if j ∈ S then a j else b j := fun j hj => by
  by_cases h : j ∈ S
  · rw [if_pos h, if_pos (Finset.mem_insert_of_mem h)]
  · rw [if_neg h, if_neg (fun h' => h (Finset.mem_of_mem_insert_of_ne h' hj))]

/-- Entry `k` of a bundle taken out, to be put back in its other state. -/
theorem flip {S : Finset (Fin 7)} {k : Fin 7} (hk : k ∉ S) (a b : Fin 7 → sProp 𝕄) :
    (bigSep Finset.univ fun j => if j ∈ S then a j else b j)
      ⊢ iprop(b k ∗ (a k -∗ bigSep Finset.univ fun j => if j ∈ insert k S then a j else b j)) := by
  refine (bigSep_univ_update k (Ψ := fun j => if j ∈ insert k S then a j else b j) (ite_insert a b)).trans ?_
  rw [if_neg hk, if_pos (Finset.mem_insert_self k S)]

/-- Entry `k` borrowed. -/
theorem borrow {S : Finset (Fin 7)} {k : Fin 7} (hk : k ∈ S) (a b : Fin 7 → sProp 𝕄) :
    (bigSep Finset.univ fun j => if j ∈ S then a j else b j)
      ⊢ iprop(a k ∗ (a k -∗ bigSep Finset.univ fun j => if j ∈ S then a j else b j)) := by
  refine (bigSep_univ_update k (Ψ := fun j => if j ∈ S then a j else b j) (fun _ _ => rfl)).trans ?_
  rw [if_pos hk]

/-! ## Signals and waits -/

section Effects

theorem step_signal {α : Type} {Q : α → sProp 𝕄} {c n : Dev nD} (k : Fin 7) (hn : n = peer c k) {S : Finset (Fin 7)} (hk : k ∉ S) (X : CellTallies nD τ sig Unit)
    {kk : PUnit → Prog (TpuEff nD τ sig (Elt F) Λ₀ .tc) α} :
    iprop(env V K ∗ BS c S ∗ owesX c (X + Ob c S))
      ⊢ iprop(((BS c (insert k S) ∗ owesX c (X + Ob c (insert k S))) -∗ Wp c (kk ⟨⟩) Q)
          -∗ Wp c (.op (.semSignal (n : Thread nD τ) barS 1) kk) Q) := by
  subst hn
  unfold BS owesX
  iintro ⟨#He, HB, ⟨%W, HO⟩⟩ Hk
  ihave HB := (flip hk _ _) $$ HB
  icases HB with ⟨⟨Ht, Hg⟩, HB⟩
  iapply (Rounds.wp_signal 𝒱₀ ER (sched V) (c : Thread nD τ) none (dst := (peer c k : Thread nD τ)) (κ := K (peer c k, none))
      (d := k) (by rw [duties_bar]; exact Finset.mem_univ _) rfl () (O₀ := X + Ob c S) (X + Ob c (insert k S)) (by rw [Ob_peel c hk, add_assoc]; rfl)) $$ [HO Ht Hg]
  · isplitr; · iapply (env_inv V K (peer c k, none)); iexact He
    isplitl [HO]; · iexact HO
    isplitl [Ht]; · iexact Ht
    isplitl [Hg]; · rw [payload_bar, back_peer]; iexact Hg
    iapply (env_reached V K (peer c k, none)); iexact He
  iintro HO
  iapply Hk
  isplitl [HB]
  · iapply HB; iempintro
  iexists W; iexact HO

theorem step_barwait {α : Type} {Q : α → sProp 𝕄} {c : Dev nD} {O : CellTallies nD τ sig Unit} (hO : Above 1 O) {kk : PUnit → Prog (TpuEff nD τ sig (Elt F) Λ₀ .tc) α} :
    iprop(env V K ∗ atPos ER (barCell c) 0 ∅ 0 ∗ cred (tallyAt (barCell c) () 7) ∗ owesX c O)
      ⊢ iprop(((owesX c O ∗ atPos ER (barCell c) 1 ∅ 0 ∗ bigSep Finset.univ fun k : Fin 7 => give (F := F) (peer c k) c) -∗ Wp c (kk ⟨⟩) Q)
          -∗ Wp c (.op (.semWait barS 7) kk) Q) := by
  unfold owesX
  iintro ⟨#He, Hat, Hc, ⟨%W, HO⟩⟩ Hk
  iapply (Rounds.wp_wait_rest_token 𝒱₀ ER (sched V) (c : Thread nD τ) none (κ := K (c, none))
      (wpE_semWait_eq 𝒱₀ (c : Thread nD τ) none Set.univ) (Set.mem_univ _) () (O := O) (W := W) (R := 0) (m := 0) (T := ∅)
      (by rw [expect_bar])) $$ [Hat Hc HO]
  · isplitr; · iapply (env_inv V K (c, none)); iexact He
    isplitl [Hc]; · iexact Hc
    isplitl [HO]; · iexact HO
    isplitr; · iapply (mayWait_of c (.reg barS) (n := 1) (by rw [lv_bar]) hO); iapply (env_lev V K); iexact He
    iexact Hat
  iintro ⟨HO, Hat, -, Hpay⟩
  ihave Hp := (Entails.of_eq (rest_bar V c)) $$ Hpay
  iapply Hk
  isplitl [HO]; · iexists _; iexact HO
  isplitl [Hat]; · iexact Hat
  iexact Hp

theorem step_recv {α : Type} {Q : α → sProp 𝕄} {c : Dev nD} (p : Fin 4) (k : Fin 7) {S : Finset (Fin 7)} (hk : k ∉ S) {sm : DmaSem sig} (hs : sm = rIx p k)
    {O : CellTallies nD τ sig Unit} (hO : Above (2 + p.val) O)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {kk : PUnit → Prog (TpuEff nD τ sig (Elt F) Λ₀ .tc) α} :
    iprop(env V K ∗ RR V c p S ∗ owesX c O)
      ⊢ iprop(((RR V c p (insert k S) ∗ owesX c O) -∗ Wp c (kk ⟨⟩) Q) -∗ Wp c (.op (.waitDma2 sm src dst hsrc hdst) kk) Q) := by
  subst hs
  unfold RR owesX
  iintro ⟨#He, HR, ⟨%W, HO⟩⟩ Hk
  ihave HR := (flip hk _ _) $$ HR
  icases HR with ⟨⟨Hat, Hc⟩, HR⟩
  iapply (Rounds.wp_wait_rest_token 𝒱₀ ER (sched V) (c : Thread nD τ) none (κ := K (c, some (true, p, k)))
      (wpE_waitDma2_eq 𝒱₀ (c : Thread nD τ) none Set.univ) (Set.mem_univ _) () (O := O) (W := W) (R := 0) (m := 0) (T := ∅)
      (by rw [Nat.zero_add, expect_recv, hN])) $$ [Hat Hc HO]
  · isplitr; · iapply (env_inv V K (c, some (true, p, k))); iexact He
    isplitl [Hc]; · rw [hN]; iexact Hc
    isplitl [HO]; · iexact HO
    isplitr; · iapply (mayWait_of c (.dma (rIx p k)) (n := 2 + p.val) (by rw [lv_recv]) hO); iapply (env_lev V K); iexact He
    iexact Hat
  iintro ⟨HO, Hat, -, Hpay⟩
  ihave Hp := (Entails.of_eq (rest_recv V c p k)) $$ Hpay
  iapply Hk
  isplitl [HR Hat Hp]
  · iapply HR
    isplitl [Hat]; · iexact Hat
    iexact Hp
  iexists _; iexact HO

theorem step_swait {α : Type} {Q : α → sProp 𝕄} {c : Dev nD} (p : Fin 4) (k : Fin 7) {S : Finset (Fin 7)} (hk : k ∉ S) {sm : DmaSem sig} (hs : sm = sIx p k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {kk : PUnit → Prog (TpuEff nD τ sig (Elt F) Λ₀ .tc) α} :
    iprop(env V K ∗ SW V c p S ∗ owesX c 0)
      ⊢ iprop(((SW V c p (insert k S) ∗ owesX c 0) -∗ Wp c (kk ⟨⟩) Q) -∗ Wp c (.op (.waitDma2 sm src dst hsrc hdst) kk) Q) := by
  subst hs
  unfold SW owesX
  iintro ⟨#He, HR, ⟨%W, HO⟩⟩ Hk
  ihave HR := (flip hk _ _) $$ HR
  icases HR with ⟨⟨Hat, Hc⟩, HR⟩
  iapply (Rounds.wp_wait_rest_token 𝒱₀ ER (sched V) (c : Thread nD τ) none (κ := K (c, some (false, p, k)))
      (wpE_waitDma2_eq 𝒱₀ (c : Thread nD τ) none Set.univ) (Set.mem_univ _) () (O := 0) (W := W) (R := 0) (m := 0) (T := ∅)
      (by rw [Nat.zero_add, expect_send, hN])) $$ [Hat Hc HO]
  · isplitr; · iapply (env_inv V K (c, some (false, p, k))); iexact He
    isplitl [Hc]; · rw [hN]; iexact Hc
    isplitl [HO]; · iexact HO
    isplitr; · rw [MayWait_zero]; iempintro
    iexact Hat
  iintro ⟨HO, Hat, -, Hpay⟩
  ihave Hp := (Entails.of_eq (rest_send V c p k)) $$ Hpay
  iapply Hk
  isplitl [HR Hat Hp]
  · iapply HR
    isplitl [Hat]; · iexact Hat
    iexact Hp
  iexists _; iexact HO

/-! ## Copies -/

/-- A copy to `peer c k`, from views whose elements are what the protocol says. -/
theorem step_send {α : Type} {Q : α → sProp 𝕄} {c n : Dev nD} (p : Fin 4) (k : Fin 7) (hn : n = peer c k) {S : Finset (Fin 7)} (hk : k ∉ S) (X : CellTallies nD τ sig Unit)
    {sS sR : DmaSem sig} (hsS : sS = sIx p k) (hsR : sR = rIx p k)
    {src : Memref sig .tc .vmem S64x512 .bf16} {dst : Memref sig .tc .vmem S64x512 .bf16}
    {q : PosShare TreeShare} {fs : Buf (Elt F) (src.view.loc (c : Thread nD τ))}
    (hN : dst.view.dmaCredit = N)
    (hpay₁ : (src.view.loc (c : Thread nD τ) ↦[src.view.set]{q} fs) ⊢ sendPay V p c k)
    (hdst₀ : slotAny (F := F) p (peer c k) c ⊢ iprop(∃ fd : Buf (Elt F) (dst.view.loc (peer c k : Thread nD τ)), dst.view.loc (peer c k : Thread nD τ) ↦[dst.view.set]{fullShare} fd))
    (hpay₂ : ∀ fd : Buf (Elt F) (dst.view.loc (peer c k : Thread nD τ)),
      (dst.view.loc (peer c k : Thread nD τ) ↦[dst.view.set]{fullShare} (dst.view.write (Elt F) fd (src.view.read (Elt F) fs) Finset.univ) : sProp 𝕄) ⊢ recvPay V p (peer c k) k)
    {hsc : (dst : Memref sig (Dev.tc n : Thread nD τ).2.kind .vmem S64x512 .bf16).view.ref.isScScratch = false}
    {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} :
    iprop(env V K ∗ (src.view.loc (c : Thread nD τ) ↦[src.view.set]{q} fs) ∗ SS c p S ∗ owesX c (X + Or c p S))
      ⊢ iprop(((SS c p (insert k S) ∗ owesX c (X + Or c p (insert k S))) -∗ Wp c (kk ⟨⟩) Q)
          -∗ Wp c (.op (.enqueueDma src (.remote (Dev.tc n : Thread nD τ) dst (.dma sS) hsc) (.dma sR) hsrc hdst hsem) kk) Q) := by
  subst hn; subst hsS; subst hsR
  unfold SS owesX
  iintro ⟨#He, Hsrc, HS, ⟨%W, HO⟩⟩ Hk
  ihave HS := (flip hk _ _) $$ HS
  icases HS with ⟨⟨Ht, Ht', Hd⟩, HS⟩
  ihave Hd := hdst₀ $$ Hd
  icases Hd with ⟨%fd, Hd⟩
  iapply (Rounds.wp_send_pointsTo 𝒱₀ ER (sched V) (c : Thread nD τ) none (κ₁ := K (c, some (false, p, k))) (κ₂ := K (peer c k, some (true, p, k)))
    (r₁ := 0) (r₂ := 0) (d₁ := 0) (d₂ := 0) (fd := fd)
    (by rw [duties_send]; exact Finset.mem_singleton_self _) (by rw [duties_recv]; exact Finset.mem_singleton_self _)
    () () N (show dst.view.amount (.dma (rIx p k)) = N from hN) rfl rfl (O₀ := X + Or c p S) (X + Or c p (insert k S)) (by rw [Or_peel c p hk, add_assoc]) (W := W)
    (by rw [payload_send]; exact hpay₁)
    (by rw [payload_recv]; exact hpay₂ fd)) $$ [Hsrc Hd HO Ht Ht']
  · isplitr; · iapply (env_inv V K (c, some (false, p, k))); iexact He
    isplitr; · iapply (env_inv V K (peer c k, some (true, p, k))); iexact He
    isplitl [Hsrc]; · iexact Hsrc
    isplitl [Hd]; · iexact Hd
    isplitl [HO]; · iexact HO
    isplitl [Ht]; · iexact Ht
    isplitr; · iapply (env_reached V K (c, some (false, p, k))); iexact He
    isplitl [Ht']; · iexact Ht'
    iapply (env_reached V K (peer c k, some (true, p, k))); iexact He
  iintro ⟨Hc, HO⟩
  iapply Hk
  isplitl [HS Hc]
  · iapply HS; iexact Hc
  iexists W; iexact HO

end Effects

end Cert.Dit

end
-- ==== Proof.Mem.lean ====
/-
Loads, stores and the four phases' copies over the buffers' parts: slots of the eight-slot buffers, 64-row chunks of the
512-row ones, and whole buffers known on the part written so far.
-/
module

public import proofs.«01_k».proof.Proof.Steps
public import Idealize.ShloMosaic.Lib.Pointwise.Index

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F) (K : Dev nD × KI → ℕ)

/-! ## Parts of contents -/

section Parts
variable {A : Type}

def slotv (f : S8x64x512.Idx → A) (e : Dev nD) : S1x64x512.Idx → A := fun j => f (ix3 (⟨e.val, e.isLt⟩ : Fin 8) (j 1) (j 2))
def row64 (e : Dev nD) (a : Fin 64) : Fin 512 := ⟨64 * e.val + a.val, by have : e.val < 8 := e.isLt; omega⟩
def rows64 (f : S512x512.Idx → A) (e : Dev nD) : S64x512.Idx → A := fun j => f (ix2 (row64 e (j 0)) (j 1))
def modrow (f : S4x8x512.Idx → A) (m : Fin 4) (e : Dev nD) : S1x1x512.Idx → A := fun j => f (ix3 m (⟨e.val, e.isLt⟩ : Fin 8) (j 2))
def xblk (f : S2x256x512.Idx → A) (b : Fin 2) : S1x256x512.Idx → A := fun j => f (ix3 b (j 1) (j 2))

theorem slot_emb {off : Fin 3 → ℕ} {e : Dev nD} (h : off = ![e.val, 0, 0]) {inb : ∀ a, off a + S1x64x512.size a ≤ S8x64x512.size a} (j : S1x64x512.Idx) :
    (Rect.unit (s := S8x64x512) off S1x64x512.size inb).emb j = ix3 (⟨e.val, e.isLt⟩ : Fin 8) (j 1) (j 2) := by
  subst h
  have h0 : (j 0).val < 1 := (j 0).isLt
  refine Shape.idx3_ext ?_ ?_ ?_
  · rw [Rect.emb_apply]; show e.val + 1 * (j 0).val = e.val; omega
  · rw [Rect.emb_apply]; show 0 + 1 * (j 1).val = (j 1).val; omega
  · rw [Rect.emb_apply]; show 0 + 1 * (j 2).val = (j 2).val; omega
theorem rows_emb {off : Fin 2 → ℕ} {e : Dev nD} (h : off = ![64 * e.val, 0]) {inb : ∀ a, off a + S64x512.size a ≤ S512x512.size a} (j : S64x512.Idx) :
    (Rect.unit (s := S512x512) off S64x512.size inb).emb j = ix2 (row64 e (j 0)) (j 1) := by
  subst h
  refine funext fun a => Fin.ext ?_
  match a with
  | ⟨0, _⟩ => rw [Rect.emb_apply]; show 64 * e.val + 1 * (j 0).val = 64 * e.val + (j 0).val; omega
  | ⟨1, _⟩ => rw [Rect.emb_apply]; show 0 + 1 * (j 1).val = (j 1).val; omega
theorem half_emb {off : Fin 2 → ℕ} {b : Fin 2} (h : off = ![256 * b.val, 0]) {inb : ∀ a, off a + S256x512.size a ≤ S512x512.size a} (j : S256x512.Idx) :
    (Rect.unit (s := S512x512) off S256x512.size inb).emb j
      = ix2 (⟨256 * b.val + (j 0).val, by have h0 : (j 0).val < 256 := (j 0).isLt; omega⟩ : Fin 512) (j 1) := by
  subst h
  refine funext fun a => Fin.ext ?_
  match a with
  | ⟨0, _⟩ => rw [Rect.emb_apply]; show 256 * b.val + 1 * (j 0).val = 256 * b.val + (j 0).val; omega
  | ⟨1, _⟩ => rw [Rect.emb_apply]; show 0 + 1 * (j 1).val = (j 1).val; omega
theorem mod_emb {off : Fin 3 → ℕ} {m : Fin 4} {e : Dev nD} (h : off = ![m.val, e.val, 0]) {inb : ∀ a, off a + S1x1x512.size a ≤ S4x8x512.size a} (j : S1x1x512.Idx) :
    (Rect.unit (s := S4x8x512) off S1x1x512.size inb).emb j = ix3 m (⟨e.val, e.isLt⟩ : Fin 8) (j 2) := by
  subst h
  have h0 : (j 0).val < 1 := (j 0).isLt
  have h1 : (j 1).val < 1 := (j 1).isLt
  refine Shape.idx3_ext ?_ ?_ ?_
  · rw [Rect.emb_apply]; show m.val + 1 * (j 0).val = m.val; omega
  · rw [Rect.emb_apply]; show e.val + 1 * (j 1).val = e.val; omega
  · rw [Rect.emb_apply]; show 0 + 1 * (j 2).val = (j 2).val; omega
theorem modw_emb {off : Fin 3 → ℕ} {m : Fin 4} (h : off = ![m.val, 0, 0]) {inb : ∀ a, off a + S1x8x512.size a ≤ S4x8x512.size a} (j : S1x8x512.Idx) :
    (Rect.unit (s := S4x8x512) off S1x8x512.size inb).emb j = ix3 m (j 1) (j 2) := by
  subst h
  have h0 : (j 0).val < 1 := (j 0).isLt
  refine Shape.idx3_ext ?_ ?_ ?_
  · rw [Rect.emb_apply]; show m.val + 1 * (j 0).val = m.val; omega
  · rw [Rect.emb_apply]; show 0 + 1 * (j 1).val = (j 1).val; omega
  · rw [Rect.emb_apply]; show 0 + 1 * (j 2).val = (j 2).val; omega
theorem xblk_emb {off : Fin 3 → ℕ} {b : Fin 2} (h : off = ![b.val, 0, 0]) {inb : ∀ a, off a + S1x256x512.size a ≤ S2x256x512.size a} (j : S1x256x512.Idx) :
    (Rect.unit (s := S2x256x512) off S1x256x512.size inb).emb j = ix3 b (j 1) (j 2) := by
  subst h
  have h0 : (j 0).val < 1 := (j 0).isLt
  refine Shape.idx3_ext ?_ ?_ ?_
  · rw [Rect.emb_apply]; show b.val + 1 * (j 0).val = b.val; omega
  · rw [Rect.emb_apply]; show 0 + 1 * (j 1).val = (j 1).val; omega
  · rw [Rect.emb_apply]; show 0 + 1 * (j 2).val = (j 2).val; omega

theorem slot_set {off : Fin 3 → ℕ} {e : Dev nD} (h : off = ![e.val, 0, 0]) {inb : ∀ a, off a + S1x64x512.size a ≤ S8x64x512.size a} :
    (Rect.unit (s := S8x64x512) off S1x64x512.size inb).set = S8 e := by
  subst h; ext i
  have h1 : (i 1).val < 64 := (i 1).isLt
  have h2 : (i 2).val < 512 := (i 2).isLt
  rw [Rect.mem_set_unit]
  unfold S8
  rw [Finset.mem_filter]
  constructor
  · intro h'
    have := h' 0
    have h3 : e.val ≤ (i 0).val ∧ (i 0).val < e.val + 1 := this
    exact ⟨Finset.mem_univ _, by omega⟩
  · rintro ⟨-, h'⟩ a
    match a with
    | ⟨0, _⟩ => show e.val ≤ (i 0).val ∧ (i 0).val < e.val + 1; omega
    | ⟨1, _⟩ => show 0 ≤ (i 1).val ∧ (i 1).val < 0 + 64; omega
    | ⟨2, _⟩ => show 0 ≤ (i 2).val ∧ (i 2).val < 0 + 512; omega
theorem rows_set {off : Fin 2 → ℕ} {e : Dev nD} (h : off = ![64 * e.val, 0]) {inb : ∀ a, off a + S64x512.size a ≤ S512x512.size a} :
    (Rect.unit (s := S512x512) off S64x512.size inb).set = C8 e := by
  subst h; ext i
  have h2 : (i 1).val < 512 := (i 1).isLt
  rw [Rect.mem_set_unit]
  unfold C8
  rw [Finset.mem_filter]
  constructor
  · intro h'
    have h3 : 64 * e.val ≤ (i 0).val ∧ (i 0).val < 64 * e.val + 64 := h' 0
    exact ⟨Finset.mem_univ _, by omega⟩
  · rintro ⟨-, h'⟩ a
    match a with
    | ⟨0, _⟩ => show 64 * e.val ≤ (i 0).val ∧ (i 0).val < 64 * e.val + 64; omega
    | ⟨1, _⟩ => show 0 ≤ (i 1).val ∧ (i 1).val < 0 + 512; omega

/-- Half `b` of a 512-row buffer. -/
def H2 (b : Fin 2) : Finset S512x512.Idx := Finset.univ.filter fun i => (i 0).val / 256 = b.val
theorem half_set {off : Fin 2 → ℕ} {b : Fin 2} (h : off = ![256 * b.val, 0]) {inb : ∀ a, off a + S256x512.size a ≤ S512x512.size a} :
    (Rect.unit (s := S512x512) off S256x512.size inb).set = H2 b := by
  subst h; ext i
  have h2 : (i 1).val < 512 := (i 1).isLt
  rw [Rect.mem_set_unit]
  unfold H2
  rw [Finset.mem_filter]
  constructor
  · intro h'
    have h3 : 256 * b.val ≤ (i 0).val ∧ (i 0).val < 256 * b.val + 256 := h' 0
    exact ⟨Finset.mem_univ _, by omega⟩
  · rintro ⟨-, h'⟩ a
    match a with
    | ⟨0, _⟩ => show 256 * b.val ≤ (i 0).val ∧ (i 0).val < 256 * b.val + 256; omega
    | ⟨1, _⟩ => show 0 ≤ (i 1).val ∧ (i 1).val < 0 + 512; omega

theorem S8_disj (e e' : Dev nD) (h : e ≠ e') : Disjoint (S8 e) (S8 e') := by
  unfold S8; rw [Finset.disjoint_filter]; intro i _ h1 h2; exact h (Fin.ext (by omega))
theorem C8_disj (e e' : Dev nD) (h : e ≠ e') : Disjoint (C8 e) (C8 e') := by
  unfold C8; rw [Finset.disjoint_filter]; intro i _ h1 h2; exact h (Fin.ext (by omega))
theorem S8_union : (Finset.univ : Finset (Dev nD)).biUnion S8 = Finset.univ := by
  ext i; simp only [Finset.mem_biUnion, Finset.mem_univ, true_and, iff_true]
  exact ⟨⟨(i 0).val, (i 0).isLt⟩, by unfold S8; simp⟩
theorem C8_union : (Finset.univ : Finset (Dev nD)).biUnion C8 = Finset.univ := by
  ext i; simp only [Finset.mem_biUnion, Finset.mem_univ, true_and, iff_true]
  have h : (i 0).val < 512 := (i 0).isLt
  exact ⟨⟨(i 0).val / 64, by show _ < 8; omega⟩, by unfold C8; simp⟩
theorem H2_union : H2 0 ∪ H2 1 = Finset.univ := by
  ext i; have h : (i 0).val < 512 := (i 0).isLt
  unfold H2; simp only [Finset.mem_union, Finset.mem_filter, Finset.mem_univ, true_and, iff_true]
  show (i 0).val / 256 = 0 ∨ (i 0).val / 256 = 1; omega
theorem H2_disj : Disjoint (H2 0) (H2 1) := by
  unfold H2; rw [Finset.disjoint_filter]; intro i _ (h1 : _ = 0) (h2 : _ = 1); omega
theorem H2_eq (b : Fin 2) : H2 b = (Finset.univ.filter fun e : Dev nD => e.val / 4 = b.val).biUnion C8 := by
  ext i; unfold H2 C8
  simp only [Finset.mem_biUnion, Finset.mem_filter, Finset.mem_univ, true_and]
  constructor
  · intro h
    have h' : (i 0).val < 512 := (i 0).isLt
    exact ⟨⟨(i 0).val / 64, by show _ < 8; omega⟩, by show (i 0).val / 64 / 4 = b.val; omega, rfl⟩
  · rintro ⟨e, h1, h2⟩; omega

end Parts

/-! ## Loads and stores of a buffer's part -/

/-- A buffer of a core's own memory. -/
abbrev cref {cs : CoreSpace} (ix : Fin (sig.nNear .tc (.core cs))) (hn : sig.names .tc (.core cs) ix = true) : Ref sig .tc := ⟨.core cs, ix, hn⟩

theorem ldS {α : Type} {Q : α → sProp 𝕄} {c : Dev nD} {cs : CoreSpace} {ix : Fin (sig.nNear .tc (.core cs))} {hn : sig.names .tc (.core cs) ix = true} {S : Finset (cref ix hn).ty.Idx} {q : PosShare TreeShare}
    {f : (cref ix hn).ty.Contents (Elt F)} {r : Rect (cref ix hn).ty.shape} (v : r.shape.Idx → Elt F (cref ix hn).ty.elt) (hS : r.set ⊆ S) (hv : ∀ j, f (r.emb j) = v j)
    {hl : (Memref.whole (cref ix hn) : Memref sig .tc _ _ _).view.LoadsAt r.toLoadRect} {k : (r.shape.Idx → Elt F (cref ix hn).ty.elt) → Prog (TpuEff nD τ sig (Elt F) Λ₀ .tc) α} :
    (((c : Thread nD τ).loc (cref ix hn)) ↦[S]{q} (f : Buf (Elt F) ((c : Thread nD τ).loc (cref ix hn))) : sProp 𝕄)
      ⊢ iprop(((((c : Thread nD τ).loc (cref ix hn)) ↦[S]{q} (f : Buf (Elt F) ((c : Thread nD τ).loc (cref ix hn)))) -∗ Wp c (k v) Q)
          -∗ Wp c (.op (.load (Memref.whole (cref ix hn)) r.toLoadRect hl) k) Q) := by
  have e : (Memref.whole (cref ix hn) : Memref sig .tc _ _ _).view.readAt (Elt F) r.toLoadRect f = v := funext fun j => (rfl : _ = f (r.emb j)).trans (hv j)
  rw [← e]
  exact wp_load 𝒱₀ (c : Thread nD τ) none Set.univ (m := Memref.whole (cref ix hn)) (r := r.toLoadRect) (S := S) (f := f)
    (by
      intro i hi
      obtain ⟨x, hx, rfl⟩ := Finset.mem_map.mp hi
      exact hS hx)

theorem write_at {cs : CoreSpace} {ix : Fin (sig.nNear .tc (.core cs))} {hn : sig.names .tc (.core cs) ix = true} (f : (cref ix hn).ty.Contents (Elt F)) (r : Rect (cref ix hn).ty.shape) (w : r.shape.Idx → Elt F (cref ix hn).ty.elt) (j : r.shape.Idx) :
    ((Memref.whole (cref ix hn) : Memref sig .tc _ _ _).access r).write (Elt F) f w Finset.univ (r.emb j) = w j :=
  View.write_emb_of_mem (v := (Memref.whole (cref ix hn) : Memref sig .tc _ _ _).access r) f w (Finset.mem_univ j)

theorem access_set {cs : CoreSpace} {ix : Fin (sig.nNear .tc (.core cs))} {hn : sig.names .tc (.core cs) ix = true} (r : Rect (cref ix hn).ty.shape) : ((Memref.whole (cref ix hn) : Memref sig .tc _ _ _).access r).setOn Finset.univ = r.set :=
  View.set_slice_whole (cref ix hn) r

theorem write_off {cs : CoreSpace} {ix : Fin (sig.nNear .tc (.core cs))} {hn : sig.names .tc (.core cs) ix = true} (f : (cref ix hn).ty.Contents (Elt F)) (r : Rect (cref ix hn).ty.shape) (w : r.shape.Idx → Elt F (cref ix hn).ty.elt) {i : (cref ix hn).ty.Idx} (h : i ∉ r.set) :
    ((Memref.whole (cref ix hn) : Memref sig .tc _ _ _).access r).write (Elt F) f w Finset.univ i = f i :=
  View.write_of_not_mem _ _ _ (by rw [access_set]; exact h)

theorem mem_rect {s : Shape} {r : Rect s} {i : s.Idx} (h : i ∈ r.set) : ∃ j, r.emb j = i := by
  rw [← Rect.map_emb_univ] at h
  obtain ⟨j, -, e⟩ := Finset.mem_map.mp h
  exact ⟨j, e⟩

/-- A store over exactly the held part: it then holds whatever agrees with the payload there. -/
theorem stS {α : Type} {Q : α → sProp 𝕄} {c : Dev nD} {cs : CoreSpace} {ix : Fin (sig.nNear .tc (.core cs))} {hn : sig.names .tc (.core cs) ix = true} {S : Finset (cref ix hn).ty.Idx}
    {f : (cref ix hn).ty.Contents (Elt F)} (G : (cref ix hn).ty.Contents (Elt F)) {r : Rect (cref ix hn).ty.shape} {w : r.shape.Idx → Elt F (cref ix hn).ty.elt} (hS : r.set = S) (hv : ∀ j, w j = G (r.emb j))
    {hx : ((Memref.whole (cref ix hn) : Memref sig .tc _ _ _).access r).Stores Finset.univ} {hm : (Finset.univ : Finset r.shape.Idx) = Finset.univ ∨ ∀ a, r.stride a = 1}
    {k : PUnit → Prog (TpuEff nD τ sig (Elt F) Λ₀ .tc) α} :
    (((c : Thread nD τ).loc (cref ix hn)) ↦[S]{fullShare} (f : Buf (Elt F) ((c : Thread nD τ).loc (cref ix hn))) : sProp 𝕄)
      ⊢ iprop(((((c : Thread nD τ).loc (cref ix hn)) ↦[S]{fullShare} (G : Buf (Elt F) ((c : Thread nD τ).loc (cref ix hn)))) -∗ Wp c (k ⟨⟩) Q)
          -∗ Wp c (.op (.store (Memref.whole (cref ix hn)) r w Finset.univ hx hm) k) Q) := by
  subst hS
  rw [← pointsTo_congr (ℓ := (c : Thread nD τ).loc (cref ix hn)) (I := r.set) (q := fullShare) (g := G)
    (f := ((Memref.whole (cref ix hn) : Memref sig .tc _ _ _).access r).write (Elt F) f w Finset.univ) (fun i hi => by
      obtain ⟨j, rfl⟩ := mem_rect hi
      exact (write_at f r w j).trans (hv j))]
  exact wp_store 𝒱₀ (c : Thread nD τ) none Set.univ (m := Memref.whole (cref ix hn)) (r := r) (Mk := Finset.univ) (f := f) (by rw [access_set])

/-- A whole buffer known to hold `G` where `D` says. -/
def agr (c : Dev nD) (b : Ref sig .tc) (D : b.ty.Idx → Prop) (G : b.ty.Contents (Elt F)) : sProp 𝕄 :=
  iprop(∃ f : b.ty.Contents (Elt F), ⌜∀ i, D i → f i = G i⌝ ∗ (((c : Thread nD τ).loc b) ↦{fullShare} (f : Buf (Elt F) ((c : Thread nD τ).loc b))))

theorem agr_all (c : Dev nD) (b : Ref sig .tc) (D : b.ty.Idx → Prop) (G : b.ty.Contents (Elt F)) (h : ∀ i, D i) :
    agr c b D G ⊢ (((c : Thread nD τ).loc b) ↦{fullShare} (G : Buf (Elt F) ((c : Thread nD τ).loc b)) : sProp 𝕄) := by
  unfold agr
  iintro ⟨%f, %hf, H⟩
  have e : f = G := funext fun i => hf i (h i)
  subst e
  iexact H

theorem agr_none (c : Dev nD) (b : Ref sig .tc) (D : b.ty.Idx → Prop) (G : b.ty.Contents (Elt F)) (h : ∀ i, ¬ D i) (f : b.ty.Contents (Elt F)) :
    (((c : Thread nD τ).loc b) ↦{fullShare} (f : Buf (Elt F) ((c : Thread nD τ).loc b)) : sProp 𝕄) ⊢ agr c b D G := by
  unfold agr
  iintro H
  iexists f
  isplitr; · ipureintro; exact fun i hi => absurd hi (h i)
  iexact H

theorem ldA {α : Type} {Q : α → sProp 𝕄} {c : Dev nD} {cs : CoreSpace} {ix : Fin (sig.nNear .tc (.core cs))} {hn : sig.names .tc (.core cs) ix = true} {D : (cref ix hn).ty.Idx → Prop}
    {G : (cref ix hn).ty.Contents (Elt F)} {r : Rect (cref ix hn).ty.shape}
    {hl : (Memref.whole (cref ix hn) : Memref sig .tc _ _ _).view.LoadsAt r.toLoadRect} {k : (r.shape.Idx → Elt F (cref ix hn).ty.elt) → Prog (TpuEff nD τ sig (Elt F) Λ₀ .tc) α} :
    agr c (cref ix hn) D G ⊢ iprop((∀ v, agr c (cref ix hn) D G -∗ Wp c (k v) Q) -∗ Wp c (.op (.load (Memref.whole (cref ix hn)) r.toLoadRect hl) k) Q) := by
  unfold agr
  iintro ⟨%f, %hf, H⟩ Hk
  iapply (ldS (S := Finset.univ) (r := r) (fun j => f (r.emb j)) (Finset.subset_univ _) (fun _ => rfl)) $$ H
  iintro H
  ihave Hk := Hk $$ %(fun j => f (r.emb j))
  iapply Hk
  iexists f
  isplitr; · ipureintro; exact hf
  iexact H

theorem stA {α : Type} {Q : α → sProp 𝕄} {c : Dev nD} {cs : CoreSpace} {ix : Fin (sig.nNear .tc (.core cs))} {hn : sig.names .tc (.core cs) ix = true} {D : (cref ix hn).ty.Idx → Prop}
    {G : (cref ix hn).ty.Contents (Elt F)} {r : Rect (cref ix hn).ty.shape} {w : r.shape.Idx → Elt F (cref ix hn).ty.elt} (D' : (cref ix hn).ty.Idx → Prop)
    (hD : ∀ i, D' i → D i ∨ i ∈ r.set) (hv : ∀ j, w j = G (r.emb j))
    {hx : ((Memref.whole (cref ix hn) : Memref sig .tc _ _ _).access r).Stores Finset.univ} {hm : (Finset.univ : Finset r.shape.Idx) = Finset.univ ∨ ∀ a, r.stride a = 1}
    {k : PUnit → Prog (TpuEff nD τ sig (Elt F) Λ₀ .tc) α} :
    agr c (cref ix hn) D G ⊢ iprop((agr c (cref ix hn) D' G -∗ Wp c (k ⟨⟩) Q) -∗ Wp c (.op (.store (Memref.whole (cref ix hn)) r w Finset.univ hx hm) k) Q) := by
  unfold agr
  iintro ⟨%f, %hf, H⟩ Hk
  iapply (wp_store 𝒱₀ (c : Thread nD τ) none Set.univ (m := Memref.whole (cref ix hn)) (r := r) (Mk := Finset.univ) (f := f) (Finset.subset_univ _)) $$ H
  iintro H
  iapply Hk
  iexists (((Memref.whole (cref ix hn) : Memref sig .tc _ _ _).access r).write (Elt F) f w Finset.univ)
  isplitr
  · ipureintro
    intro i hi
    by_cases hm : i ∈ r.set
    · obtain ⟨j, rfl⟩ := mem_rect hm
      exact (write_at f r w j).trans (hv j)
    · rw [write_off f r w hm]
      exact hf i ((hD i hi).resolve_right hm)
  iexact H

end Cert.Dit

end
-- ==== Proof.Sends.lean ====
/-
The copies of the four phases, as the program starts them, and the start of a copy on a condition.
-/
module

public import proofs.«01_k».proof.Proof.Mem

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F) (K : Dev nD × KI → ℕ)

/-! ## The views a copy goes between -/

/-- Slot `off` of an eight-slot buffer, as 64 rows; -/
abbrev slotM (M : Memref sig .tc .vmem S8x64x512 .bf16) (off : Fin 3 → ℕ) (inb : ∀ a, off a + S1x64x512.size a ≤ S8x64x512.size a) : Memref sig .tc .vmem S64x512 .bf16 :=
  (M.slice (Rect.unit (s := S8x64x512) off S1x64x512.size inb) (fun _ => rfl)).squeeze S64x512 squeezes_S1x64x512_S64x512
/-- 64 rows of a 512-row buffer. -/
abbrev rowsM (M : Memref sig .tc .vmem S512x512 .bf16) (off : Fin 2 → ℕ) (inb : ∀ a, off a + S64x512.size a ≤ S512x512.size a) : Memref sig .tc .vmem S64x512 .bf16 :=
  M.slice (Rect.unit (s := S512x512) off S64x512.size inb) (fun _ => rfl)

theorem slotM_emb (M : Memref sig .tc .vmem S8x64x512 .bf16) {off : Fin 3 → ℕ} {e : Dev nD} (h : off = ![e.val, 0, 0]) (inb : ∀ a, off a + S1x64x512.size a ≤ S8x64x512.size a)
    (x : S64x512.Idx) : (slotM M off inb).view.emb x = M.view.emb (ix3 (⟨e.val, e.isLt⟩ : Fin 8) (x 0) (x 1)) := by
  show M.view.emb ((Rect.unit (s := S8x64x512) off S1x64x512.size inb).emb (Shape.reshapeEquiv squeezes_S1x64x512_S64x512.numel_eq x)) = _
  rw [Shape.reshapeEquiv_cons_one squeezes_S1x64x512_S64x512.numel_eq x, slot_emb h]
  rfl

theorem slotM_credit (M : Memref sig .tc .vmem S8x64x512 .bf16) (off : Fin 3 → ℕ) (inb : ∀ a, off a + S1x64x512.size a ≤ S8x64x512.size a) : (slotM M off inb).view.dmaCredit = N := rfl
theorem rowsM_credit (M : Memref sig .tc .vmem S512x512 .bf16) (off : Fin 2 → ℕ) (inb : ∀ a, off a + S64x512.size a ≤ S512x512.size a) : (rowsM M off inb).view.dmaCredit = N := rfl

section Set
variable {off : Fin 3 → ℕ} {off' : Fin 2 → ℕ} {e : Dev nD} (h : off = ![e.val, 0, 0]) (h' : off' = ![64 * e.val, 0])
  (inb : ∀ a, off a + S1x64x512.size a ≤ S8x64x512.size a) (inb' : ∀ a, off' a + S64x512.size a ≤ S512x512.size a)

include h in
theorem slotM_set2 : (slotM (Memref.whole cc0_scratch2) off inb).view.set = S8 e := by
  rw [← slot_set h (inb := inb)]; exact (View.set_reshape _ _).trans (View.set_slice_whole cc0_scratch2 _)
include h in
theorem slotM_set3 : (slotM (Memref.whole cc0_scratch3) off inb).view.set = S8 e := by
  rw [← slot_set h (inb := inb)]; exact (View.set_reshape _ _).trans (View.set_slice_whole cc0_scratch3 _)
include h in
theorem slotM_set4 : (slotM (Memref.whole cc0_scratch4) off inb).view.set = S8 e := by
  rw [← slot_set h (inb := inb)]; exact (View.set_reshape _ _).trans (View.set_slice_whole cc0_scratch4 _)
include h in
theorem slotM_set5 : (slotM (Memref.whole cc0_scratch5) off inb).view.set = S8 e := by
  rw [← slot_set h (inb := inb)]; exact (View.set_reshape _ _).trans (View.set_slice_whole cc0_scratch5 _)
include h' in
theorem rowsM_set0 : (rowsM (Memref.whole cc0_scratch0) off' inb').view.set = C8 e := by
  rw [← rows_set h' (inb := inb')]; exact View.set_slice_whole cc0_scratch0 _
include h' in
theorem rowsM_set1 : (rowsM (Memref.whole cc0_scratch1) off' inb').view.set = C8 e := by
  rw [← rows_set h' (inb := inb')]; exact View.set_slice_whole cc0_scratch1 _

theorem mem_S8 {i : S8x64x512.Idx} (hi : i ∈ S8 e) : i = ix3 (⟨e.val, e.isLt⟩ : Fin 8) (i 1) (i 2) := by
  have := (Finset.mem_filter.mp hi).2
  exact Shape.idx3_ext this rfl rfl
theorem rowIx_eq (d : Dev nD) (i : S8x64x512.Idx) : rowIx d i = ix2 (row64 d (i 1)) (i 2) := by
  funext a; match a with | ⟨0, _⟩ => rfl | ⟨1, _⟩ => rfl
theorem devOf_mem {i : S8x64x512.Idx} (hi : i ∈ S8 e) : devOf i = e := Fin.ext (Finset.mem_filter.mp hi).2
end Set

/-! ## Phase 0: a chunk of the first partial sum into slot `c` of the peer's buffer -/

section Send
theorem step_send0 {α : Type} {Q : α → sProp 𝕄} {c n : Dev nD} (k : Fin 7) {S : Finset (Fin 7)} (X : CellTallies nD τ sig Unit)
    {off : Fin 3 → ℕ} {off' : Fin 2 → ℕ} {sS sR : DmaSem sig} {inb : ∀ a, off a + S1x64x512.size a ≤ S8x64x512.size a} {inb' : ∀ a, off' a + S64x512.size a ≤ S512x512.size a}
    {kk : PUnit → Prog (TpuEff nD τ sig (Elt F) Λ₀ .tc) α}
    (hn : n = peer c k) (hk : k ∉ S) (ho : off = ![c.val, 0, 0]) (ho' : off' = ![64 * (peer c k).val, 0]) (hsS : sS = sIx 0 k) (hsR : sR = rIx 0 k)
    {hsc : ((slotM (Memref.whole cc0_scratch2) off inb) : Memref sig (Dev.tc n : Thread nD τ).2.kind .vmem S64x512 .bf16).view.ref.isScScratch = false}
    {hsrc : (rowsM (Memref.whole cc0_scratch0) off' inb').view.WordExact} {hdst : (slotM (Memref.whole cc0_scratch2) off inb).view.WordExact}
    {hsem : DmaTarget.Typed .vmem (.dma sR) (.remote (Dev.tc n : Thread nD τ) (slotM (Memref.whole cc0_scratch2) off inb) (.dma sS) hsc)} :
    iprop(env V K ∗ chunk1Pts c (peer c k) (V.part1 c) ∗ SS c 0 S ∗ owesX c (X + Or c 0 S))
      ⊢ iprop(((SS c 0 (insert k S) ∗ owesX c (X + Or c 0 (insert k S))) -∗ Wp c (kk ⟨⟩) Q)
          -∗ Wp c (.op (.enqueueDma (rowsM (Memref.whole cc0_scratch0) off' inb') (.remote (Dev.tc n : Thread nD τ) (slotM (Memref.whole cc0_scratch2) off inb) (.dma sS) hsc) (.dma sR) hsrc hdst hsem) kk) Q) := by
  have e0 : (((rowsM (Memref.whole cc0_scratch0) off' inb').view.loc (c : Thread nD τ) ↦[(rowsM (Memref.whole cc0_scratch0) off' inb').view.set]{fullShare} (V.part1 c) : sProp 𝕄))
      = chunk1Pts c (peer c k) (V.part1 c) := by rw [rowsM_set0 ho' inb']; rfl
  rw [← e0]
  refine step_send V K 0 k hn hk X hsS hsR (src := rowsM (Memref.whole cc0_scratch0) off' inb') (dst := slotM (Memref.whole cc0_scratch2) off inb) (fs := V.part1 c) (slotM_credit _ off inb) ?_ ?_ ?_
  · unfold sendPay; exact Entails.of_eq e0
  · have hs : ∀ f : (slotRef 0).ty.Contents (Elt F), slotPts fullShare 0 (peer c k) c f ⊢ ((slotM (Memref.whole cc0_scratch2) off inb).view.loc (peer c k : Thread nD τ)
        ↦[(slotM (Memref.whole cc0_scratch2) off inb).view.set]{fullShare} (f : Buf (Elt F) ((slotM (Memref.whole cc0_scratch2) off inb).view.loc (peer c k : Thread nD τ))) : sProp 𝕄) := fun f => Entails.of_eq (by rw [slotM_set2 ho inb]; rfl)
    unfold slotAny
    iintro ⟨%f, H⟩
    iexists f
    iapply (hs f); iexact H
  · intro fd
    unfold recvPay
    rw [back_peer, slotM_set2 ho inb]
    refine Entails.of_eq (pointsTo_congr fun i hi => ?_)
    have ei := mem_S8 hi
    have h := View.write_emb_of_mem (v := (slotM (Memref.whole cc0_scratch2) off inb).view) fd
      ((rowsM (Memref.whole cc0_scratch0) off' inb').view.read (Elt F) (V.part1 c)) (x := ix2 (i 1) (i 2)) (Finset.mem_univ _)
    rw [slotM_emb _ ho inb] at h
    rw [ei]
    refine h.trans ?_
    show V.part1 c ((Rect.unit (s := S512x512) off' S64x512.size inb').emb (ix2 (i 1) (i 2))) = V.part1 (devOf (ix3 _ (i 1) (i 2))) (rowIx (peer c k) (ix3 _ (i 1) (i 2)))
    rw [rows_emb ho', rowIx_eq]
    rfl

theorem step_send2 {α : Type} {Q : α → sProp 𝕄} {c n : Dev nD} (k : Fin 7) {S : Finset (Fin 7)} (X : CellTallies nD τ sig Unit)
    {off : Fin 3 → ℕ} {off' : Fin 2 → ℕ} {sS sR : DmaSem sig} {inb : ∀ a, off a + S1x64x512.size a ≤ S8x64x512.size a} {inb' : ∀ a, off' a + S64x512.size a ≤ S512x512.size a}
    {kk : PUnit → Prog (TpuEff nD τ sig (Elt F) Λ₀ .tc) α}
    (hn : n = peer c k) (hk : k ∉ S) (ho : off = ![c.val, 0, 0]) (ho' : off' = ![64 * (peer c k).val, 0]) (hsS : sS = sIx 2 k) (hsR : sR = rIx 2 k)
    {hsc : ((slotM (Memref.whole cc0_scratch3) off inb) : Memref sig (Dev.tc n : Thread nD τ).2.kind .vmem S64x512 .bf16).view.ref.isScScratch = false}
    {hsrc : (rowsM (Memref.whole cc0_scratch1) off' inb').view.WordExact} {hdst : (slotM (Memref.whole cc0_scratch3) off inb).view.WordExact}
    {hsem : DmaTarget.Typed .vmem (.dma sR) (.remote (Dev.tc n : Thread nD τ) (slotM (Memref.whole cc0_scratch3) off inb) (.dma sS) hsc)} :
    iprop(env V K ∗ chunk2Pts c (peer c k) (V.part2 c) ∗ SS c 2 S ∗ owesX c (X + Or c 2 S))
      ⊢ iprop(((SS c 2 (insert k S) ∗ owesX c (X + Or c 2 (insert k S))) -∗ Wp c (kk ⟨⟩) Q)
          -∗ Wp c (.op (.enqueueDma (rowsM (Memref.whole cc0_scratch1) off' inb') (.remote (Dev.tc n : Thread nD τ) (slotM (Memref.whole cc0_scratch3) off inb) (.dma sS) hsc) (.dma sR) hsrc hdst hsem) kk) Q) := by
  have e0 : (((rowsM (Memref.whole cc0_scratch1) off' inb').view.loc (c : Thread nD τ) ↦[(rowsM (Memref.whole cc0_scratch1) off' inb').view.set]{fullShare} (V.part2 c) : sProp 𝕄))
      = chunk2Pts c (peer c k) (V.part2 c) := by rw [rowsM_set1 ho' inb']; rfl
  rw [← e0]
  refine step_send V K 2 k hn hk X hsS hsR (src := rowsM (Memref.whole cc0_scratch1) off' inb') (dst := slotM (Memref.whole cc0_scratch3) off inb) (fs := V.part2 c) (slotM_credit _ off inb) ?_ ?_ ?_
  · unfold sendPay; exact Entails.of_eq e0
  · have hs : ∀ f : (slotRef 2).ty.Contents (Elt F), slotPts fullShare 2 (peer c k) c f ⊢ ((slotM (Memref.whole cc0_scratch3) off inb).view.loc (peer c k : Thread nD τ)
        ↦[(slotM (Memref.whole cc0_scratch3) off inb).view.set]{fullShare} (f : Buf (Elt F) ((slotM (Memref.whole cc0_scratch3) off inb).view.loc (peer c k : Thread nD τ))) : sProp 𝕄) := fun f => Entails.of_eq (by rw [slotM_set3 ho inb]; rfl)
    unfold slotAny
    iintro ⟨%f, H⟩
    iexists f
    iapply (hs f); iexact H
  · intro fd
    unfold recvPay
    rw [back_peer, slotM_set3 ho inb]
    refine Entails.of_eq (pointsTo_congr fun i hi => ?_)
    have ei := mem_S8 hi
    have h := View.write_emb_of_mem (v := (slotM (Memref.whole cc0_scratch3) off inb).view) fd
      ((rowsM (Memref.whole cc0_scratch1) off' inb').view.read (Elt F) (V.part2 c)) (x := ix2 (i 1) (i 2)) (Finset.mem_univ _)
    rw [slotM_emb _ ho inb] at h
    rw [ei]
    refine h.trans ?_
    show V.part2 c ((Rect.unit (s := S512x512) off' S64x512.size inb').emb (ix2 (i 1) (i 2)))
      = if devOf (ix3 _ (i 1) (i 2)) = peer c k then V.own2 (peer c k) (ix3 _ (i 1) (i 2)) else V.part2 (devOf (ix3 _ (i 1) (i 2))) (rowIx (peer c k) (ix3 _ (i 1) (i 2)))
    rw [rows_emb ho', rowIx_eq]
    exact (if_neg (fun h => peer_ne c k h.symm)).symm

theorem step_send1 {α : Type} {Q : α → sProp 𝕄} {c n : Dev nD} (k : Fin 7) {S : Finset (Fin 7)} (X : CellTallies nD τ sig Unit)
    {off : Fin 3 → ℕ} {sS sR : DmaSem sig} {inb : ∀ a, off a + S1x64x512.size a ≤ S8x64x512.size a}
    {kk : PUnit → Prog (TpuEff nD τ sig (Elt F) Λ₀ .tc) α}
    (hn : n = peer c k) (hk : k ∉ S) (ho : off = ![c.val, 0, 0]) (hsS : sS = sIx 1 k) (hsR : sR = rIx 1 k)
    {hsc : ((slotM (Memref.whole cc0_scratch4) off inb) : Memref sig (Dev.tc n : Thread nD τ).2.kind .vmem S64x512 .bf16).view.ref.isScScratch = false}
    {hsrc : (slotM (Memref.whole cc0_scratch4) off inb).view.WordExact} {hdst : (slotM (Memref.whole cc0_scratch4) off inb).view.WordExact}
    {hsem : DmaTarget.Typed .vmem (.dma sR) (.remote (Dev.tc n : Thread nD τ) (slotM (Memref.whole cc0_scratch4) off inb) (.dma sS) hsc)} :
    iprop(env V K ∗ slotPts (lent k) 1 c c (V.slot 1 c) ∗ SS c 1 S ∗ owesX c (X + Or c 1 S))
      ⊢ iprop(((SS c 1 (insert k S) ∗ owesX c (X + Or c 1 (insert k S))) -∗ Wp c (kk ⟨⟩) Q)
          -∗ Wp c (.op (.enqueueDma (slotM (Memref.whole cc0_scratch4) off inb) (.remote (Dev.tc n : Thread nD τ) (slotM (Memref.whole cc0_scratch4) off inb) (.dma sS) hsc) (.dma sR) hsrc hdst hsem) kk) Q) := by
  have e0 : (((slotM (Memref.whole cc0_scratch4) off inb).view.loc (c : Thread nD τ) ↦[(slotM (Memref.whole cc0_scratch4) off inb).view.set]{lent k} (V.ag1) : sProp 𝕄))
      = slotPts (lent k) 1 c c (V.slot 1 c) := by rw [slotM_set4 ho inb]; rfl
  rw [← e0]
  refine step_send V K 1 k hn hk X hsS hsR (src := slotM (Memref.whole cc0_scratch4) off inb) (dst := slotM (Memref.whole cc0_scratch4) off inb) (fs := V.ag1) (slotM_credit _ off inb) ?_ ?_ ?_
  · unfold sendPay; exact Entails.of_eq e0
  · have hs : ∀ f : (slotRef 1).ty.Contents (Elt F), slotPts fullShare 1 (peer c k) c f ⊢ ((slotM (Memref.whole cc0_scratch4) off inb).view.loc (peer c k : Thread nD τ)
        ↦[(slotM (Memref.whole cc0_scratch4) off inb).view.set]{fullShare} (f : Buf (Elt F) ((slotM (Memref.whole cc0_scratch4) off inb).view.loc (peer c k : Thread nD τ))) : sProp 𝕄) := fun f => Entails.of_eq (by rw [slotM_set4 ho inb]; rfl)
    unfold slotAny
    iintro ⟨%f, H⟩
    iexists f
    iapply (hs f); iexact H
  · intro fd
    unfold recvPay
    rw [back_peer, slotM_set4 ho inb]
    refine Entails.of_eq (pointsTo_congr fun i hi => ?_)
    have ei := mem_S8 hi
    have h := View.write_emb_of_mem (v := (slotM (Memref.whole cc0_scratch4) off inb).view) fd
      ((slotM (Memref.whole cc0_scratch4) off inb).view.read (Elt F) V.ag1) (x := ix2 (i 1) (i 2)) (Finset.mem_univ _)
    rw [View.read_apply, slotM_emb _ ho inb] at h
    rw [ei]
    exact h

theorem step_send3 {α : Type} {Q : α → sProp 𝕄} {c n : Dev nD} (k : Fin 7) {S : Finset (Fin 7)} (X : CellTallies nD τ sig Unit)
    {off : Fin 3 → ℕ} {sS sR : DmaSem sig} {inb : ∀ a, off a + S1x64x512.size a ≤ S8x64x512.size a}
    {kk : PUnit → Prog (TpuEff nD τ sig (Elt F) Λ₀ .tc) α}
    (hn : n = peer c k) (hk : k ∉ S) (ho : off = ![c.val, 0, 0]) (hsS : sS = sIx 3 k) (hsR : sR = rIx 3 k)
    {hsc : ((slotM (Memref.whole cc0_scratch5) off inb) : Memref sig (Dev.tc n : Thread nD τ).2.kind .vmem S64x512 .bf16).view.ref.isScScratch = false}
    {hsrc : (slotM (Memref.whole cc0_scratch5) off inb).view.WordExact} {hdst : (slotM (Memref.whole cc0_scratch5) off inb).view.WordExact}
    {hsem : DmaTarget.Typed .vmem (.dma sR) (.remote (Dev.tc n : Thread nD τ) (slotM (Memref.whole cc0_scratch5) off inb) (.dma sS) hsc)} :
    iprop(env V K ∗ slotPts (lent k) 3 c c (V.slot 3 c) ∗ SS c 3 S ∗ owesX c (X + Or c 3 S))
      ⊢ iprop(((SS c 3 (insert k S) ∗ owesX c (X + Or c 3 (insert k S))) -∗ Wp c (kk ⟨⟩) Q)
          -∗ Wp c (.op (.enqueueDma (slotM (Memref.whole cc0_scratch5) off inb) (.remote (Dev.tc n : Thread nD τ) (slotM (Memref.whole cc0_scratch5) off inb) (.dma sS) hsc) (.dma sR) hsrc hdst hsem) kk) Q) := by
  have e0 : (((slotM (Memref.whole cc0_scratch5) off inb).view.loc (c : Thread nD τ) ↦[(slotM (Memref.whole cc0_scratch5) off inb).view.set]{lent k} (V.ag2) : sProp 𝕄))
      = slotPts (lent k) 3 c c (V.slot 3 c) := by rw [slotM_set5 ho inb]; rfl
  rw [← e0]
  refine step_send V K 3 k hn hk X hsS hsR (src := slotM (Memref.whole cc0_scratch5) off inb) (dst := slotM (Memref.whole cc0_scratch5) off inb) (fs := V.ag2) (slotM_credit _ off inb) ?_ ?_ ?_
  · unfold sendPay; exact Entails.of_eq e0
  · have hs : ∀ f : (slotRef 3).ty.Contents (Elt F), slotPts fullShare 3 (peer c k) c f ⊢ ((slotM (Memref.whole cc0_scratch5) off inb).view.loc (peer c k : Thread nD τ)
        ↦[(slotM (Memref.whole cc0_scratch5) off inb).view.set]{fullShare} (f : Buf (Elt F) ((slotM (Memref.whole cc0_scratch5) off inb).view.loc (peer c k : Thread nD τ))) : sProp 𝕄) := fun f => Entails.of_eq (by rw [slotM_set5 ho inb]; rfl)
    unfold slotAny
    iintro ⟨%f, H⟩
    iexists f
    iapply (hs f); iexact H
  · intro fd
    unfold recvPay
    rw [back_peer, slotM_set5 ho inb]
    refine Entails.of_eq (pointsTo_congr fun i hi => ?_)
    have ei := mem_S8 hi
    have h := View.write_emb_of_mem (v := (slotM (Memref.whole cc0_scratch5) off inb).view) fd
      ((slotM (Memref.whole cc0_scratch5) off inb).view.read (Elt F) V.ag2) (x := ix2 (i 1) (i 2)) (Finset.mem_univ _)
    rw [View.read_apply, slotM_emb _ ho inb] at h
    rw [ei]
    exact h
end Send

/-! ## Starts on a condition -/

/-- The copies of phase 0 started once those to batches before `b`, and those to batch `b` in `T`, have been. -/
def sset (c : Dev nD) (b : ℕ) (T : Finset (Fin 7)) : Finset (Fin 7) :=
  Finset.univ.filter fun k => (peer c k).val / 4 < b ∨ ((peer c k).val / 4 = b ∧ k ∈ T)

theorem sset_zero (c : Dev nD) : sset c 0 ∅ = ∅ := by revert c; decide
theorem sset_next (c : Dev nD) : sset c 0 Finset.univ = sset c 1 ∅ := by revert c; decide
theorem sset_univ (c : Dev nD) : sset c 1 Finset.univ = Finset.univ := by revert c; decide

theorem sset_in (c : Dev nD) (b : ℕ) (T : Finset (Fin 7)) (k : Fin 7) (h : (peer c k).val / 4 = b) : sset c b (insert k T) = insert k (sset c b T) := by
  ext j
  simp only [sset, Finset.mem_filter, Finset.mem_univ, true_and, Finset.mem_insert]
  by_cases hj : j = k
  · subst hj; simp [h]
  · simp [hj]
theorem sset_out (c : Dev nD) (b : ℕ) (T : Finset (Fin 7)) (k : Fin 7) (h : ¬ (peer c k).val / 4 = b) : sset c b (insert k T) = sset c b T := by
  ext j
  simp only [sset, Finset.mem_filter, Finset.mem_univ, true_and, Finset.mem_insert]
  by_cases hj : j = k
  · subst hj; simp [h]
  · simp [hj]
theorem sset_not (c : Dev nD) (b : ℕ) (T : Finset (Fin 7)) (k : Fin 7) (h : (peer c k).val / 4 = b) (hk : k ∉ T) : k ∉ sset c b T := by
  simp only [sset, Finset.mem_filter, Finset.mem_univ, true_and]
  rintro (h' | h')
  · omega
  · exact hk h'.2

/-- The chunks of batch `b` not yet sent. -/
def SRC (c : Dev nD) (b : ℕ) (T : Finset (Fin 7)) : sProp 𝕄 :=
  bigSep Finset.univ fun k => if k ∈ T then iprop(emp) else if (peer c k).val / 4 = b then chunk1Pts c (peer c k) (V.part1 c) else iprop(emp)

theorem SRC_univ (c : Dev nD) (b : ℕ) : SRC V c b Finset.univ ⊢ iprop(emp) := by
  unfold SRC
  rw [bigSep_congr (Ψ := fun _ => iprop(emp)) (fun k _ => if_pos (Finset.mem_univ k))]; exact Entails.of_eq (bigSep_emp_const _)

theorem step_if {α : Type} {Q : α → sProp 𝕄} {c : Dev nD} (b : ℕ) (k : Fin 7) {T : Finset (Fin 7)} (hk : k ∉ T) (X : CellTallies nD τ sig Unit)
    {C : Prop} [Decidable C] (hC : C ↔ (peer c k).val / 4 = b) {n : C → Dev nD} (hn : ∀ h, n h = peer c k)
    {off : Fin 3 → ℕ} {off' : Fin 2 → ℕ} {sS sR : DmaSem sig}
    (ho : off = ![c.val, 0, 0]) (ho' : off' = ![64 * (peer c k).val, 0]) (hsS : sS = sIx 0 k) (hsR : sR = rIx 0 k)
    {inb : C → ∀ a, off a + S1x64x512.size a ≤ S8x64x512.size a} {inb' : C → ∀ a, off' a + S64x512.size a ≤ S512x512.size a}
    {hsc : ∀ h, ((slotM (Memref.whole cc0_scratch2) off (inb h)) : Memref sig (Dev.tc (n h) : Thread nD τ).2.kind .vmem S64x512 .bf16).view.ref.isScScratch = false}
    {hsrc : ∀ h, (rowsM (Memref.whole cc0_scratch0) off' (inb' h)).view.WordExact} {hdst : ∀ h, (slotM (Memref.whole cc0_scratch2) off (inb h)).view.WordExact}
    {hsem : ∀ h, DmaTarget.Typed .vmem (.dma sR) (.remote (Dev.tc (n h) : Thread nD τ) (slotM (Memref.whole cc0_scratch2) off (inb h)) (.dma sS) (hsc h))}
    {kk : PUnit → Prog (TpuEff nD τ sig (Elt F) Λ₀ .tc) α} :
    iprop(env V K ∗ SRC V c b T ∗ SS c 0 (sset c b T) ∗ owesX c (X + Or c 0 (sset c b T)))
      ⊢ iprop(((SRC V c b (insert k T) ∗ SS c 0 (sset c b (insert k T)) ∗ owesX c (X + Or c 0 (sset c b (insert k T)))) -∗ Wp c (kk ⟨⟩) Q)
          -∗ Wp c ((if h : C then
              (.op (.enqueueDma (rowsM (Memref.whole cc0_scratch0) off' (inb' h)) (.remote (Dev.tc (n h) : Thread nD τ) (slotM (Memref.whole cc0_scratch2) off (inb h)) (.dma sS) (hsc h)) (.dma sR) (hsrc h) (hdst h) (hsem h)) fun _ => .ret ⟨⟩)
              else .ret ⟨⟩ : Prog (TpuEff nD τ sig (Elt F) Λ₀ .tc) PUnit) >>= kk) Q) := by
  by_cases h : C
  · have hb := hC.mp h
    rw [dif_pos h, sset_in c b T k hb, Prog.bind_op]; simp only [Prog.bind_ret]
    have hf : SRC V c b T ⊢ iprop(chunk1Pts c (peer c k) (V.part1 c) ∗ (emp -∗ SRC V c b (insert k T))) := by
      have := flip (S := T) hk (fun _ => (iprop(emp) : sProp 𝕄)) (fun k => if (peer c k).val / 4 = b then chunk1Pts c (peer c k) (V.part1 c) else iprop(emp))
      rw [if_pos hb] at this; exact this
    iintro ⟨#He, Hsrc, HS, HO⟩ Hk
    ihave Hsrc := hf $$ Hsrc
    icases Hsrc with ⟨Hc, Hsrc⟩
    iapply (step_send0 V K k X (hn h) (sset_not c b T k hb hk) ho ho' hsS hsR) $$ [Hc HS HO]
    · isplitr; · iexact He
      isplitl [Hc]; · iexact Hc
      isplitl [HS]; · iexact HS
      iexact HO
    iintro ⟨HS, HO⟩
    iapply Hk
    isplitl [Hsrc]
    · iapply Hsrc; iempintro
    isplitl [HS]; · iexact HS
    iexact HO
  · have hb : ¬ (peer c k).val / 4 = b := fun h' => h (hC.mpr h')
    rw [dif_neg h, sset_out c b T k hb, Prog.bind_ret]
    have hf : SRC V c b T ⊢ iprop(emp ∗ (emp -∗ SRC V c b (insert k T))) := by
      have := flip (S := T) hk (fun _ => (iprop(emp) : sProp 𝕄)) (fun k => if (peer c k).val / 4 = b then chunk1Pts c (peer c k) (V.part1 c) else iprop(emp))
      rw [if_neg hb] at this; exact this
    iintro ⟨#He, Hsrc, HS, HO⟩ Hk
    ihave Hsrc := hf $$ Hsrc
    icases Hsrc with ⟨-, Hsrc⟩
    iapply Hk
    isplitl [Hsrc]
    · iapply Hsrc; iempintro
    isplitl [HS]; · iexact HS
    iexact HO

end Cert.Dit

end
-- ==== Proof.Vals.lean ====
/-
What every buffer of every device holds, from the devices' arguments: each value is written with the program's own pure
steps, in the order the program takes them.
-/
module

public import proofs.«01_k».proof.Proof.Sends

@[expose] public section

noncomputable section

namespace Cert.Dit

open Cert.KernelIdeal Cert.KernelIdeal.Gen

open Idealize.ShloMosaic
open Idealize.ShloMosaic.TcCoe

variable {F : FTy → Type} [FloatOps F]

/-- A device's nine arguments. -/
structure Ins (F : FTy → Type) where
  x : Vec F S2x256x512 .f32
  wq : Vec F S512x256 .bf16
  wk : Vec F S512x256 .bf16
  wv : Vec F S512x256 .bf16
  wo : Vec F S256x512 .bf16
  t : Vec F S2x128 .bf16
  wm : Vec F S128x3072 .bf16
  w1 : Vec F S512x256 .bf16
  w2 : Vec F S256x512 .bf16

namespace Ins
variable (i : Ins F)

/-! ## The modulation and the residual stream -/

def mod : FVec F S2x3072 .f32 := k0_pay1 i.t i.wm
def modPart (m : Fin 4) : Vec F S1x8x512 .f32 := match m with
  | 0 => k0_pay2 i.t i.wm
  | 1 => k0_pay3 i.t i.wm
  | 2 => k0_pay4 i.mod
  | 3 => k0_pay5 i.mod
def modc : S4x8x512.Idx → F .f32 := fun j => i.modPart (j 0) (ix3 (0 : Fin 1) (j 1) (j 2))

def x2Part (b : Fin 2) : Vec F S256x512 .f32 := match b with
  | 0 => k0_pay6 (xblk i.x 0)
  | 1 => k0_pay7 (xblk i.x 1)
/-- The half a row lies in, and its place there. -/
def halfOf (r : Fin 512) : Fin 2 := ⟨r.val / 256, by omega⟩
def inHalf (r : Fin 512) : Fin 256 := ⟨r.val % 256, Nat.mod_lt _ (by decide)⟩
def x2 : S512x512.Idx → F .f32 := fun j => i.x2Part (halfOf (j 0)) (ix2 (inHalf (j 0)) (j 1))

/-! ## The attention of each half of the batch, on the device's four heads -/

def q0 := k0_pay17 (k0_pay8 i.wq) (k0_pay12 i.mod) (k0_pay13 i.mod) (k0_pay14 (xblk i.x 0)) (k0_pay15 (xblk i.x 0))
def k0 := k0_pay18 (k0_pay9 i.wk) (k0_pay12 i.mod) (k0_pay13 i.mod) (k0_pay14 (xblk i.x 0)) (k0_pay15 (xblk i.x 0))
def v0 := k0_pay19 (k0_pay10 i.wv) (k0_pay12 i.mod) (k0_pay13 i.mod) (k0_pay14 (xblk i.x 0)) (k0_pay15 (xblk i.x 0))
def a0 := k0_pay20 (k0_pay8 i.wq) (k0_pay9 i.wk) (k0_pay10 i.wv) (k0_pay12 i.mod) (k0_pay13 i.mod) (k0_pay14 (xblk i.x 0)) (k0_pay15 (xblk i.x 0))
def b0 := k0_pay21 (k0_pay8 i.wq) (k0_pay12 i.mod) (k0_pay13 i.mod) (k0_pay14 (xblk i.x 0)) (k0_pay15 (xblk i.x 0))
def c0 := k0_pay22 (k0_pay9 i.wk) (k0_pay12 i.mod) (k0_pay13 i.mod) (k0_pay14 (xblk i.x 0)) (k0_pay15 (xblk i.x 0))
def attn0 : Vec F S256x512 .bf16 := k0_pay28 (k0_pay11 i.wo) i.a0 (k0_pay23 i.v0 i.b0 i.c0) (k0_pay24 i.q0 i.k0 i.v0) (k0_pay25 i.v0) (k0_pay26 i.q0 i.k0) (k0_pay27 i.q0 i.k0)

def q1 := k0_pay35 (k0_pay8 i.wq) (k0_pay29 i.mod) (k0_pay30 i.mod) (k0_pay31 (xblk i.x 1)) (k0_pay32 (xblk i.x 1)) (k0_pay33 (F := F))
def k1 := k0_pay36 (k0_pay9 i.wk) (k0_pay29 i.mod) (k0_pay30 i.mod) (k0_pay31 (xblk i.x 1)) (k0_pay32 (xblk i.x 1)) (k0_pay33 (F := F))
def v1 := k0_pay37 (k0_pay10 i.wv) (k0_pay29 i.mod) (k0_pay30 i.mod) (k0_pay31 (xblk i.x 1)) (k0_pay32 (xblk i.x 1)) (k0_pay33 (F := F))
def a1 := k0_pay38 (k0_pay8 i.wq) (k0_pay9 i.wk) (k0_pay10 i.wv) (k0_pay29 i.mod) (k0_pay30 i.mod) (k0_pay31 (xblk i.x 1)) (k0_pay32 (xblk i.x 1)) (k0_pay33 (F := F))
def b1 := k0_pay39 (k0_pay8 i.wq) (k0_pay29 i.mod) (k0_pay30 i.mod) (k0_pay31 (xblk i.x 1)) (k0_pay32 (xblk i.x 1)) (k0_pay33 (F := F))
def c1 := k0_pay40 (k0_pay9 i.wk) (k0_pay29 i.mod) (k0_pay30 i.mod) (k0_pay31 (xblk i.x 1)) (k0_pay32 (xblk i.x 1)) (k0_pay33 (F := F))
def d1 := k0_pay41 (k0_pay10 i.wv) (k0_pay29 i.mod) (k0_pay30 i.mod) (k0_pay31 (xblk i.x 1)) (k0_pay32 (xblk i.x 1)) (k0_pay33 (F := F))
def attn1 : Vec F S256x512 .bf16 := k0_pay48 (k0_pay11 i.wo) i.a1 (k0_pay42 i.b1 i.c1 i.d1 (constant (F := F) S256x256 .f32 0x00000000#32)) (k0_pay43 i.q1 i.k1 i.v1) (k0_pay44 i.v1) (k0_pay46 i.q1 i.k1) (k0_pay47 i.q1 i.k1)

def attn (b : Fin 2) : Vec F S256x512 .bf16 := match b with | 0 => i.attn0 | 1 => i.attn1
/-- The device's partial sum of the attention's output projection. -/
def part1 : S512x512.Idx → F .bf16 := fun j => i.attn (halfOf (j 0)) (ix2 (inHalf (j 0)) (j 1))

end Ins

/-! ## What the exchanges bring -/

variable (I : Dev nD → Ins F)

def rs1 (d : Dev nD) : S8x64x512.Idx → F .bf16 := fun i => (I (devOf i)).part1 (rowIx d i)
/-- The device's own reduced chunk, as it keeps it and as it sends it. -/
def red1 (d : Dev nD) : Vec F S64x512 .f32 :=
  k0_pay50 (slotv (rs1 I d) 0) (slotv (rs1 I d) 1) (slotv (rs1 I d) 2) (slotv (rs1 I d) 3) (slotv (rs1 I d) 4) (slotv (rs1 I d) 5) (slotv (rs1 I d) 6) (slotv (rs1 I d) 7)
def red1b (d : Dev nD) : Vec F S1x64x512 .bf16 :=
  k0_pay52 (k0_pay51 (slotv (rs1 I d) 0) (slotv (rs1 I d) 1) (slotv (rs1 I d) 2) (slotv (rs1 I d) 3) (slotv (rs1 I d) 4) (slotv (rs1 I d) 5) (slotv (rs1 I d) 6) (slotv (rs1 I d) 7))
def ag1 : S8x64x512.Idx → F .bf16 := fun i => red1b I (devOf i) (ix3 (0 : Fin 1) (i 1) (i 2))

/-- The device's partial sum of the feed-forward's second product: its own chunk, -/
def own (d : Dev nD) : Vec F S1x64x512 .bf16 :=
  k0_pay56 (k0_pay54 (I d).w2) (k0_pay55 (red1 I d) (I d).w1 (rows64 (I d).x2 d) (modrow (I d).modc 0 d) (modrow (I d).modc 1 d) (modrow (I d).modc 2 d)) (Scalar.ofBits .f32 0x00000000#32)
/-- and chunk `e`. -/
def ffn (d e : Dev nD) : Vec F S64x512 .bf16 :=
  k0_pay59 (k0_pay58 (k0_pay53 (I d).w1) (k0_pay54 (I d).w2) (rows64 (I d).x2 e) (k0_pay57 (slotv (ag1 I) e) (modrow (I d).modc 0 e)) (modrow (I d).modc 1 e) (modrow (I d).modc 2 e))
/-- The chunk a row lies in, and its place there. -/
def chunkOf (r : Fin 512) : Dev nD := ⟨r.val / 64, by show _ < 8; omega⟩
def inChunk (r : Fin 512) : Fin 64 := ⟨r.val % 64, Nat.mod_lt _ (by decide)⟩
def part2 (d : Dev nD) : S512x512.Idx → F .bf16 := fun j => ffn I d (chunkOf (j 0)) (ix2 (inChunk (j 0)) (j 1))
def own2 (d : Dev nD) : S8x64x512.Idx → F .bf16 := fun i => own I d (ix3 (0 : Fin 1) (i 1) (i 2))

def rs2 (d : Dev nD) : S8x64x512.Idx → F .bf16 := fun i => if devOf i = d then own2 I d i else part2 I (devOf i) (rowIx d i)
def red2 (d : Dev nD) : Vec F S64x512 .f32 :=
  k0_pay79 (k0_pay78 (slotv (rs2 I d) 0) (slotv (rs2 I d) 1)) (slotv (rs2 I d) 2) (slotv (rs2 I d) 3) (slotv (rs2 I d) 4) (slotv (rs2 I d) 5) (slotv (rs2 I d) 6) (slotv (rs2 I d) 7)
def red2b (d : Dev nD) : Vec F S1x64x512 .bf16 :=
  k0_pay80 (k0_pay78 (slotv (rs2 I d) 0) (slotv (rs2 I d) 1)) (slotv (rs2 I d) 2) (slotv (rs2 I d) 3) (slotv (rs2 I d) 4) (slotv (rs2 I d) 5) (slotv (rs2 I d) 6) (slotv (rs2 I d) 7)
def ag2 : S8x64x512.Idx → F .bf16 := fun i => red2b I (devOf i) (ix3 (0 : Fin 1) (i 1) (i 2))

/-- The result: the device's own chunk, and chunk `e`. -/
def outOwn (d : Dev nD) : Vec F S64x512 .f32 :=
  k0_pay83 (red2 I d) (rows64 (I d).x2 d) (k0_pay81 (modrow (I d).modc 0 d)) (k0_pay82 (slotv (ag1 I) d)) (modrow (I d).modc 3 d)
def outOf (d e : Dev nD) : Vec F S64x512 .f32 :=
  k0_pay86 (k0_pay84 (slotv (ag2 I) e)) (rows64 (I d).x2 e) (k0_pay85 (modrow (I d).modc 0 e)) (slotv (ag1 I) e) (modrow (I d).modc 3 e)
def outc (d : Dev nD) : S512x512.Idx → F .f32 := fun j =>
  (if chunkOf (j 0) = d then outOwn I d else outOf I d (chunkOf (j 0))) (ix2 (inChunk (j 0)) (j 1))

/-- The contents the protocol carries. -/
def VI : Vals F where
  part1 d := (I d).part1
  part2 d := part2 I d
  ag1 := ag1 I
  ag2 := ag2 I
  own2 d := own2 I d

end Cert.Dit

end
-- ==== Proof.Stretch.lean ====
/-
The body's parts in eight stretches, each ending in the next.
-/
module

public import proofs.«01_k».proof.Proof.Vals

@[expose] public section

noncomputable section

namespace Cert.Dit

open Cert.KernelIdeal Cert.KernelIdeal.Gen

open Idealize.ShloMosaic
open Idealize.ShloMosaic.TcCoe
open Idealize.SL.Sem

variable {F : FTy → Type} [FloatOps F]

section
variable (arg0 : Memref sig .tc .vmem S2x256x512 .f32) (harg0 : arg0.IsWhole) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S256x512 .bf16) (harg4 : arg4.IsWhole) (arg5 : Memref sig .tc .vmem S2x128 .bf16) (harg5 : arg5.IsWhole) (arg6 : Memref sig .tc .vmem S128x3072 .bf16) (harg6 : arg6.IsWhole) (arg7 : Memref sig .tc .vmem S512x256 .bf16) (harg7 : arg7.IsWhole) (arg8 : Memref sig .tc .vmem S256x512 .bf16) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S8x64x512 .bf16) (harg12 : arg12.IsWhole) (arg13 : Memref sig .tc .vmem S8x64x512 .bf16) (harg13 : arg13.IsWhole) (arg14 : Memref sig .tc .vmem S8x64x512 .bf16) (harg14 : arg14.IsWhole) (arg15 : Memref sig .tc .vmem S8x64x512 .bf16) (harg15 : arg15.IsWhole) (arg16 : Memref sig .tc .vmem S512x512 .f32) (harg16 : arg16.IsWhole) (arg17 : Memref sig .tc .vmem S4x8x512 .f32) (harg17 : arg17.IsWhole) (arg18 : DmaSems sig S2x8) (arg19 : DmaSems sig S2x8) (arg20 : DmaSems sig S2x8) (arg21 : DmaSems sig S2x8)

/-- The body from its part 49 on. -/
def rest49 (d0 : Dev nD) : Prog (TpuEff nD τ sig (Elt F) Λ₀ .tc) (Dev nD) := do
  k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0
  k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0
  k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0
  k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0
  k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0
  k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0
  pure d0

/-- The body from its part 41 on. -/
def rest41 (d0 : Dev nD) (v2 : BitVec 32) (v1265 : FVec F S64x512 .f32) (v1273 : BitVec 32) (v1275 : BitVec 32) (v1277 : BitVec 32) (v1279 : BitVec 32) (v1281 : BitVec 32) (v1283 : BitVec 32) (v1285 : BitVec 32) (v1358 : Vec F S64x512 .f32) (v1361 : FVec F S1x512 .f32) (v1364 : FVec F S64x512 .bf16) : Prog (TpuEff nD τ sig (Elt F) Λ₀ .tc) (Dev nD) := do
  let ⟨v1387, v1391, v1394, v1397⟩ : Σ' (v1387 : BitVec 32) (v1391 : FVec F S64x512 .f32) (v1394 : Vec F S64x512 .f32), FVec F S1x512 .f32 ← k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1265 v1273 v1358 v1361 v1364
  let ⟨v1423, v1427, v1430, v1433⟩ : Σ' (v1423 : BitVec 32) (v1427 : FVec F S64x512 .f32) (v1430 : Vec F S64x512 .f32), FVec F S1x512 .f32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1275 v1387 v1391 v1394 v1397
  let ⟨v1459, v1463, v1466, v1468⟩ : Σ' (v1459 : BitVec 32) (v1463 : FVec F S64x512 .f32) (v1466 : Vec F S64x512 .f32), Vec F S1x1x512 .f32 ← k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1277 v1423 v1427 v1430 v1433
  let ⟨v1495, v1499, v1502⟩ : Σ' (v1495 : BitVec 32) (v1499 : FVec F S64x512 .f32), Vec F S64x512 .f32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1279 v1459 v1463 v1466 v1468
  let ⟨v1531, v1535, v1538⟩ : Σ' (v1531 : BitVec 32) (v1535 : FVec F S64x512 .f32), Vec F S64x512 .f32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1281 v1495 v1499 v1502
  let ⟨v1567, v1571⟩ : Σ' (v1567 : BitVec 32), FVec F S64x512 .f32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1283 v1531 v1535 v1538
  let ⟨v1603, v1607, c64_i32_1092⟩ : Σ' (v1603 : BitVec 32) (v1607 : FVec F S64x512 .f32), BitVec 32 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1285 v1567 v1571
  k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v1603 v1607 c64_i32_1092
  rest49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0

/-- The body from its part 35 on. -/
def rest35 (d0 : Dev nD) (v2 : BitVec 32) (v733 : BitVec 32) (v810 : BitVec 32) (v887 : BitVec 32) (v964 : BitVec 32) (v1041 : BitVec 32) (v1118 : BitVec 32) : Prog (TpuEff nD τ sig (Elt F) Λ₀ .tc) (Dev nD) := do
  let c1_i32_791 : BitVec 32 ← k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v733 v810 v887
  let v1241 : FVec F S64x512 .f32 ← k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v964 v1041 v1118 c1_i32_791
  let ⟨v1265, v1273, v1275, v1276⟩ : Σ' (v1265 : FVec F S64x512 .f32) (v1273 : BitVec 32) (v1275 : BitVec 32), BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1241
  let ⟨v1277, v1279, v1281, v1283, v1285⟩ : Σ' (v1277 : BitVec 32) (v1279 : BitVec 32) (v1281 : BitVec 32) (v1283 : BitVec 32), BitVec 32 ← k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1273 v1275 v1276
  k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v1277 v1279 v1281
  let ⟨v1358, v1361, v1364⟩ : Σ' (v1358 : Vec F S64x512 .f32) (v1361 : FVec F S1x512 .f32), FVec F S64x512 .bf16 ← k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1283 v1285
  rest41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v1265 v1273 v1275 v1277 v1279 v1281 v1283 v1285 v1358 v1361 v1364

/-- The body from its part 20 on. -/
def rest20 (d0 : Dev nD) (v2 : BitVec 32) (v507 : BitVec 32) (v509 : BitVec 32) (v511 : BitVec 32) (v513 : BitVec 32) (v515 : BitVec 32) (v517 : BitVec 32) (v519 : BitVec 32) (v591 : FVec F S512x256 .bf16) (v593 : FVec F S256x512 .bf16) (v632 : FVec F S64x256 .f32) (cst_438 : F .f32) : Prog (TpuEff nD τ sig (Elt F) Λ₀ .tc) (Dev nD) := do
  let ⟨v656, v663, v668⟩ : Σ' (v656 : BitVec 32) (v663 : Vec F S64x512 .f32), FVec F S64x512 .f32 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v507 v593 v632 cst_438
  let v708 : FVec F S64x512 .bf16 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v591 v593 v656 v663 v668
  let ⟨v733, v737, v740⟩ : Σ' (v733 : BitVec 32) (v737 : FVec F S64x512 .f32), Vec F S64x512 .f32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v509 v656 v708
  let ⟨v785, v786⟩ : Σ' (v785 : FVec F S64x512 .bf16), BitVec 32 ← k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v591 v593 v733 v737 v740
  let ⟨v810, v814⟩ : Σ' (v810 : BitVec 32), FVec F S64x512 .f32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v511 v733 v785 v786
  let ⟨v860, cst_562⟩ : Σ' (v860 : FVec F S64x256 .bf16), FVec F S64x512 .f32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v591 v810 v814
  let ⟨v887, v891⟩ : Σ' (v887 : BitVec 32), FVec F S64x512 .f32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v513 v593 v810 v860 cst_562
  let ⟨v930, v933, v934⟩ : Σ' (v930 : FVec F S64x256 .f32) (v933 : FVec F S64x256 .f32), FVec F S64x256 .f32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v591 v887 v891
  let v964 : BitVec 32 ← k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v515 v593 v887 v930 v933 v934
  let ⟨v1007, v1008⟩ : Σ' (v1007 : FVec F S64x256 .f32), FVec F S64x256 .f32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v591 v964
  let v1040 : BitVec 32 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v517 v593 v964 v1007 v1008
  let ⟨v1041, v1083⟩ : Σ' (v1041 : BitVec 32), FVec F S64x512 .bf16 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v1040
  k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v519 v591 v593 v1041 v1083
  let ⟨v1118, v1154, v1156⟩ : Σ' (v1118 : BitVec 32) (v1154 : FVec F S64x512 .f32), Vec F S1x1x512 .f32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2
  k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v591 v593 v656 v1118 v1154 v1156
  rest35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v733 v810 v887 v964 v1041 v1118

/-- The body from its part 13 on. -/
def rest13 (d0 : Dev nD) (v2 : BitVec 32) (v100 : BitVec 32) (v103 : BitVec 32) (v106 : BitVec 32) (v109 : BitVec 32) (v112 : BitVec 32) (v115 : BitVec 32) (v118 : BitVec 32) : Prog (TpuEff nD τ sig (Elt F) Λ₀ .tc) (Dev nD) := do
  k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v100 v103 v106 v109
  k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v112 v115 v118
  let ⟨v499, v501⟩ : Σ' (v499 : FVec F S64x512 .f32), FVec F S1x64x512 .bf16 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2
  let ⟨v507, v509, v511, v513, v515, v517, v519⟩ : Σ' (v507 : BitVec 32) (v509 : BitVec 32) (v511 : BitVec 32) (v513 : BitVec 32) (v515 : BitVec 32) (v517 : BitVec 32), BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v501
  let v560 : BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v511 v513 v515
  let v590 : Vec F S512x256 .bf16 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v517 v519 v560
  let ⟨v591, v593, v632, cst_438⟩ : Σ' (v591 : FVec F S512x256 .bf16) (v593 : FVec F S256x512 .bf16) (v632 : FVec F S64x256 .f32), F .f32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v499 v590
  rest20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v507 v509 v511 v513 v515 v517 v519 v591 v593 v632 cst_438

/-- The body from its part 9 on. -/
def rest9 (d0 : Dev nD) (v2 : BitVec 32) (v92 : FVec F S512x256 .bf16) (v94 : FVec F S512x256 .bf16) (v96 : FVec F S512x256 .bf16) (v98 : FVec F S256x512 .bf16) (v100 : BitVec 32) (v103 : BitVec 32) (v106 : BitVec 32) (v109 : BitVec 32) (v112 : BitVec 32) (v115 : BitVec 32) (v118 : BitVec 32) (v266 : FVec F S1x512 .f32) (v267 : FVec F S1x512 .f32) (v269 : FVec F S256x512 .f32) (v271 : FVec F S256x1 .f32) (v272 : FVec F S256x1 .f32) : Prog (TpuEff nD τ sig (Elt F) Λ₀ .tc) (Dev nD) := do
  let ⟨v294, v296, v298, v316, v317, v318, v319, cst_179⟩ : Σ' (v294 : FVec F S256x256 .bf16) (v296 : FVec F S256x256 .bf16) (v298 : FVec F S256x256 .bf16) (v316 : FVec F S256x64 .bf16) (v317 : FVec F S256x64 .bf16) (v318 : FVec F S256x64 .bf16) (v319 : FVec F S256x64 .bf16), FVec F S256x256 .f32 ← k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v92 v94 v96 v266 v267 v269 v271 v272
  let ⟨v334, v352, v355, v365, v366⟩ : Σ' (v334 : FVec F S256x64 .bf16) (v352 : FVec F S256x64 .bf16) (v355 : FVec F S256x64 .bf16) (v365 : FVec F S256x1 .f32), FVec F S256x256 .bf16 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v294 v296 v298 v317 v318 v319 cst_179
  let v395 : BitVec 32 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v98 v100 v103 v106 v109 v316 v334 v352 v355 v365 v366
  k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v109 v112 v115 v118 v395
  rest13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v100 v103 v106 v109 v112 v115 v118

/-- The body from its part 5 on. -/
def rest5 (d0 : Dev nD) (v2 : BitVec 32) (v36 : FVec F S2x3072 .f32) (v92 : FVec F S512x256 .bf16) (v94 : FVec F S512x256 .bf16) (v96 : FVec F S512x256 .bf16) (v98 : FVec F S256x512 .bf16) (v100 : BitVec 32) (v103 : BitVec 32) (v106 : BitVec 32) (v109 : BitVec 32) (v112 : BitVec 32) (v115 : BitVec 32) (v118 : BitVec 32) (v120 : FVec F S1x512 .f32) (v121 : FVec F S1x512 .f32) (v123 : FVec F S256x512 .f32) (v125 : FVec F S256x1 .f32) : Prog (TpuEff nD τ sig (Elt F) Λ₀ .tc) (Dev nD) := do
  let ⟨v148, v150, v152, v170, v171, v172⟩ : Σ' (v148 : FVec F S256x256 .bf16) (v150 : FVec F S256x256 .bf16) (v152 : FVec F S256x256 .bf16) (v170 : FVec F S256x64 .bf16) (v171 : FVec F S256x64 .bf16), FVec F S256x64 .bf16 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v92 v94 v96 v120 v121 v123 v125
  let ⟨v188, v206, v209, v217, v218⟩ : Σ' (v188 : FVec F S256x64 .bf16) (v206 : FVec F S256x64 .bf16) (v209 : FVec F S256x64 .bf16) (v217 : FVec F S256x256 .f32), FVec F S256 .f32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v148 v150 v152 v171 v172
  let ⟨v246, v247⟩ : Σ' (v246 : BitVec 1), BitVec 1 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v98 v100 v103 v106 v109 v170 v188 v206 v209 v217 v218
  let ⟨v266, v267, v269, v271, v272⟩ : Σ' (v266 : FVec F S1x512 .f32) (v267 : FVec F S1x512 .f32) (v269 : FVec F S256x512 .f32) (v271 : FVec F S256x1 .f32), FVec F S256x1 .f32 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v36 v109 v112 v115 v118 v246 v247
  rest9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v92 v94 v96 v98 v100 v103 v106 v109 v112 v115 v118 v266 v267 v269 v271 v272

/-- The body from its part 1 on. -/
def rest1  : Prog (TpuEff nD τ sig (Elt F) Λ₀ .tc) (Dev nD) := do
  let ⟨d0, v2, v3, v24, c8_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21
  let v36 : FVec F S2x3072 .f32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v3 v24 c8_i32_20
  let ⟨v92, v94⟩ : Σ' (v92 : FVec F S512x256 .bf16), FVec F S512x256 .bf16 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v36
  let ⟨v96, v98, v100, v103, v106, v109, v112, v115, v118, v120, v121, v123, v125⟩ : Σ' (v96 : FVec F S512x256 .bf16) (v98 : FVec F S256x512 .bf16) (v100 : BitVec 32) (v103 : BitVec 32) (v106 : BitVec 32) (v109 : BitVec 32) (v112 : BitVec 32) (v115 : BitVec 32) (v118 : BitVec 32) (v120 : FVec F S1x512 .f32) (v121 : FVec F S1x512 .f32) (v123 : FVec F S256x512 .f32), FVec F S256x1 .f32 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v2 v36
  rest5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 d0 v2 v36 v92 v94 v96 v98 v100 v103 v106 v109 v112 v115 v118 v120 v121 v123 v125

theorem part55_eq : k0_part55 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 = rest1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 := by
  rw [k0_part55_eq_skeleton]; rfl

end

/-- A stretch at the launch's own buffers and semaphores. -/
abbrev inst {β : Type 1} (f : (arg0 : Memref sig .tc .vmem S2x256x512 .f32) → arg0.IsWhole → (arg1 : Memref sig .tc .vmem S512x256 .bf16) → arg1.IsWhole → (arg2 : Memref sig .tc .vmem S512x256 .bf16) → arg2.IsWhole → (arg3 : Memref sig .tc .vmem S512x256 .bf16) → arg3.IsWhole → (arg4 : Memref sig .tc .vmem S256x512 .bf16) → arg4.IsWhole → (arg5 : Memref sig .tc .vmem S2x128 .bf16) → arg5.IsWhole → (arg6 : Memref sig .tc .vmem S128x3072 .bf16) → arg6.IsWhole → (arg7 : Memref sig .tc .vmem S512x256 .bf16) → arg7.IsWhole → (arg8 : Memref sig .tc .vmem S256x512 .bf16) → arg8.IsWhole → (arg9 : Memref sig .tc .vmem S512x512 .f32) → arg9.IsWhole → (arg10 : Memref sig .tc .vmem S512x512 .bf16) → arg10.IsWhole → (arg11 : Memref sig .tc .vmem S512x512 .bf16) → arg11.IsWhole → (arg12 : Memref sig .tc .vmem S8x64x512 .bf16) → arg12.IsWhole → (arg13 : Memref sig .tc .vmem S8x64x512 .bf16) → arg13.IsWhole → (arg14 : Memref sig .tc .vmem S8x64x512 .bf16) → arg14.IsWhole → (arg15 : Memref sig .tc .vmem S8x64x512 .bf16) → arg15.IsWhole → (arg16 : Memref sig .tc .vmem S512x512 .f32) → arg16.IsWhole → (arg17 : Memref sig .tc .vmem S4x8x512 .f32) → arg17.IsWhole → DmaSems sig S2x8 → DmaSems sig S2x8 → DmaSems sig S2x8 → DmaSems sig S2x8 → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11

end Cert.Dit

end
-- ==== Proof.Pieces.lean ====
/-
The body's recurring steps: an all-gather's copies from shares of the device's own slot, a chunk of the feed-forward
(awaited, computed, sent), a chunk of the result (awaited, computed, stored); and how whole buffers part into slots,
chunks, halves and shares, and come back.
-/
module

public import proofs.«01_k».proof.Proof.Stretch

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

/-! ## Bundles -/

/-- The chunks of the second partial sum not yet sent. -/
def P2 (c : Dev nD) (T : Finset (Fin 7)) : sProp 𝕄 :=
  bigSep Finset.univ fun k => if k ∈ T then iprop(emp) else iprop(∃ f, chunk2Pts (F := F) c (peer c k) f)
/-- The shares of the own slot not yet lent. -/
def AGS (c : Dev nD) (p : Fin 4) (T : Finset (Fin 7)) : sProp 𝕄 :=
  bigSep Finset.univ fun k => if k ∈ T then iprop(emp) else slotPts (lent k) p c c ((VI I).slot p c)
def ATS (c : Dev nD) (p : Fin 4) (R : ℕ) : sProp 𝕄 := bigSep Finset.univ fun k : Fin 7 => atPos ER (sendCell c p k) R ∅ 0
def ATR (c : Dev nD) (p : Fin 4) (R : ℕ) : sProp 𝕄 := bigSep Finset.univ fun k : Fin 7 => atPos ER (recvCell c p k) R ∅ 0

theorem emp_bundle (b : Fin 7 → sProp 𝕄) : (bigSep Finset.univ fun k => if k ∈ (Finset.univ : Finset (Fin 7)) then iprop(emp) else b k) ⊢ iprop(emp) := by
  rw [bigSep_congr (Ψ := fun _ => iprop(emp)) (fun k _ => if_pos (Finset.mem_univ k))]; exact Entails.of_eq (bigSep_emp_const _)
theorem P2_univ (c : Dev nD) : P2 (F := F) c Finset.univ ⊢ iprop(emp) := emp_bundle _
theorem AGS_univ (c : Dev nD) (p : Fin 4) : AGS I c p Finset.univ ⊢ iprop(emp) := emp_bundle _

theorem slot_pts (q) (c e : Dev nD) :
    (∀ f, slotPts (F := F) q 0 c e f = (((c : Thread nD τ).loc cc0_scratch2) ↦[S8 e]{q} (f : Buf (Elt F) ((c : Thread nD τ).loc cc0_scratch2))))
    ∧ (∀ f, slotPts (F := F) q 1 c e f = (((c : Thread nD τ).loc cc0_scratch4) ↦[S8 e]{q} (f : Buf (Elt F) ((c : Thread nD τ).loc cc0_scratch4))))
    ∧ (∀ f, slotPts (F := F) q 2 c e f = (((c : Thread nD τ).loc cc0_scratch3) ↦[S8 e]{q} (f : Buf (Elt F) ((c : Thread nD τ).loc cc0_scratch3))))
    ∧ (∀ f, slotPts (F := F) q 3 c e f = (((c : Thread nD τ).loc cc0_scratch5) ↦[S8 e]{q} (f : Buf (Elt F) ((c : Thread nD τ).loc cc0_scratch5)))) :=
  ⟨fun _ => rfl, fun _ => rfl, fun _ => rfl, fun _ => rfl⟩

/-! ## Rows and chunks -/

theorem chunk_row (e : Dev nD) (a : Fin 64) : chunkOf (row64 e a) = e := Fin.ext (by show (64 * e.val + a.val) / 64 = e.val; omega)
theorem inChunk_row (e : Dev nD) (a : Fin 64) : inChunk (row64 e a) = a := Fin.ext (by show (64 * e.val + a.val) % 64 = a.val; omega)
theorem full_emb {s : Shape} {off : Fin s.rank → ℕ} (h : ∀ a, off a = 0) {inb : ∀ a, off a + s.size a ≤ s.size a} (j : s.Idx) :
    (Rect.unit (s := s) off s.size inb).emb j = j := by
  refine funext fun a => Fin.ext ?_
  rw [Rect.emb_apply]; show off a + 1 * (j a).val = (j a).val; rw [h a]; omega
theorem full_val {A : Type} {s : Shape} (f : s.Idx → A) {off : Fin s.rank → ℕ} (h : ∀ a, off a = 0) {inb : ∀ a, off a + s.size a ≤ s.size a} (j : s.Idx) :
    f ((Rect.unit (s := s) off s.size inb).emb j) = f j := by rw [full_emb h]
theorem slot_val {A : Type} (f : S8x64x512.Idx → A) {off : Fin 3 → ℕ} {e : Dev nD} (h : off = ![e.val, 0, 0]) {inb : ∀ a, off a + S1x64x512.size a ≤ S8x64x512.size a} (j : S1x64x512.Idx) :
    f ((Rect.unit (s := S8x64x512) off S1x64x512.size inb).emb j) = slotv f e j := by rw [slot_emb h]; rfl
theorem rows_val {A : Type} (f : S512x512.Idx → A) {off : Fin 2 → ℕ} {e : Dev nD} (h : off = ![64 * e.val, 0]) {inb : ∀ a, off a + S64x512.size a ≤ S512x512.size a} (j : S64x512.Idx) :
    f ((Rect.unit (s := S512x512) off S64x512.size inb).emb j) = rows64 f e j := by rw [rows_emb h]; rfl
theorem mod_val {A : Type} (f : S4x8x512.Idx → A) {off : Fin 3 → ℕ} {m : Fin 4} {e : Dev nD} (h : off = ![m.val, e.val, 0]) {inb : ∀ a, off a + S1x1x512.size a ≤ S4x8x512.size a} (j : S1x1x512.Idx) :
    f ((Rect.unit (s := S4x8x512) off S1x1x512.size inb).emb j) = modrow f m e j := by rw [mod_emb h]; rfl
theorem xblk_val {A : Type} (f : S2x256x512.Idx → A) {off : Fin 3 → ℕ} {b : Fin 2} (h : off = ![b.val, 0, 0]) {inb : ∀ a, off a + S1x256x512.size a ≤ S2x256x512.size a} (j : S1x256x512.Idx) :
    f ((Rect.unit (s := S2x256x512) off S1x256x512.size inb).emb j) = xblk f b j := by rw [xblk_emb h]; rfl

theorem part2_row (d e : Dev nD) (a : Fin 64) (b : Fin 512) : part2 I d (ix2 (row64 e a) b) = ffn I d e (ix2 a b) := by
  show ffn I d (chunkOf (row64 e a)) (ix2 (inChunk (row64 e a)) b) = _; rw [chunk_row, inChunk_row]

/-! ## An all-gather's copies -/

theorem AGS_flip {c : Dev nD} {p : Fin 4} {T : Finset (Fin 7)} {k : Fin 7} (hk : k ∉ T) :
    AGS I c p T ⊢ iprop(slotPts (lent k) p c c ((VI I).slot p c) ∗ (emp -∗ AGS I c p (insert k T))) :=
  flip hk (fun _ => iprop(emp)) (fun k => slotPts (lent k) p c c ((VI I).slot p c))
theorem P2_flip {c : Dev nD} {T : Finset (Fin 7)} {k : Fin 7} (hk : k ∉ T) :
    P2 (F := F) c T ⊢ iprop((∃ f, chunk2Pts (F := F) c (peer c k) f) ∗ (emp -∗ P2 (F := F) c (insert k T))) :=
  flip hk (fun _ => iprop(emp)) (fun k => iprop(∃ f, chunk2Pts (F := F) c (peer c k) f))

theorem step_ag1 {α : Type} {Q : α → sProp 𝕄} {c n : Dev nD} (k : Fin 7) {T : Finset (Fin 7)} (X : CellTallies nD τ sig Unit)
    {sS sR : DmaSem sig} {inb : ∀ a, k0_off31 c a + S1x64x512.size a ≤ S8x64x512.size a}
    {kk : PUnit → Prog (TpuEff nD τ sig (Elt F) Λ₀ .tc) α}
    (hn : n = peer c k) (hk : k ∉ T) (hsS : sS = sIx 1 k) (hsR : sR = rIx 1 k)
    {hsc : ((slotM (Memref.whole cc0_scratch4) (k0_off31 c) inb) : Memref sig (Dev.tc n : Thread nD τ).2.kind .vmem S64x512 .bf16).view.ref.isScScratch = false}
    {hsrc : (slotM (Memref.whole cc0_scratch4) (k0_off31 c) inb).view.WordExact} {hdst : (slotM (Memref.whole cc0_scratch4) (k0_off31 c) inb).view.WordExact}
    {hsem : DmaTarget.Typed .vmem (.dma sR) (.remote (Dev.tc n : Thread nD τ) (slotM (Memref.whole cc0_scratch4) (k0_off31 c) inb) (.dma sS) hsc)} :
    iprop(env (VI I) K ∗ AGS I c 1 T ∗ SS c 1 T ∗ owesX c (X + Or c 1 T))
      ⊢ iprop(((AGS I c 1 (insert k T) ∗ SS c 1 (insert k T) ∗ owesX c (X + Or c 1 (insert k T))) -∗ Wp c (kk ⟨⟩) Q)
          -∗ Wp c (.op (.enqueueDma (slotM (Memref.whole cc0_scratch4) (k0_off31 c) inb) (.remote (Dev.tc n : Thread nD τ) (slotM (Memref.whole cc0_scratch4) (k0_off31 c) inb) (.dma sS) hsc) (.dma sR) hsrc hdst hsem) kk) Q) := by
  iintro ⟨#He, HA, HS, HO⟩ Hk
  ihave HA := (AGS_flip I hk) $$ HA
  icases HA with ⟨Hs, HA⟩
  iapply (step_send1 (VI I) K k X hn hk (k0_off31_eq c) hsS hsR) $$ [Hs HS HO]
  · isplitr; · iexact He
    isplitl [Hs]; · iexact Hs
    isplitl [HS]; · iexact HS
    iexact HO
  iintro ⟨HS, HO⟩
  iapply Hk
  isplitl [HA]
  · iapply HA; iempintro
  isplitl [HS]; · iexact HS
  iexact HO

theorem step_ag3 {α : Type} {Q : α → sProp 𝕄} {c n : Dev nD} (k : Fin 7) {T : Finset (Fin 7)} (X : CellTallies nD τ sig Unit)
    {sS sR : DmaSem sig} {inb : ∀ a, k0_off31 c a + S1x64x512.size a ≤ S8x64x512.size a}
    {kk : PUnit → Prog (TpuEff nD τ sig (Elt F) Λ₀ .tc) α}
    (hn : n = peer c k) (hk : k ∉ T) (hsS : sS = sIx 3 k) (hsR : sR = rIx 3 k)
    {hsc : ((slotM (Memref.whole cc0_scratch5) (k0_off31 c) inb) : Memref sig (Dev.tc n : Thread nD τ).2.kind .vmem S64x512 .bf16).view.ref.isScScratch = false}
    {hsrc : (slotM (Memref.whole cc0_scratch5) (k0_off31 c) inb).view.WordExact} {hdst : (slotM (Memref.whole cc0_scratch5) (k0_off31 c) inb).view.WordExact}
    {hsem : DmaTarget.Typed .vmem (.dma sR) (.remote (Dev.tc n : Thread nD τ) (slotM (Memref.whole cc0_scratch5) (k0_off31 c) inb) (.dma sS) hsc)} :
    iprop(env (VI I) K ∗ AGS I c 3 T ∗ SS c 3 T ∗ owesX c (X + Or c 3 T))
      ⊢ iprop(((AGS I c 3 (insert k T) ∗ SS c 3 (insert k T) ∗ owesX c (X + Or c 3 (insert k T))) -∗ Wp c (kk ⟨⟩) Q)
          -∗ Wp c (.op (.enqueueDma (slotM (Memref.whole cc0_scratch5) (k0_off31 c) inb) (.remote (Dev.tc n : Thread nD τ) (slotM (Memref.whole cc0_scratch5) (k0_off31 c) inb) (.dma sS) hsc) (.dma sR) hsrc hdst hsem) kk) Q) := by
  iintro ⟨#He, HA, HS, HO⟩ Hk
  ihave HA := (AGS_flip I hk) $$ HA
  icases HA with ⟨Hs, HA⟩
  iapply (step_send3 (VI I) K k X hn hk (k0_off31_eq c) hsS hsR) $$ [Hs HS HO]
  · isplitr; · iexact He
    isplitl [Hs]; · iexact Hs
    isplitl [HS]; · iexact HS
    iexact HO
  iintro ⟨HS, HO⟩
  iapply Hk
  isplitl [HA]
  · iapply HA; iempintro
  isplitl [HS]; · iexact HS
  iexact HO

/-! ## Loads of the buffers read chunk by chunk -/

section Loads
theorem ld_x2 {α : Type} {Q : α → sProp 𝕄} {c : Dev nD} {off : Fin 2 → ℕ} (e : Dev nD) (h : off = ![64 * e.val, 0]) {inb : ∀ a, off a + S64x512.size a ≤ S512x512.size a} (f : S512x512.Idx → F .f32)
    {hl : (Memref.whole cc0_scratch6 : Memref sig .tc .vmem S512x512 .f32).view.LoadsAt (Rect.unit (s := S512x512) off S64x512.size inb).toLoadRect} {k : Vec F S64x512 .f32 → Prog (TpuEff nD τ sig (Elt F) Λ₀ .tc) α} :
    (((c : Thread nD τ).loc cc0_scratch6) ↦{fullShare} (f : Buf (Elt F) ((c : Thread nD τ).loc cc0_scratch6)) : sProp 𝕄)
      ⊢ iprop(((((c : Thread nD τ).loc cc0_scratch6) ↦{fullShare} (f : Buf (Elt F) ((c : Thread nD τ).loc cc0_scratch6))) -∗ Wp c (k (rows64 f e)) Q)
          -∗ Wp c (.op (.load (Memref.whole cc0_scratch6 : Memref sig .tc .vmem S512x512 .f32) (Rect.unit (s := S512x512) off S64x512.size inb).toLoadRect hl) k) Q) :=
  ldS (cs := .vmem) (ix := 16) (hn := rfl) (S := Finset.univ) (r := Rect.unit (s := S512x512) off S64x512.size inb) (rows64 f e) (Finset.subset_univ _) (fun j => rows_val f h j)

theorem ld_mod {α : Type} {Q : α → sProp 𝕄} {c : Dev nD} {off : Fin 3 → ℕ} (m : Fin 4) (e : Dev nD) (h : off = ![m.val, e.val, 0]) {inb : ∀ a, off a + S1x1x512.size a ≤ S4x8x512.size a} (f : S4x8x512.Idx → F .f32)
    {hl : (Memref.whole cc0_scratch7 : Memref sig .tc .vmem S4x8x512 .f32).view.LoadsAt (Rect.unit (s := S4x8x512) off S1x1x512.size inb).toLoadRect} {k : Vec F S1x1x512 .f32 → Prog (TpuEff nD τ sig (Elt F) Λ₀ .tc) α} :
    (((c : Thread nD τ).loc cc0_scratch7) ↦{fullShare} (f : Buf (Elt F) ((c : Thread nD τ).loc cc0_scratch7)) : sProp 𝕄)
      ⊢ iprop(((((c : Thread nD τ).loc cc0_scratch7) ↦{fullShare} (f : Buf (Elt F) ((c : Thread nD τ).loc cc0_scratch7))) -∗ Wp c (k (modrow f m e)) Q)
          -∗ Wp c (.op (.load (Memref.whole cc0_scratch7 : Memref sig .tc .vmem S4x8x512 .f32) (Rect.unit (s := S4x8x512) off S1x1x512.size inb).toLoadRect hl) k) Q) :=
  ldS (cs := .vmem) (ix := 17) (hn := rfl) (S := Finset.univ) (r := Rect.unit (s := S4x8x512) off S1x1x512.size inb) (modrow f m e) (Finset.subset_univ _) (fun j => mod_val f h j)

theorem ld_slot1 {α : Type} {Q : α → sProp 𝕄} {c : Dev nD} {q : PosShare TreeShare} {off : Fin 3 → ℕ} (e : Dev nD) (h : off = ![e.val, 0, 0]) {inb : ∀ a, off a + S1x64x512.size a ≤ S8x64x512.size a} (f : S8x64x512.Idx → F .bf16)
    {hl : (Memref.whole cc0_scratch4 : Memref sig .tc .vmem S8x64x512 .bf16).view.LoadsAt (Rect.unit (s := S8x64x512) off S1x64x512.size inb).toLoadRect} {k : Vec F S1x64x512 .bf16 → Prog (TpuEff nD τ sig (Elt F) Λ₀ .tc) α} :
    slotPts q 1 c e f
      ⊢ iprop((slotPts q 1 c e f -∗ Wp c (k (slotv f e)) Q) -∗ Wp c (.op (.load (Memref.whole cc0_scratch4 : Memref sig .tc .vmem S8x64x512 .bf16) (Rect.unit (s := S8x64x512) off S1x64x512.size inb).toLoadRect hl) k) Q) :=
  ldS (cs := .vmem) (ix := 14) (hn := rfl) (S := S8 e) (r := Rect.unit (s := S8x64x512) off S1x64x512.size inb) (slotv f e) (slot_set h).subset (fun j => slot_val f h j)

theorem ld_slot3 {α : Type} {Q : α → sProp 𝕄} {c : Dev nD} {q : PosShare TreeShare} {off : Fin 3 → ℕ} (e : Dev nD) (h : off = ![e.val, 0, 0]) {inb : ∀ a, off a + S1x64x512.size a ≤ S8x64x512.size a} (f : S8x64x512.Idx → F .bf16)
    {hl : (Memref.whole cc0_scratch5 : Memref sig .tc .vmem S8x64x512 .bf16).view.LoadsAt (Rect.unit (s := S8x64x512) off S1x64x512.size inb).toLoadRect} {k : Vec F S1x64x512 .bf16 → Prog (TpuEff nD τ sig (Elt F) Λ₀ .tc) α} :
    slotPts q 3 c e f
      ⊢ iprop((slotPts q 3 c e f -∗ Wp c (k (slotv f e)) Q) -∗ Wp c (.op (.load (Memref.whole cc0_scratch5 : Memref sig .tc .vmem S8x64x512 .bf16) (Rect.unit (s := S8x64x512) off S1x64x512.size inb).toLoadRect hl) k) Q) :=
  ldS (cs := .vmem) (ix := 15) (hn := rfl) (S := S8 e) (r := Rect.unit (s := S8x64x512) off S1x64x512.size inb) (slotv f e) (slot_set h).subset (fun j => slot_val f h j)

/-- The slot that has arrived as number `k.rev`, from the device it is of, `peer c k`; -/
theorem RR_slot1 {V : Vals F} {c : Dev nD} (k : Fin 7) {S : Finset (Fin 7)} (hk : k.rev ∈ S) :
    RR V c 1 S ⊢ iprop(slotPts fullShare 1 c (peer c k) V.ag1 ∗ (slotPts fullShare 1 c (peer c k) V.ag1 -∗ RR V c 1 S)) := by
  unfold RR
  iintro H
  ihave H := (borrow hk _ _) $$ H
  icases H with ⟨⟨Ha, Hs⟩, H⟩
  unfold recvPay
  rw [back_eq_peer, Fin.rev_rev]
  isplitl [Hs]; · iexact Hs
  iintro Hs
  iapply H
  isplitl [Ha]; · iexact Ha
  iexact Hs
theorem RR_slot3 {V : Vals F} {c : Dev nD} (k : Fin 7) {S : Finset (Fin 7)} (hk : k.rev ∈ S) :
    RR V c 3 S ⊢ iprop(slotPts fullShare 3 c (peer c k) V.ag2 ∗ (slotPts fullShare 3 c (peer c k) V.ag2 -∗ RR V c 3 S)) := by
  unfold RR
  iintro H
  ihave H := (borrow hk _ _) $$ H
  icases H with ⟨⟨Ha, Hs⟩, H⟩
  unfold recvPay
  rw [back_eq_peer, Fin.rev_rev]
  isplitl [Hs]; · iexact Hs
  iintro Hs
  iapply H
  isplitl [Ha]; · iexact Ha
  iexact Hs

theorem RR_got1 {c : Dev nD} (k : Fin 7) {S : Finset (Fin 7)} (hk : k.rev ∈ S) :
    RR (VI I) c 1 S ⊢ iprop(slotPts fullShare 1 c (peer c k) (ag1 I) ∗ (slotPts fullShare 1 c (peer c k) (ag1 I) -∗ RR (VI I) c 1 S)) := RR_slot1 k hk
theorem RR_got3 {c : Dev nD} (k : Fin 7) {S : Finset (Fin 7)} (hk : k.rev ∈ S) :
    RR (VI I) c 3 S ⊢ iprop(slotPts fullShare 3 c (peer c k) (ag2 I) ∗ (slotPts fullShare 3 c (peer c k) (ag2 I) -∗ RR (VI I) c 3 S)) := RR_slot3 k hk

end Loads

/-! ## A chunk of the feed-forward: awaited, computed, stored, sent -/

theorem part2_at (d : Dev nD) {e : Dev nD} {off : Fin 2 → ℕ} (h : off = ![64 * e.val, 0]) {inb : ∀ a, off a + S64x512.size a ≤ S512x512.size a} (j : S64x512.Idx) :
    ffn I d e j = part2 I d ((Rect.unit (s := S512x512) off S64x512.size inb).emb j) := by
  rw [rows_emb h]; exact (congrArg (ffn I d e) (eq_ix2 j)).trans (part2_row I d e (j 0) (j 1)).symm

theorem chunk2_of (c e : Dev nD) : (((c : Thread nD τ).loc cc0_scratch1) ↦[C8 e]{fullShare} (part2 I c : Buf (Elt F) ((c : Thread nD τ).loc cc0_scratch1)) : sProp 𝕄) ⊢ chunk2Pts c e ((VI I).part2 c) :=
  Entails.of_eq rfl

theorem step_ffn {α : Type} {Q : α → sProp 𝕄} {c n : Dev nD} (k : Fin 7) {S T : Finset (Fin 7)} (X : CellTallies nD τ sig Unit) {w : BitVec 32} (hw : w = BitVec.ofNat 32 (1 + k.val))
    (hn : n = peer c k) (hS : k.rev ∉ S) (hT : k ∉ T) {sm sS sR : DmaSem sig} (hsm : sm = rIx 1 k.rev) (hsS : sS = sIx 2 k) (hsR : sR = rIx 2 k)
    (hO : Above 3 X) (pay : Vec F S1x64x512 .bf16 → Vec F S64x512 .f32 → Vec F S1x1x512 .f32 → Vec F S1x1x512 .f32 → Vec F S1x1x512 .f32 → Vec F S64x512 .bf16)
    (hpay : pay (slotv (ag1 I) (peer c k)) (rows64 (I c).x2 (peer c k)) (modrow (I c).modc 0 (peer c k)) (modrow (I c).modc 1 (peer c k)) (modrow (I c).modc 2 (peer c k)) = ffn I c (peer c k))
    {inbD : ∀ a, k0_off31 c a + S1x64x512.size a ≤ S8x64x512.size a} {inbR : ∀ a, k0_off37 c w a + S64x512.size a ≤ S512x512.size a} {inbS : ∀ a, k0_off32 c w a + S64x512.size a ≤ S512x512.size a}
    {inbA : ∀ a, k0_off36 c w a + S1x64x512.size a ≤ S8x64x512.size a}
    {inb0 : ∀ a, k0_off38 c w a + S1x1x512.size a ≤ S4x8x512.size a} {inb1 : ∀ a, k0_off39 c w a + S1x1x512.size a ≤ S4x8x512.size a} {inb2 : ∀ a, k0_off40 c w a + S1x1x512.size a ≤ S4x8x512.size a}
    {h1 h2 hl3 hl4 hl5 hl6 hl7 hl8 hst hmk hsc hsrc hdst hsem} {kk : PUnit → Prog (TpuEff nD τ sig (Elt F) Λ₀ .tc) α} :
    iprop(env (VI I) K ∗ RR (VI I) c 1 S ∗ (((c : Thread nD τ).loc cc0_scratch6) ↦{fullShare} ((I c).x2 : Buf (Elt F) ((c : Thread nD τ).loc cc0_scratch6)))
        ∗ (((c : Thread nD τ).loc cc0_scratch7) ↦{fullShare} ((I c).modc : Buf (Elt F) ((c : Thread nD τ).loc cc0_scratch7))) ∗ P2 (F := F) c T ∗ SS c 2 T ∗ owesX c (X + Or c 2 T))
      ⊢ iprop(((RR (VI I) c 1 (insert k.rev S) ∗ (((c : Thread nD τ).loc cc0_scratch6) ↦{fullShare} ((I c).x2 : Buf (Elt F) ((c : Thread nD τ).loc cc0_scratch6)))
        ∗ (((c : Thread nD τ).loc cc0_scratch7) ↦{fullShare} ((I c).modc : Buf (Elt F) ((c : Thread nD τ).loc cc0_scratch7))) ∗ P2 (F := F) c (insert k T) ∗ SS c 2 (insert k T) ∗ owesX c (X + Or c 2 (insert k T))) -∗ Wp c (kk ⟨⟩) Q)
          -∗ Wp c (.op (.waitDma2 sm (slotM (Memref.whole cc0_scratch4) (k0_off31 c) inbD) (slotM (Memref.whole cc0_scratch4) (k0_off31 c) inbD) h1 h2) fun _ =>
            .op (.load (Memref.whole cc0_scratch4 : Memref sig .tc .vmem S8x64x512 .bf16) (Rect.unit (s := S8x64x512) (k0_off36 c w) S1x64x512.size inbA).toLoadRect hl3) fun a =>
            .op (.load (Memref.whole cc0_scratch6 : Memref sig .tc .vmem S512x512 .f32) (Rect.unit (s := S512x512) (k0_off37 c w) S64x512.size inbR).toLoadRect hl4) fun x =>
            .op (.load (Memref.whole cc0_scratch7 : Memref sig .tc .vmem S4x8x512 .f32) (Rect.unit (s := S4x8x512) (k0_off38 c w) S1x1x512.size inb0).toLoadRect hl5) fun m0 =>
            .op (.load (Memref.whole cc0_scratch7 : Memref sig .tc .vmem S4x8x512 .f32) (Rect.unit (s := S4x8x512) (k0_off39 c w) S1x1x512.size inb1).toLoadRect hl6) fun m1 =>
            .op (.load (Memref.whole cc0_scratch7 : Memref sig .tc .vmem S4x8x512 .f32) (Rect.unit (s := S4x8x512) (k0_off40 c w) S1x1x512.size inb2).toLoadRect hl7) fun m2 =>
            .op (.load (Memref.whole cc0_scratch1 : Memref sig .tc .vmem S512x512 .bf16) (Rect.unit (s := S512x512) (k0_off37 c w) S64x512.size inbR).toLoadRect hl8) fun _ =>
            .op (.store (Memref.whole cc0_scratch1 : Memref sig .tc .vmem S512x512 .bf16) (Rect.unit (s := S512x512) (k0_off37 c w) S64x512.size inbR) (pay a x m0 m1 m2) Finset.univ hst hmk) fun _ =>
            .op (.enqueueDma (rowsM (Memref.whole cc0_scratch1) (k0_off32 c w) inbS) (.remote (Dev.tc n : Thread nD τ) (slotM (Memref.whole cc0_scratch3) (k0_off31 c) inbD) (.dma sS) hsc) (.dma sR) hsrc hdst hsem) kk) Q) := by
  subst hw
  iintro ⟨#He, HR, Hx, Hm, HP, HS, HO⟩ Hk
  iapply (step_recv (VI I) K 1 k.rev hS hsm (hO.add (above_Or c 2 T (by decide))) (slotM_credit _ _ _)) $$ [HR HO]
  · isplitr; · iexact He
    isplitl [HR]; · iexact HR
    iexact HO
  iintro ⟨HR, HO⟩
  ihave HR := (RR_got1 I k (Finset.mem_insert_self _ _)) $$ HR
  icases HR with ⟨Hs, HR⟩
  iapply (ld_slot1 (peer c k) (k0_off36_eq c k) (ag1 I)) $$ Hs
  iintro Hs
  ihave HR := HR $$ Hs
  iapply (ld_x2 (peer c k) (k0_off37_eq c k) (I c).x2) $$ Hx
  iintro Hx
  iapply (ld_mod 0 (peer c k) (k0_off38_eq c k) (I c).modc) $$ Hm
  iintro Hm
  iapply (ld_mod 1 (peer c k) (k0_off39_eq c k) (I c).modc) $$ Hm
  iintro Hm
  iapply (ld_mod 2 (peer c k) (k0_off40_eq c k) (I c).modc) $$ Hm
  iintro Hm
  ihave HP := (P2_flip hT) $$ HP
  icases HP with ⟨⟨%f, Hc⟩, HP⟩
  unfold chunk2Pts
  iapply (ldS (cs := .vmem) (ix := 11) (hn := rfl) (S := C8 (peer c k)) (r := Rect.unit (s := S512x512) (k0_off37 c (BitVec.ofNat 32 (1 + k.val))) S64x512.size inbR) (rows64 f (peer c k))
    (rows_set (k0_off37_eq c k)).subset (fun j => rows_val f (k0_off37_eq c k) j)) $$ Hc
  iintro Hc
  iapply (stS (cs := .vmem) (ix := 11) (hn := rfl) (S := C8 (peer c k)) (r := Rect.unit (s := S512x512) (k0_off37 c (BitVec.ofNat 32 (1 + k.val))) S64x512.size inbR) (part2 I c)
    (rows_set (k0_off37_eq c k)) (fun j => (congrFun hpay j).trans (part2_at I c (e := peer c k) (k0_off37_eq c k) j))) $$ Hc
  iintro Hc
  iapply (step_send2 (VI I) K k X hn hT (k0_off31_eq c) (k0_off32_eq c k) hsS hsR) $$ [Hc HS HO]
  · isplitr; · iexact He
    isplitl [Hc]; · iapply (chunk2_of I c (peer c k)); iexact Hc
    isplitl [HS]; · iexact HS
    iexact HO
  iintro ⟨HS, HO⟩
  iapply Hk
  isplitl [HR]; · iexact HR
  isplitl [Hx]; · iexact Hx
  isplitl [Hm]; · iexact Hm
  isplitl [HP]
  · iapply HP; iempintro
  isplitl [HS]; · iexact HS
  iexact HO

/-! ## A chunk of the result: awaited, computed, stored -/

/-- The rows of the result stored so far. -/
def outD (c : Dev nD) (T : Finset (Fin 7)) (i : S512x512.Idx) : Prop := chunkOf (i 0) = c ∨ ∃ k ∈ T, chunkOf (i 0) = peer c k
theorem outD_univ (c : Dev nD) (i : S512x512.Idx) : outD c Finset.univ i := by
  have h : ∀ e : Dev nD, e = c ∨ ∃ k ∈ (Finset.univ : Finset (Fin 7)), e = peer c k := by revert c; decide
  exact h _

theorem outc_row (c e : Dev nD) (a : Fin 64) (b : Fin 512) : outc I c (ix2 (row64 e a) b) = (if e = c then outOwn I c else outOf I c e) (ix2 a b) := by
  show (if chunkOf (row64 e a) = c then outOwn I c else outOf I c (chunkOf (row64 e a))) (ix2 (inChunk (row64 e a)) b) = _
  rw [chunk_row, inChunk_row]

theorem outc_at {c e : Dev nD} (hne : e ≠ c) {off : Fin 2 → ℕ} (h : off = ![64 * e.val, 0]) {inb : ∀ a, off a + S64x512.size a ≤ S512x512.size a} (j : S64x512.Idx) :
    outOf I c e j = outc I c ((Rect.unit (s := S512x512) off S64x512.size inb).emb j) := by
  rw [rows_emb h]; refine Eq.trans ?_ (outc_row I c e (j 0) (j 1)).symm
  rw [if_neg hne]; exact congrArg (outOf I c e) (eq_ix2 j)
theorem outc_at_own {c : Dev nD} {off : Fin 2 → ℕ} (h : off = ![64 * c.val, 0]) {inb : ∀ a, off a + S64x512.size a ≤ S512x512.size a} (j : S64x512.Idx) :
    outOwn I c j = outc I c ((Rect.unit (s := S512x512) off S64x512.size inb).emb j) := by
  rw [rows_emb h]; refine Eq.trans ?_ (outc_row I c c (j 0) (j 1)).symm
  rw [if_pos rfl]; exact congrArg (outOwn I c) (eq_ix2 j)

theorem mem_rows {e : Dev nD} {off : Fin 2 → ℕ} (h : off = ![64 * e.val, 0]) {inb : ∀ a, off a + S64x512.size a ≤ S512x512.size a} {i : S512x512.Idx} (hi : chunkOf (i 0) = e) :
    i ∈ (Rect.unit (s := S512x512) off S64x512.size inb).set := by
  rw [rows_set h]; unfold C8; rw [Finset.mem_filter]
  exact ⟨Finset.mem_univ _, congrArg Fin.val hi⟩

theorem step_out {α : Type} {Q : α → sProp 𝕄} {c : Dev nD} (k : Fin 7) {S T : Finset (Fin 7)} {w : BitVec 32} (hw : w = BitVec.ofNat 32 (1 + k.val))
    (hS : k.rev ∉ S) {sm : DmaSem sig} (hsm : sm = rIx 3 k.rev)
    (pay : Vec F S1x64x512 .bf16 → Vec F S64x512 .f32 → Vec F S1x1x512 .f32 → Vec F S1x64x512 .bf16 → Vec F S1x1x512 .f32 → Vec F S64x512 .f32)
    (hpay : pay (slotv (ag2 I) (peer c k)) (rows64 (I c).x2 (peer c k)) (modrow (I c).modc 0 (peer c k)) (slotv (ag1 I) (peer c k)) (modrow (I c).modc 3 (peer c k)) = outOf I c (peer c k))
    {inbD : ∀ a, k0_off31 c a + S1x64x512.size a ≤ S8x64x512.size a} {inbR : ∀ a, k0_off37 c w a + S64x512.size a ≤ S512x512.size a}
    {inbA : ∀ a, k0_off36 c w a + S1x64x512.size a ≤ S8x64x512.size a}
    {inb0 : ∀ a, k0_off38 c w a + S1x1x512.size a ≤ S4x8x512.size a} {inb3 : ∀ a, k0_off42 c w a + S1x1x512.size a ≤ S4x8x512.size a}
    {h1 h2 hl3 hl4 hl5 hl6 hl7 hl8 hst hmk} {kk : PUnit → Prog (TpuEff nD τ sig (Elt F) Λ₀ .tc) α} :
    iprop(env (VI I) K ∗ RR (VI I) c 3 S ∗ RR (VI I) c 1 Finset.univ ∗ (((c : Thread nD τ).loc cc0_scratch6) ↦{fullShare} ((I c).x2 : Buf (Elt F) ((c : Thread nD τ).loc cc0_scratch6)))
        ∗ (((c : Thread nD τ).loc cc0_scratch7) ↦{fullShare} ((I c).modc : Buf (Elt F) ((c : Thread nD τ).loc cc0_scratch7))) ∗ agr c cc0_stg9_0 (outD c T) (outc I c) ∗ owesX c 0)
      ⊢ iprop(((RR (VI I) c 3 (insert k.rev S) ∗ RR (VI I) c 1 Finset.univ ∗ (((c : Thread nD τ).loc cc0_scratch6) ↦{fullShare} ((I c).x2 : Buf (Elt F) ((c : Thread nD τ).loc cc0_scratch6)))
        ∗ (((c : Thread nD τ).loc cc0_scratch7) ↦{fullShare} ((I c).modc : Buf (Elt F) ((c : Thread nD τ).loc cc0_scratch7))) ∗ agr c cc0_stg9_0 (outD c (insert k T)) (outc I c) ∗ owesX c 0) -∗ Wp c (kk ⟨⟩) Q)
          -∗ Wp c (.op (.waitDma2 sm (slotM (Memref.whole cc0_scratch5) (k0_off31 c) inbD) (slotM (Memref.whole cc0_scratch5) (k0_off31 c) inbD) h1 h2) fun _ =>
            .op (.load (Memref.whole cc0_scratch5 : Memref sig .tc .vmem S8x64x512 .bf16) (Rect.unit (s := S8x64x512) (k0_off36 c w) S1x64x512.size inbA).toLoadRect hl3) fun g =>
            .op (.load (Memref.whole cc0_scratch6 : Memref sig .tc .vmem S512x512 .f32) (Rect.unit (s := S512x512) (k0_off37 c w) S64x512.size inbR).toLoadRect hl4) fun x =>
            .op (.load (Memref.whole cc0_scratch7 : Memref sig .tc .vmem S4x8x512 .f32) (Rect.unit (s := S4x8x512) (k0_off38 c w) S1x1x512.size inb0).toLoadRect hl5) fun m0 =>
            .op (.load (Memref.whole cc0_scratch4 : Memref sig .tc .vmem S8x64x512 .bf16) (Rect.unit (s := S8x64x512) (k0_off36 c w) S1x64x512.size inbA).toLoadRect hl6) fun a =>
            .op (.load (Memref.whole cc0_scratch7 : Memref sig .tc .vmem S4x8x512 .f32) (Rect.unit (s := S4x8x512) (k0_off42 c w) S1x1x512.size inb3).toLoadRect hl7) fun m3 =>
            .op (.load (Memref.whole cc0_stg9_0 : Memref sig .tc .vmem S512x512 .f32) (Rect.unit (s := S512x512) (k0_off37 c w) S64x512.size inbR).toLoadRect hl8) fun _ =>
            .op (.store (Memref.whole cc0_stg9_0 : Memref sig .tc .vmem S512x512 .f32) (Rect.unit (s := S512x512) (k0_off37 c w) S64x512.size inbR) (pay g x m0 a m3) Finset.univ hst hmk) kk) Q) := by
  subst hw
  iintro ⟨#He, HR, HR1, Hx, Hm, Ho, HO⟩ Hk
  iapply (step_recv (VI I) K 3 k.rev hS hsm (Above.zero _) (slotM_credit _ _ _)) $$ [HR HO]
  · isplitr; · iexact He
    isplitl [HR]; · iexact HR
    iexact HO
  iintro ⟨HR, HO⟩
  ihave HR := (RR_got3 I k (Finset.mem_insert_self _ _)) $$ HR
  icases HR with ⟨Hs, HR⟩
  iapply (ld_slot3 (peer c k) (k0_off36_eq c k) (ag2 I)) $$ Hs
  iintro Hs
  ihave HR := HR $$ Hs
  iapply (ld_x2 (peer c k) (k0_off37_eq c k) (I c).x2) $$ Hx
  iintro Hx
  iapply (ld_mod 0 (peer c k) (k0_off38_eq c k) (I c).modc) $$ Hm
  iintro Hm
  ihave HR1 := (RR_got1 I k (Finset.mem_univ _)) $$ HR1
  icases HR1 with ⟨Hs, HR1⟩
  iapply (ld_slot1 (peer c k) (k0_off36_eq c k) (ag1 I)) $$ Hs
  iintro Hs
  ihave HR1 := HR1 $$ Hs
  iapply (ld_mod 3 (peer c k) (k0_off42_eq c k) (I c).modc) $$ Hm
  iintro Hm
  iapply (ldA (cs := .vmem) (ix := 9) (hn := rfl)) $$ Ho
  iintro %v Ho
  iapply (stA (cs := .vmem) (ix := 9) (hn := rfl) (r := Rect.unit (s := S512x512) (k0_off37 c (BitVec.ofNat 32 (1 + k.val))) S64x512.size inbR) (outD c (insert k T)) (fun i hi => by
      rcases hi with h | ⟨k', hk', h⟩
      · exact Or.inl (Or.inl h)
      · rcases Finset.mem_insert.mp hk' with rfl | hk'
        · exact Or.inr (mem_rows (k0_off37_eq c k') h)
        · exact Or.inl (Or.inr ⟨k', hk', h⟩)) (fun j => (congrFun hpay j).trans (outc_at I (e := peer c k) (peer_ne c k) (k0_off37_eq c k) j))) $$ Ho
  iintro Ho
  iapply Hk
  isplitl [HR]; · iexact HR
  isplitl [HR1]; · iexact HR1
  isplitl [Hx]; · iexact Hx
  isplitl [Hm]; · iexact Hm
  isplitl [Ho]; · iexact Ho
  iexact HO

end Cert.Dit

end
-- ==== Proof.Joins.lean ====
/-
How whole buffers part into slots, chunks, halves and shares, and how they come back.
-/
module

public import proofs.«01_k».proof.Proof.Pieces

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

/-! ## Slots -/

theorem four {M : Type} [URA M] (Φ : Fin 4 → sProp M) : bigSep Finset.univ Φ = iprop(Φ 0 ∗ Φ 1 ∗ Φ 2 ∗ Φ 3) := by
  rw [show (Finset.univ : Finset (Fin 4)) = insert 0 (insert 1 (insert 2 {3})) by decide, bigSep_insert (by decide), bigSep_insert (by decide), bigSep_insert (by decide), bigSep_singleton]
  rfl

theorem slotSet_disj (p : Fin 4) (e e' : Dev nD) (h : e ≠ e') : Disjoint (slotSet p e) (slotSet p e') := match p with
  | 0 => S8_disj e e' h | 1 => S8_disj e e' h | 2 => S8_disj e e' h | 3 => S8_disj e e' h
theorem slotSet_union (p : Fin 4) : (Finset.univ : Finset (Dev nD)).biUnion (slotSet p) = Finset.univ := match p with
  | 0 => S8_union | 1 => S8_union | 2 => S8_union | 3 => S8_union

theorem whole_slots (p : Fin 4) (c : Dev nD) (f : (slotRef p).ty.Contents (Elt F)) :
    (((c : Thread nD τ).loc (slotRef p)) ↦{fullShare} (f : Buf (Elt F) ((c : Thread nD τ).loc (slotRef p))) : sProp 𝕄)
      = iprop(slotPts fullShare p c c f ∗ bigSep Finset.univ fun k : Fin 7 => slotPts fullShare p c (peer c k) f) := by
  have h : (_ : sProp 𝕄) = _ := pointsTo_biUnion (ℓ := (c : Thread nD τ).loc (slotRef p)) (q := fullShare) (f := (f : Buf (Elt F) ((c : Thread nD τ).loc (slotRef p))))
    Finset.univ (slotSet p) (fun e _ e' _ h => slotSet_disj p e e' h)
  rw [slotSet_union] at h
  exact h.trans (bigSep_dev c fun e => slotPts fullShare p c e f)

theorem split_any (p : Fin 4) (c : Dev nD) (f : (slotRef p).ty.Contents (Elt F)) :
    (((c : Thread nD τ).loc (slotRef p)) ↦{fullShare} (f : Buf (Elt F) ((c : Thread nD τ).loc (slotRef p))) : sProp 𝕄)
      ⊢ iprop(slotAny p c c ∗ bigSep Finset.univ fun k : Fin 7 => slotAny (F := F) p c (peer c k)) := by
  rw [whole_slots]
  have h : ∀ e, slotPts fullShare p c e f ⊢ slotAny (F := F) p c e := fun e => by unfold slotAny; iintro H; iexists f; iexact H
  exact BIClass.sep_mono (h c) (bigSep_mono fun k _ => h (peer c k))

theorem by_phase (c : Dev nD) (Φ : Fin 7 → Fin 4 → sProp 𝕄) : (bigSep Finset.univ fun k : Fin 7 => bigSep Finset.univ fun p : Fin 4 => Φ k p)
    = iprop((bigSep Finset.univ fun k => Φ k 0) ∗ (bigSep Finset.univ fun k => Φ k 1) ∗ (bigSep Finset.univ fun k => Φ k 2) ∗ (bigSep Finset.univ fun k => Φ k 3)) := by
  rw [bigSep_congr (fun k _ => four (Φ k)), bigSep_sep', bigSep_sep', bigSep_sep']

/-- Everything of phase `p` has arrived: the whole buffer, and the cells. -/
theorem arrived (V : Vals F) (p : Fin 4) (c : Dev nD) :
    iprop(slotPts fullShare p c c (V.slot p c) ∗ RR V c p Finset.univ)
      ⊢ iprop((((c : Thread nD τ).loc (slotRef p)) ↦{fullShare} (V.slot p c : Buf (Elt F) ((c : Thread nD τ).loc (slotRef p)))) ∗ ATR (F := F) c p 1) := by
  have h : RR V c p Finset.univ = iprop(ATR (F := F) c p 1 ∗ bigSep Finset.univ fun k : Fin 7 => slotPts fullShare p c (peer c k) (V.slot p c)) := by
    unfold RR ATR
    rw [← bigSep_back c fun e => slotPts fullShare p c e (V.slot p c), ← bigSep_sep']
    exact bigSep_congr fun k _ => if_pos (Finset.mem_univ k)
  rw [h, whole_slots]
  iintro ⟨Ho, Ha, Hs⟩
  isplitl [Ho Hs]
  · isplitl [Ho]; · iexact Ho
    iexact Hs
  iexact Ha

/-! ## What the entry signals bring -/

theorem starts (c : Dev nD) (p : Fin 4) :
    iprop((bigSep Finset.univ fun k : Fin 7 => iprop(dutyTok ER (sendCell c p k) 0 0 ∗ dutyTok ER (recvCell (peer c k) p k) 0 0))
        ∗ bigSep Finset.univ fun k : Fin 7 => slotAny (F := F) p (peer c k) c)
      ⊢ SS c p ∅ := by
  unfold SS
  rw [← bigSep_sep']
  refine bigSep_mono fun k _ => ?_
  rw [if_neg (Finset.notMem_empty k)]
  show (_ : sProp 𝕄) ⊢ _
  iintro ⟨⟨H1, H2⟩, H3⟩
  isplitl [H1]; · iexact H1
  isplitl [H2]; · iexact H2
  iexact H3

/-- The copies of a phase all started: their departures to wait for. -/
theorem departs (V : Vals F) (c : Dev nD) (p : Fin 4) : iprop(SS c p Finset.univ ∗ ATS (F := F) c p 0) ⊢ SW V c p ∅ := by
  unfold SS ATS SW
  rw [← bigSep_sep']
  refine bigSep_mono fun k _ => ?_
  rw [if_pos (Finset.mem_univ k), if_neg (Finset.notMem_empty k)]
  show (_ : sProp 𝕄) ⊢ _
  iintro ⟨H1, H2⟩
  isplitl [H2]; · iexact H2
  iexact H1

/-- All departures of a phase waited for. -/
theorem departed (V : Vals F) (c : Dev nD) (p : Fin 4) : SW V c p Finset.univ ⊢ iprop(ATS (F := F) c p 1 ∗ bigSep Finset.univ fun k : Fin 7 => sendPay V p c k) := by
  unfold SW ATS
  rw [← bigSep_sep']
  refine bigSep_mono fun k _ => ?_
  rw [if_pos (Finset.mem_univ k)]
  exact BI.Entails.refl _

/-! ## Shares of the own slot -/

abbrev dropped : PosShare TreeShare := Transfers.shareDrop fullShare 7

theorem lend (p : Fin 4) (c : Dev nD) :
    slotPts fullShare p c c ((VI I).slot p c) ⊢ iprop(slotPts dropped p c c ((VI I).slot p c) ∗ AGS I c p ∅) := by
  unfold AGS
  rw [bigSep_congr (Ψ := fun k : Fin 7 => slotPts (lent k) p c c ((VI I).slot p c)) (fun k _ => if_neg (Finset.notMem_empty k))]
  exact (Transfers.pointsTo_toks fullShare 7).1
theorem unlend (p : Fin 4) (c : Dev nD) :
    iprop(slotPts dropped p c c ((VI I).slot p c) ∗ bigSep Finset.univ fun k : Fin 7 => slotPts (lent k) p c c ((VI I).slot p c)) ⊢ slotPts fullShare p c c ((VI I).slot p c) :=
  (Transfers.pointsTo_toks fullShare 7).2

/-! ## Chunks -/

theorem chunks1 (c : Dev nD) (f : (cc0_scratch0 : Ref sig .tc).ty.Contents (Elt F)) :
    (((c : Thread nD τ).loc cc0_scratch0) ↦{fullShare} (f : Buf (Elt F) ((c : Thread nD τ).loc cc0_scratch0)) : sProp 𝕄)
      = iprop(chunk1Pts c c f ∗ bigSep Finset.univ fun k : Fin 7 => chunk1Pts c (peer c k) f) := by
  have h : (_ : sProp 𝕄) = _ := pointsTo_biUnion (ℓ := (c : Thread nD τ).loc cc0_scratch0) (q := fullShare) (f := (f : Buf (Elt F) ((c : Thread nD τ).loc cc0_scratch0)))
    Finset.univ C8 (fun e _ e' _ h => C8_disj e e' h)
  rw [C8_union] at h
  exact h.trans (bigSep_dev c fun e => chunk1Pts c e f)
theorem chunks2 (c : Dev nD) (f : (cc0_scratch1 : Ref sig .tc).ty.Contents (Elt F)) :
    (((c : Thread nD τ).loc cc0_scratch1) ↦{fullShare} (f : Buf (Elt F) ((c : Thread nD τ).loc cc0_scratch1)) : sProp 𝕄)
      = iprop(chunk2Pts c c f ∗ bigSep Finset.univ fun k : Fin 7 => chunk2Pts c (peer c k) f) := by
  have h : (_ : sProp 𝕄) = _ := pointsTo_biUnion (ℓ := (c : Thread nD τ).loc cc0_scratch1) (q := fullShare) (f := (f : Buf (Elt F) ((c : Thread nD τ).loc cc0_scratch1)))
    Finset.univ C8 (fun e _ e' _ h => C8_disj e e' h)
  rw [C8_union] at h
  exact h.trans (bigSep_dev c fun e => chunk2Pts c e f)

theorem chunks2_any (c : Dev nD) (f : (cc0_scratch1 : Ref sig .tc).ty.Contents (Elt F)) :
    (((c : Thread nD τ).loc cc0_scratch1) ↦{fullShare} (f : Buf (Elt F) ((c : Thread nD τ).loc cc0_scratch1)) : sProp 𝕄)
      ⊢ iprop(chunk2Pts c c f ∗ P2 (F := F) c ∅) := by
  rw [chunks2]
  unfold P2
  refine BIClass.sep_mono (Entails.refl _) (bigSep_mono fun k _ => ?_)
  rw [if_neg (Finset.notMem_empty k)]
  show (_ : sProp 𝕄) ⊢ _
  iintro H; iexists f; iexact H

theorem chunks1_back (V : Vals F) (c : Dev nD) :
    iprop(chunk1Pts c c (V.part1 c) ∗ bigSep Finset.univ fun k : Fin 7 => sendPay V 0 c k)
      ⊢ (((c : Thread nD τ).loc cc0_scratch0) ↦{fullShare} (V.part1 c : Buf (Elt F) ((c : Thread nD τ).loc cc0_scratch0)) : sProp 𝕄) := by
  rw [chunks1]; exact Entails.refl _

/-- The second partial sum's buffer whole again, its own chunk never having been written. -/
theorem chunks2_back (V : Vals F) (c : Dev nD) (f : (cc0_scratch1 : Ref sig .tc).ty.Contents (Elt F)) :
    iprop(chunk2Pts c c f ∗ bigSep Finset.univ fun k : Fin 7 => sendPay V 2 c k)
      ⊢ (iprop(∃ g : Buf (Elt F) ((c : Thread nD τ).loc cc0_scratch1), ((c : Thread nD τ).loc cc0_scratch1) ↦{fullShare} g) : sProp 𝕄) := by
  have h : (_ : sProp 𝕄) ⊢ _ := pointsTo_biUnion_join (ℓ := (c : Thread nD τ).loc cc0_scratch1) (q := fullShare) Finset.univ C8
    (fun e : Dev nD => ((if e = c then f else V.part2 c) : Buf (Elt F) ((c : Thread nD τ).loc cc0_scratch1))) f (fun e _ e' _ h => C8_disj e e' h)
  rw [C8_union] at h
  have e : iprop(chunk2Pts c c f ∗ bigSep Finset.univ fun k : Fin 7 => sendPay V 2 c k)
      = bigSep Finset.univ fun e : Dev nD => (((c : Thread nD τ).loc cc0_scratch1) ↦[C8 e]{fullShare} ((if e = c then f else V.part2 c) : Buf (Elt F) ((c : Thread nD τ).loc cc0_scratch1)) : sProp 𝕄) := by
    rw [bigSep_dev c, if_pos rfl]
    refine congrArg (fun z => iprop(chunk2Pts c c f ∗ z)) (bigSep_congr fun k _ => ?_)
    rw [if_neg (peer_ne c k)]; rfl
  rw [e]
  refine h.trans ?_
  iintro ⟨%g, -, H⟩
  iexists g; iexact H

/-! ## Halves -/

/-- The own chunk, if it lies in half `b`. -/
def OWN (V : Vals F) (c : Dev nD) (b : ℕ) : sProp 𝕄 := if c.val / 4 = b then chunk1Pts c c (V.part1 c) else iprop(emp)

theorem half_chunks (V : Vals F) (c : Dev nD) (b : Fin 2) :
    (((c : Thread nD τ).loc cc0_scratch0) ↦[H2 b]{fullShare} (V.part1 c : Buf (Elt F) ((c : Thread nD τ).loc cc0_scratch0)) : sProp 𝕄)
      ⊢ iprop(OWN V c b.val ∗ SRC V c b.val ∅) := by
  rw [H2_eq, pointsTo_biUnion _ _ (fun e _ e' _ h => C8_disj e e' h), bigSep_filter, bigSep_dev c]
  unfold OWN SRC
  refine BIClass.sep_mono (Entails.refl _) (bigSep_mono fun k _ => ?_)
  rw [if_neg (Finset.notMem_empty k)]
  exact Entails.refl _

theorem owned (V : Vals F) (c : Dev nD) : iprop(OWN V c 0 ∗ OWN V c 1) ⊢ chunk1Pts c c (V.part1 c) := by
  unfold OWN
  have hc : c.val / 4 = 0 ∨ c.val / 4 = 1 := by have : c.val < 8 := c.isLt; omega
  rcases hc with h | h
  · rw [if_pos h, if_neg (by omega)]; iintro ⟨H, -⟩; iexact H
  · rw [if_neg (by omega), if_pos h]; iintro ⟨-, H⟩; iexact H

/-- The first half written: it, and the rest. -/
theorem half_split (c : Dev nD) (G : (cc0_scratch0 : Ref sig .tc).ty.Contents (Elt F)) :
    agr c cc0_scratch0 (fun i => (i 0).val / 256 = 0) G
      ⊢ (iprop((((c : Thread nD τ).loc cc0_scratch0) ↦[H2 0]{fullShare} (G : Buf (Elt F) ((c : Thread nD τ).loc cc0_scratch0)))
          ∗ ∃ f : Buf (Elt F) ((c : Thread nD τ).loc cc0_scratch0), ((c : Thread nD τ).loc cc0_scratch0) ↦[H2 1]{fullShare} f) : sProp 𝕄) := by
  unfold agr
  iintro ⟨%f, %hf, H⟩
  have e : (((c : Thread nD τ).loc cc0_scratch0) ↦{fullShare} (f : Buf (Elt F) ((c : Thread nD τ).loc cc0_scratch0)) : sProp 𝕄)
      ⊢ iprop((((c : Thread nD τ).loc cc0_scratch0) ↦[H2 0]{fullShare} (G : Buf (Elt F) ((c : Thread nD τ).loc cc0_scratch0)))
          ∗ (((c : Thread nD τ).loc cc0_scratch0) ↦[H2 1]{fullShare} (f : Buf (Elt F) ((c : Thread nD τ).loc cc0_scratch0)))) := by
    rw [← pointsTo_congr (ℓ := (c : Thread nD τ).loc cc0_scratch0) (I := H2 0) (q := fullShare) (f := f) (g := G) (fun i hi => hf i (Finset.mem_filter.mp hi).2)]
    have : (_ : sProp 𝕄) ⊢ _ := (pointsTo_union (ℓ := (c : Thread nD τ).loc cc0_scratch0) (q := fullShare) (f := (f : Buf (Elt F) ((c : Thread nD τ).loc cc0_scratch0))) H2_disj).1
    rw [H2_union] at this
    exact this
  ihave H := e $$ H
  icases H with ⟨H0, H1⟩
  isplitl [H0]; · iexact H0
  iexists f; iexact H1

end Cert.Dit

end
-- ==== Proof.OwnSlot.lean ====
/-
The store of a device's own slot of an exchange buffer, and small helpers of the body's run.
-/
module

public import Idealize.ShloMosaic.Lib.ValueLayout
public import proofs.«01_k».proof.Proof.Joins

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

theorem at_peer {n m : ℕ} {h : n < nD} {c : Dev nD} {k : Fin 7} (e : n = (c.val + m) % 8) (hm : m = k.val + 1) : (⟨n, h⟩ : Dev nD) = peer c k :=
  Fin.ext (by subst hm; exact e)

/-- The residual stream and the modulation rows, whole on the device. -/
abbrev X2P (c : Dev nD) : sProp 𝕄 := (((c : Thread nD τ).loc cc0_scratch6) ↦{fullShare} ((I c).x2 : Buf (Elt F) ((c : Thread nD τ).loc cc0_scratch6)))
abbrev MODP (c : Dev nD) : sProp 𝕄 := (((c : Thread nD τ).loc cc0_scratch7) ↦{fullShare} ((I c).modc : Buf (Elt F) ((c : Thread nD τ).loc cc0_scratch7)))

/-! ## The own slots' contents -/

theorem slot_ix (j : S1x64x512.Idx) : j = ix3 (0 : Fin 1) (j 1) (j 2) := by
  funext a
  match a with
  | 0 => exact Fin.ext (by have : (j 0).val < 1 := (j 0).isLt; show (j 0).val = 0; omega)
  | 1 => rfl
  | 2 => rfl

theorem own2_at (c : Dev nD) {off : Fin 3 → ℕ} (h : off = ![c.val, 0, 0]) {inb : ∀ a, off a + S1x64x512.size a ≤ S8x64x512.size a} (j : S1x64x512.Idx) :
    own I c j = rs2 I c ((Rect.unit (s := S8x64x512) off S1x64x512.size inb).emb j) := by
  rw [slot_emb h]
  exact (congrArg (own I c) (slot_ix j)).trans (if_pos rfl).symm
theorem ag1_at (c : Dev nD) {off : Fin 3 → ℕ} (h : off = ![c.val, 0, 0]) {inb : ∀ a, off a + S1x64x512.size a ≤ S8x64x512.size a} (j : S1x64x512.Idx) :
    red1b I c j = ag1 I ((Rect.unit (s := S8x64x512) off S1x64x512.size inb).emb j) := by
  rw [slot_emb h]
  exact congrArg (red1b I c) (slot_ix j)
theorem ag2_at (c : Dev nD) {off : Fin 3 → ℕ} (h : off = ![c.val, 0, 0]) {inb : ∀ a, off a + S1x64x512.size a ≤ S8x64x512.size a} (j : S1x64x512.Idx) :
    red2b I c j = ag2 I ((Rect.unit (s := S8x64x512) off S1x64x512.size inb).emb j) := by
  rw [slot_emb h]
  exact congrArg (red2b I c) (slot_ix j)
theorem rs1_at (c : Dev nD) {off : Fin 3 → ℕ} (h : off = ![c.val, 0, 0]) {inb : ∀ a, off a + S1x64x512.size a ≤ S8x64x512.size a} (j : S1x64x512.Idx) :
    k0_pay49 (rows64 (I c).part1 c) j = rs1 I c ((Rect.unit (s := S8x64x512) off S1x64x512.size inb).emb j) := by
  rw [slot_emb h]
  refine (congrArg (k0_pay49 (rows64 (I c).part1 c)) (slot_ix j)).trans ?_
  unfold k0_pay49
  exact (congrFun (shapeCast_self _ _) _).trans (ValueIdx.shapeCast_ab_1ab_apply _ _ _ _ _)

theorem own_st0 {α : Type} {Q : α → sProp 𝕄} {c : Dev nD} (G : S8x64x512.Idx → F .bf16) {off : Fin 3 → ℕ} (h : off = ![c.val, 0, 0]) {inb : ∀ a, off a + S1x64x512.size a ≤ S8x64x512.size a}
    {w : Vec F S1x64x512 .bf16} (hw : ∀ j, w j = G ((Rect.unit (s := S8x64x512) off S1x64x512.size inb).emb j)) {hl hst hmk} {kk : PUnit → Prog (TpuEff nD τ sig (Elt F) Λ₀ .tc) α} :
    slotAny (F := F) 0 c c ⊢ iprop((slotPts fullShare 0 c c G -∗ Wp c (kk ⟨⟩) Q)
      -∗ Wp c (.op (.load (Memref.whole cc0_scratch2 : Memref sig .tc .vmem S8x64x512 .bf16) (Rect.unit (s := S8x64x512) off S1x64x512.size inb).toLoadRect hl) fun _ =>
        .op (.store (Memref.whole cc0_scratch2 : Memref sig .tc .vmem S8x64x512 .bf16) (Rect.unit (s := S8x64x512) off S1x64x512.size inb) w Finset.univ hst hmk) kk) Q) := by
  have e : slotAny (F := F) 0 c c ⊢ iprop(∃ f : Buf (Elt F) ((c : Thread nD τ).loc cc0_scratch2), ((c : Thread nD τ).loc cc0_scratch2) ↦[S8 c]{fullShare} f) := Entails.of_eq rfl
  have e' : (((c : Thread nD τ).loc cc0_scratch2) ↦[S8 c]{fullShare} (G : Buf (Elt F) ((c : Thread nD τ).loc cc0_scratch2)) : sProp 𝕄) ⊢ slotPts fullShare 0 c c G := Entails.of_eq rfl
  iintro H Hk
  ihave H := e $$ H
  icases H with ⟨%f, H⟩
  iapply (ldS (cs := .vmem) (ix := 12) (hn := rfl) (S := S8 c) (r := Rect.unit (s := S8x64x512) off S1x64x512.size inb) (slotv f c) (slot_set h).subset (fun j => slot_val f h j)) $$ H
  iintro H
  iapply (stS (cs := .vmem) (ix := 12) (hn := rfl) (S := S8 c) (r := Rect.unit (s := S8x64x512) off S1x64x512.size inb) G (slot_set h) hw) $$ H
  iintro H
  iapply Hk
  iapply e'; iexact H

theorem own_st1 {α : Type} {Q : α → sProp 𝕄} {c : Dev nD} (G : S8x64x512.Idx → F .bf16) {off : Fin 3 → ℕ} (h : off = ![c.val, 0, 0]) {inb : ∀ a, off a + S1x64x512.size a ≤ S8x64x512.size a}
    {w : Vec F S1x64x512 .bf16} (hw : ∀ j, w j = G ((Rect.unit (s := S8x64x512) off S1x64x512.size inb).emb j)) {hl hst hmk} {kk : PUnit → Prog (TpuEff nD τ sig (Elt F) Λ₀ .tc) α} :
    slotAny (F := F) 1 c c ⊢ iprop((slotPts fullShare 1 c c G -∗ Wp c (kk ⟨⟩) Q)
      -∗ Wp c (.op (.load (Memref.whole cc0_scratch4 : Memref sig .tc .vmem S8x64x512 .bf16) (Rect.unit (s := S8x64x512) off S1x64x512.size inb).toLoadRect hl) fun _ =>
        .op (.store (Memref.whole cc0_scratch4 : Memref sig .tc .vmem S8x64x512 .bf16) (Rect.unit (s := S8x64x512) off S1x64x512.size inb) w Finset.univ hst hmk) kk) Q) := by
  have e : slotAny (F := F) 1 c c ⊢ iprop(∃ f : Buf (Elt F) ((c : Thread nD τ).loc cc0_scratch4), ((c : Thread nD τ).loc cc0_scratch4) ↦[S8 c]{fullShare} f) := Entails.of_eq rfl
  have e' : (((c : Thread nD τ).loc cc0_scratch4) ↦[S8 c]{fullShare} (G : Buf (Elt F) ((c : Thread nD τ).loc cc0_scratch4)) : sProp 𝕄) ⊢ slotPts fullShare 1 c c G := Entails.of_eq rfl
  iintro H Hk
  ihave H := e $$ H
  icases H with ⟨%f, H⟩
  iapply (ldS (cs := .vmem) (ix := 14) (hn := rfl) (S := S8 c) (r := Rect.unit (s := S8x64x512) off S1x64x512.size inb) (slotv f c) (slot_set h).subset (fun j => slot_val f h j)) $$ H
  iintro H
  iapply (stS (cs := .vmem) (ix := 14) (hn := rfl) (S := S8 c) (r := Rect.unit (s := S8x64x512) off S1x64x512.size inb) G (slot_set h) hw) $$ H
  iintro H
  iapply Hk
  iapply e'; iexact H

theorem own_st2 {α : Type} {Q : α → sProp 𝕄} {c : Dev nD} (G : S8x64x512.Idx → F .bf16) {off : Fin 3 → ℕ} (h : off = ![c.val, 0, 0]) {inb : ∀ a, off a + S1x64x512.size a ≤ S8x64x512.size a}
    {w : Vec F S1x64x512 .bf16} (hw : ∀ j, w j = G ((Rect.unit (s := S8x64x512) off S1x64x512.size inb).emb j)) {hl hst hmk} {kk : PUnit → Prog (TpuEff nD τ sig (Elt F) Λ₀ .tc) α} :
    slotAny (F := F) 2 c c ⊢ iprop((slotPts fullShare 2 c c G -∗ Wp c (kk ⟨⟩) Q)
      -∗ Wp c (.op (.load (Memref.whole cc0_scratch3 : Memref sig .tc .vmem S8x64x512 .bf16) (Rect.unit (s := S8x64x512) off S1x64x512.size inb).toLoadRect hl) fun _ =>
        .op (.store (Memref.whole cc0_scratch3 : Memref sig .tc .vmem S8x64x512 .bf16) (Rect.unit (s := S8x64x512) off S1x64x512.size inb) w Finset.univ hst hmk) kk) Q) := by
  have e : slotAny (F := F) 2 c c ⊢ iprop(∃ f : Buf (Elt F) ((c : Thread nD τ).loc cc0_scratch3), ((c : Thread nD τ).loc cc0_scratch3) ↦[S8 c]{fullShare} f) := Entails.of_eq rfl
  have e' : (((c : Thread nD τ).loc cc0_scratch3) ↦[S8 c]{fullShare} (G : Buf (Elt F) ((c : Thread nD τ).loc cc0_scratch3)) : sProp 𝕄) ⊢ slotPts fullShare 2 c c G := Entails.of_eq rfl
  iintro H Hk
  ihave H := e $$ H
  icases H with ⟨%f, H⟩
  iapply (ldS (cs := .vmem) (ix := 13) (hn := rfl) (S := S8 c) (r := Rect.unit (s := S8x64x512) off S1x64x512.size inb) (slotv f c) (slot_set h).subset (fun j => slot_val f h j)) $$ H
  iintro H
  iapply (stS (cs := .vmem) (ix := 13) (hn := rfl) (S := S8 c) (r := Rect.unit (s := S8x64x512) off S1x64x512.size inb) G (slot_set h) hw) $$ H
  iintro H
  iapply Hk
  iapply e'; iexact H

theorem own_st3 {α : Type} {Q : α → sProp 𝕄} {c : Dev nD} (G : S8x64x512.Idx → F .bf16) {off : Fin 3 → ℕ} (h : off = ![c.val, 0, 0]) {inb : ∀ a, off a + S1x64x512.size a ≤ S8x64x512.size a}
    {w : Vec F S1x64x512 .bf16} (hw : ∀ j, w j = G ((Rect.unit (s := S8x64x512) off S1x64x512.size inb).emb j)) {hl hst hmk} {kk : PUnit → Prog (TpuEff nD τ sig (Elt F) Λ₀ .tc) α} :
    slotAny (F := F) 3 c c ⊢ iprop((slotPts fullShare 3 c c G -∗ Wp c (kk ⟨⟩) Q)
      -∗ Wp c (.op (.load (Memref.whole cc0_scratch5 : Memref sig .tc .vmem S8x64x512 .bf16) (Rect.unit (s := S8x64x512) off S1x64x512.size inb).toLoadRect hl) fun _ =>
        .op (.store (Memref.whole cc0_scratch5 : Memref sig .tc .vmem S8x64x512 .bf16) (Rect.unit (s := S8x64x512) off S1x64x512.size inb) w Finset.univ hst hmk) kk) Q) := by
  have e : slotAny (F := F) 3 c c ⊢ iprop(∃ f : Buf (Elt F) ((c : Thread nD τ).loc cc0_scratch5), ((c : Thread nD τ).loc cc0_scratch5) ↦[S8 c]{fullShare} f) := Entails.of_eq rfl
  have e' : (((c : Thread nD τ).loc cc0_scratch5) ↦[S8 c]{fullShare} (G : Buf (Elt F) ((c : Thread nD τ).loc cc0_scratch5)) : sProp 𝕄) ⊢ slotPts fullShare 3 c c G := Entails.of_eq rfl
  iintro H Hk
  ihave H := e $$ H
  icases H with ⟨%f, H⟩
  iapply (ldS (cs := .vmem) (ix := 15) (hn := rfl) (S := S8 c) (r := Rect.unit (s := S8x64x512) off S1x64x512.size inb) (slotv f c) (slot_set h).subset (fun j => slot_val f h j)) $$ H
  iintro H
  iapply (stS (cs := .vmem) (ix := 15) (hn := rfl) (S := S8 c) (r := Rect.unit (s := S8x64x512) off S1x64x512.size inb) G (slot_set h) hw) $$ H
  iintro H
  iapply Hk
  iapply e'; iexact H

/-! ## The seven offsets, upwards and downwards -/

abbrev U1 : Finset (Fin 7) := insert 0 ∅
abbrev U2 : Finset (Fin 7) := insert 1 U1
abbrev U3 : Finset (Fin 7) := insert 2 U2
abbrev U4 : Finset (Fin 7) := insert 3 U3
abbrev U5 : Finset (Fin 7) := insert 4 U4
abbrev U6 : Finset (Fin 7) := insert 5 U5
abbrev D1 : Finset (Fin 7) := insert 6 ∅
abbrev D2 : Finset (Fin 7) := insert 5 D1
abbrev D3 : Finset (Fin 7) := insert 4 D2
abbrev D4 : Finset (Fin 7) := insert 3 D3
abbrev D5 : Finset (Fin 7) := insert 2 D4
abbrev D6 : Finset (Fin 7) := insert 1 D5
theorem U_all : insert 6 U6 = (Finset.univ : Finset (Fin 7)) := by decide
theorem D_all : insert 0 D6 = (Finset.univ : Finset (Fin 7)) := by decide
theorem RR_all {V : Vals F} {c : Dev nD} {p : Fin 4} : RR V c p (insert 6 U6) ⊢ RR V c p Finset.univ := Entails.of_eq (congrArg (RR V c p) U_all)
theorem SS_all_up {c : Dev nD} {p : Fin 4} : SS (F := F) c p (insert 6 U6) ⊢ SS c p Finset.univ := Entails.of_eq (congrArg (SS c p) U_all)
theorem SS_all_down {c : Dev nD} {p : Fin 4} : SS (F := F) c p (insert 0 D6) ⊢ SS c p Finset.univ := Entails.of_eq (congrArg (SS c p) D_all)
theorem owes_all_up {c : Dev nD} {p : Fin 4} {X : CellTallies nD τ sig Unit} : owesX (F := F) c (X + Or c p (insert 6 U6)) ⊢ owesX c X :=
  Entails.of_eq (congrArg (owesX c) ((congrArg (fun S => X + Or c p S) U_all).trans ((congrArg (X + ·) (Or_univ c p)).trans (add_zero X))))
theorem owes_all_down {c : Dev nD} {p : Fin 4} {X : CellTallies nD τ sig Unit} : owesX (F := F) c (X + Or c p (insert 0 D6)) ⊢ owesX c X :=
  Entails.of_eq (congrArg (owesX c) ((congrArg (fun S => X + Or c p S) D_all).trans ((congrArg (X + ·) (Or_univ c p)).trans (add_zero X))))

end Cert.Dit

end
-- ==== Proof.Body13.lean ====
/-
The body where it reduces what has arrived and sends the sum round: after the attention, and after the feed-forward.
-/
module

public import proofs.«01_k».proof.Proof.OwnSlot

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

theorem lent1 (c : Dev nD) : slotPts fullShare 1 c c (ag1 I) ⊢ iprop(slotPts dropped 1 c c (ag1 I) ∗ AGS I c 1 ∅) := lend I 1 c
theorem lent3 (c : Dev nD) : slotPts fullShare 3 c c (ag2 I) ⊢ iprop(slotPts dropped 3 c c (ag2 I) ∗ AGS I c 3 ∅) := lend I 3 c
theorem arrived0 (c : Dev nD) : iprop(slotPts fullShare 0 c c (rs1 I c) ∗ RR (VI I) c 0 Finset.univ)
    ⊢ iprop((((c : Thread nD τ).loc cc0_scratch2) ↦{fullShare} (rs1 I c : Buf (Elt F) ((c : Thread nD τ).loc cc0_scratch2))) ∗ ATR (F := F) c 0 1) := arrived (VI I) 0 c
theorem arrived2 (c : Dev nD) : iprop(slotPts fullShare 2 c c (rs2 I c) ∗ RR (VI I) c 2 Finset.univ)
    ⊢ iprop((((c : Thread nD τ).loc cc0_scratch3) ↦{fullShare} (rs2 I c : Buf (Elt F) ((c : Thread nD τ).loc cc0_scratch3))) ∗ ATR (F := F) c 2 1) := arrived (VI I) 2 c
theorem RR_all_down {V : Vals F} {c : Dev nD} {p : Fin 4} : RR V c p (insert 0 D6) ⊢ RR V c p Finset.univ := Entails.of_eq (congrArg (RR V c p) D_all)
theorem owes_zero {c : Dev nD} {O : CellTallies nD τ sig Unit} : owesX (F := F) c O ⊢ owesX c (0 + O) := Entails.of_eq (by rw [zero_add])
theorem AGS_up {c : Dev nD} {p : Fin 4} : AGS I c p (insert 6 U6) ⊢ iprop(emp) := (Entails.of_eq (congrArg (AGS I c p) U_all)).trans (AGS_univ I c p)
theorem zero2 : ∀ a : Fin 2, ![0, 0] a = 0 := by decide
theorem zero3 : ∀ a : Fin 3, ![0, 0, 0] a = 0 := by decide

theorem ld_all0 {α : Type} {Q : α → sProp 𝕄} {c : Dev nD} {off : Fin 3 → ℕ} (e : Dev nD) (h : off = ![e.val, 0, 0]) {inb : ∀ a, off a + S1x64x512.size a ≤ S8x64x512.size a} (f : S8x64x512.Idx → F .bf16)
    {hl : (Memref.whole cc0_scratch2 : Memref sig .tc .vmem S8x64x512 .bf16).view.LoadsAt (Rect.unit (s := S8x64x512) off S1x64x512.size inb).toLoadRect} {k : Vec F S1x64x512 .bf16 → Prog (TpuEff nD τ sig (Elt F) Λ₀ .tc) α} :
    (((c : Thread nD τ).loc cc0_scratch2) ↦{fullShare} (f : Buf (Elt F) ((c : Thread nD τ).loc cc0_scratch2)) : sProp 𝕄)
      ⊢ iprop(((((c : Thread nD τ).loc cc0_scratch2) ↦{fullShare} (f : Buf (Elt F) ((c : Thread nD τ).loc cc0_scratch2))) -∗ Wp c (k (slotv f e)) Q)
          -∗ Wp c (.op (.load (Memref.whole cc0_scratch2 : Memref sig .tc .vmem S8x64x512 .bf16) (Rect.unit (s := S8x64x512) off S1x64x512.size inb).toLoadRect hl) k) Q) :=
  ldS (cs := .vmem) (ix := 12) (hn := rfl) (S := Finset.univ) (r := Rect.unit (s := S8x64x512) off S1x64x512.size inb) (slotv f e) (Finset.subset_univ _) (fun j => slot_val f h j)

theorem ld_all2 {α : Type} {Q : α → sProp 𝕄} {c : Dev nD} {off : Fin 3 → ℕ} (e : Dev nD) (h : off = ![e.val, 0, 0]) {inb : ∀ a, off a + S1x64x512.size a ≤ S8x64x512.size a} (f : S8x64x512.Idx → F .bf16)
    {hl : (Memref.whole cc0_scratch3 : Memref sig .tc .vmem S8x64x512 .bf16).view.LoadsAt (Rect.unit (s := S8x64x512) off S1x64x512.size inb).toLoadRect} {k : Vec F S1x64x512 .bf16 → Prog (TpuEff nD τ sig (Elt F) Λ₀ .tc) α} :
    (((c : Thread nD τ).loc cc0_scratch3) ↦{fullShare} (f : Buf (Elt F) ((c : Thread nD τ).loc cc0_scratch3)) : sProp 𝕄)
      ⊢ iprop(((((c : Thread nD τ).loc cc0_scratch3) ↦{fullShare} (f : Buf (Elt F) ((c : Thread nD τ).loc cc0_scratch3))) -∗ Wp c (k (slotv f e)) Q)
          -∗ Wp c (.op (.load (Memref.whole cc0_scratch3 : Memref sig .tc .vmem S8x64x512 .bf16) (Rect.unit (s := S8x64x512) off S1x64x512.size inb).toLoadRect hl) k) Q) :=
  ldS (cs := .vmem) (ix := 13) (hn := rfl) (S := Finset.univ) (r := Rect.unit (s := S8x64x512) off S1x64x512.size inb) (slotv f e) (Finset.subset_univ _) (fun j => slot_val f h j)

theorem run35 {Q : Dev nD → sProp 𝕄} (c : Dev nD) (v2 v733 v810 v887 v964 v1041 v1118 : BitVec 32) :
    iprop(env (VI I) K ∗ slotPts fullShare 2 c c (rs2 I c) ∗ RR (VI I) c 2 ∅ ∗ slotAny (F := F) 3 c c ∗ SS c 3 ∅ ∗ slotPts dropped 1 c c (ag1 I) ∗ X2P I c ∗ MODP I c ∗ owesX c (Or c 3 ∅))
      ⊢ iprop((∀ w0 w1 w2 w3 w4 w5 w6 w7, ((((c : Thread nD τ).loc cc0_scratch3) ↦{fullShare} (rs2 I c : Buf (Elt F) ((c : Thread nD τ).loc cc0_scratch3))) ∗ ATR (F := F) c 2 1
            ∗ slotPts dropped 3 c c (ag2 I) ∗ SS c 3 Finset.univ ∗ slotPts dropped 1 c c (ag1 I) ∗ X2P I c ∗ MODP I c ∗ owesX c 0)
            -∗ Wp c (inst (rest41 (F := F)) c w0 (red2 I c) w1 w2 w3 w4 w5 w6 w7 (rows64 (I c).x2 c) (k0_pay81 (modrow (I c).modc 0 c)) (k0_pay82 (slotv (ag1 I) c))) Q)
          -∗ Wp c (inst (rest35 (F := F)) c v2 v733 v810 v887 v964 v1041 v1118) Q) := by
  unfold inst rest35 red2
  simp only [k0_part35_eq_skeleton, k0_part36_eq_skeleton, k0_part37_eq_skeleton, k0_part38_eq_skeleton, k0_part39_eq_skeleton, k0_part40_eq_skeleton, k0_part35_skel, k0_part36_skel, k0_part37_skel, k0_part38_skel, k0_part39_skel, k0_part40_skel, Prog.lift, Prog.bind_op, Prog.bind_ret, Prog.pure_eq_ret]
  iintro ⟨#He, Ho, HR, H3, HS, H1, Hx, Hm, HO⟩ Hk
  iapply (step_recv (VI I) K 2 6 (S := ∅) (by decide) rfl (above_Or c 3 ∅ (by decide)) (slotM_credit _ _ _)) $$ [HR HO]
  · isplitr; · iexact He
    isplitl [HR]; · iexact HR
    iexact HO
  iintro ⟨HR, HO⟩
  iapply (step_recv (VI I) K 2 5 (S := D1) (by decide) rfl (above_Or c 3 ∅ (by decide)) (slotM_credit _ _ _)) $$ [HR HO]
  · isplitr; · iexact He
    isplitl [HR]; · iexact HR
    iexact HO
  iintro ⟨HR, HO⟩
  iapply (step_recv (VI I) K 2 4 (S := D2) (by decide) rfl (above_Or c 3 ∅ (by decide)) (slotM_credit _ _ _)) $$ [HR HO]
  · isplitr; · iexact He
    isplitl [HR]; · iexact HR
    iexact HO
  iintro ⟨HR, HO⟩
  iapply (step_recv (VI I) K 2 3 (S := D3) (by decide) rfl (above_Or c 3 ∅ (by decide)) (slotM_credit _ _ _)) $$ [HR HO]
  · isplitr; · iexact He
    isplitl [HR]; · iexact HR
    iexact HO
  iintro ⟨HR, HO⟩
  iapply (step_recv (VI I) K 2 2 (S := D4) (by decide) rfl (above_Or c 3 ∅ (by decide)) (slotM_credit _ _ _)) $$ [HR HO]
  · isplitr; · iexact He
    isplitl [HR]; · iexact HR
    iexact HO
  iintro ⟨HR, HO⟩
  iapply (step_recv (VI I) K 2 1 (S := D5) (by decide) rfl (above_Or c 3 ∅ (by decide)) (slotM_credit _ _ _)) $$ [HR HO]
  · isplitr; · iexact He
    isplitl [HR]; · iexact HR
    iexact HO
  iintro ⟨HR, HO⟩
  iapply (step_recv (VI I) K 2 0 (S := D6) (by decide) rfl (above_Or c 3 ∅ (by decide)) (slotM_credit _ _ _)) $$ [HR HO]
  · isplitr; · iexact He
    isplitl [HR]; · iexact HR
    iexact HO
  iintro ⟨HR, HO⟩
  ihave HR := RR_all_down $$ HR
  ihave Ho := (arrived2 I c) $$ [Ho HR]
  · isplitl [Ho]; · iexact Ho
    iexact HR
  icases Ho with ⟨Ho, Hat⟩
  iapply (ld_all2 (0 : Dev nD) rfl (rs2 I c)) $$ Ho
  iintro Ho
  iapply (ld_all2 (1 : Dev nD) rfl (rs2 I c)) $$ Ho
  iintro Ho
  iapply (ld_all2 (2 : Dev nD) rfl (rs2 I c)) $$ Ho
  iintro Ho
  iapply (ld_all2 (3 : Dev nD) rfl (rs2 I c)) $$ Ho
  iintro Ho
  iapply (ld_all2 (4 : Dev nD) rfl (rs2 I c)) $$ Ho
  iintro Ho
  iapply (ld_all2 (5 : Dev nD) rfl (rs2 I c)) $$ Ho
  iintro Ho
  iapply (ld_all2 (6 : Dev nD) rfl (rs2 I c)) $$ Ho
  iintro Ho
  iapply (ld_all2 (7 : Dev nD) rfl (rs2 I c)) $$ Ho
  iintro Ho
  iapply (own_st3 (ag2 I) (k0_off30_eq c) (ag2_at I c (k0_off30_eq c))) $$ H3
  iintro H3
  ihave H3 := (lent3 I c) $$ H3
  icases H3 with ⟨H3, HA⟩
  ihave HO := owes_zero $$ HO
  iapply (step_ag3 I K 0 (T := ∅) 0 (at_peer (k0_dev36_eq c) rfl) (by decide) rfl rfl) $$ [HA HS HO]
  · isplitr; · iexact He
    isplitl [HA]; · iexact HA
    isplitl [HS]; · iexact HS
    iexact HO
  iintro ⟨HA, HS, HO⟩
  iapply (step_ag3 I K 1 (T := U1) 0 (at_peer (k0_dev37_eq c) rfl) (by decide) rfl rfl) $$ [HA HS HO]
  · isplitr; · iexact He
    isplitl [HA]; · iexact HA
    isplitl [HS]; · iexact HS
    iexact HO
  iintro ⟨HA, HS, HO⟩
  iapply (step_ag3 I K 2 (T := U2) 0 (at_peer (k0_dev38_eq c) rfl) (by decide) rfl rfl) $$ [HA HS HO]
  · isplitr; · iexact He
    isplitl [HA]; · iexact HA
    isplitl [HS]; · iexact HS
    iexact HO
  iintro ⟨HA, HS, HO⟩
  iapply (step_ag3 I K 3 (T := U3) 0 (at_peer (k0_dev39_eq c) rfl) (by decide) rfl rfl) $$ [HA HS HO]
  · isplitr; · iexact He
    isplitl [HA]; · iexact HA
    isplitl [HS]; · iexact HS
    iexact HO
  iintro ⟨HA, HS, HO⟩
  iapply (step_ag3 I K 4 (T := U4) 0 (at_peer (k0_dev40_eq c) rfl) (by decide) rfl rfl) $$ [HA HS HO]
  · isplitr; · iexact He
    isplitl [HA]; · iexact HA
    isplitl [HS]; · iexact HS
    iexact HO
  iintro ⟨HA, HS, HO⟩
  iapply (step_ag3 I K 5 (T := U5) 0 (at_peer (k0_dev41_eq c) rfl) (by decide) rfl rfl) $$ [HA HS HO]
  · isplitr; · iexact He
    isplitl [HA]; · iexact HA
    isplitl [HS]; · iexact HS
    iexact HO
  iintro ⟨HA, HS, HO⟩
  iapply (step_ag3 I K 6 (T := U6) 0 (at_peer (k0_dev42_eq c) rfl) (by decide) rfl rfl) $$ [HA HS HO]
  · isplitr; · iexact He
    isplitl [HA]; · iexact HA
    isplitl [HS]; · iexact HS
    iexact HO
  iintro ⟨HA, HS, HO⟩
  iapply (ld_x2 c (k0_off29_eq c) (I c).x2) $$ Hx
  iintro Hx
  iapply (ld_mod 0 c (k0_off33_eq c) (I c).modc) $$ Hm
  iintro Hm
  iapply (ld_slot1 c (k0_off30_eq c) (ag1 I)) $$ H1
  iintro H1
  ihave HA := (AGS_up I) $$ HA
  iclear HA
  iapply Hk
  isplitl [Ho]; · iexact Ho
  isplitl [Hat]; · iexact Hat
  isplitl [H3]; · iexact H3
  isplitl [HS]; · iapply SS_all_up; iexact HS
  isplitl [H1]; · iexact H1
  isplitl [Hx]; · iexact Hx
  isplitl [Hm]; · iexact Hm
  iapply owes_all_up; iexact HO

theorem run13 {Q : Dev nD → sProp 𝕄} (c : Dev nD) (v2 v100 v103 v106 v109 v112 v115 v118 : BitVec 32) :
    iprop(env (VI I) K ∗ slotPts fullShare 0 c c (rs1 I c) ∗ RR (VI I) c 0 ∅ ∗ slotAny (F := F) 1 c c ∗ SS c 1 ∅ ∗ X2P I c ∗ MODP I c
        ∗ (((c : Thread nD τ).loc cc0_stg7_0) ↦{fullShare} ((I c).w1 : Buf (Elt F) ((c : Thread nD τ).loc cc0_stg7_0)))
        ∗ (((c : Thread nD τ).loc cc0_stg8_0) ↦{fullShare} ((I c).w2 : Buf (Elt F) ((c : Thread nD τ).loc cc0_stg8_0))) ∗ owesX c (Or c 3 ∅ + Or c 2 ∅ + Or c 1 ∅))
      ⊢ iprop((∀ w0 w1 w2 w3 w4 w5 w6 w7, ((((c : Thread nD τ).loc cc0_scratch2) ↦{fullShare} (rs1 I c : Buf (Elt F) ((c : Thread nD τ).loc cc0_scratch2))) ∗ ATR (F := F) c 0 1
            ∗ slotPts dropped 1 c c (ag1 I) ∗ SS c 1 Finset.univ ∗ X2P I c ∗ MODP I c
            ∗ (((c : Thread nD τ).loc cc0_stg7_0) ↦{fullShare} ((I c).w1 : Buf (Elt F) ((c : Thread nD τ).loc cc0_stg7_0)))
            ∗ (((c : Thread nD τ).loc cc0_stg8_0) ↦{fullShare} ((I c).w2 : Buf (Elt F) ((c : Thread nD τ).loc cc0_stg8_0))) ∗ owesX c (Or c 3 ∅ + Or c 2 ∅))
            -∗ Wp c (inst (rest20 (F := F)) c w0 w1 w2 w3 w4 w5 w6 w7 (k0_pay53 (I c).w1) (k0_pay54 (I c).w2)
              (k0_pay55 (red1 I c) (I c).w1 (rows64 (I c).x2 c) (modrow (I c).modc 0 c) (modrow (I c).modc 1 c) (modrow (I c).modc 2 c)) (Scalar.ofBits .f32 0x00000000#32)) Q)
          -∗ Wp c (inst (rest13 (F := F)) c v2 v100 v103 v106 v109 v112 v115 v118) Q) := by
  unfold inst rest13 red1
  simp only [k0_part13_eq_skeleton, k0_part14_eq_skeleton, k0_part15_eq_skeleton, k0_part16_eq_skeleton, k0_part17_eq_skeleton, k0_part18_eq_skeleton, k0_part19_eq_skeleton, k0_part13_skel, k0_part14_skel, k0_part15_skel, k0_part16_skel, k0_part17_skel, k0_part18_skel, k0_part19_skel, Prog.lift, Prog.bind_op, Prog.bind_ret, Prog.pure_eq_ret]
  iintro ⟨#He, Ho, HR, H3, HS, Hx, Hm, Hw1, Hw2, HO⟩ Hk
  iapply (step_recv (VI I) K 0 0 (S := ∅) (by decide) rfl ((((above_Or c 3 ∅ (by decide)).add (above_Or c 2 ∅ (by decide)))).add (above_Or c 1 ∅ (by decide))) (slotM_credit _ _ _)) $$ [HR HO]
  · isplitr; · iexact He
    isplitl [HR]; · iexact HR
    iexact HO
  iintro ⟨HR, HO⟩
  iapply (step_recv (VI I) K 0 1 (S := U1) (by decide) rfl ((((above_Or c 3 ∅ (by decide)).add (above_Or c 2 ∅ (by decide)))).add (above_Or c 1 ∅ (by decide))) (slotM_credit _ _ _)) $$ [HR HO]
  · isplitr; · iexact He
    isplitl [HR]; · iexact HR
    iexact HO
  iintro ⟨HR, HO⟩
  iapply (step_recv (VI I) K 0 2 (S := U2) (by decide) rfl ((((above_Or c 3 ∅ (by decide)).add (above_Or c 2 ∅ (by decide)))).add (above_Or c 1 ∅ (by decide))) (slotM_credit _ _ _)) $$ [HR HO]
  · isplitr; · iexact He
    isplitl [HR]; · iexact HR
    iexact HO
  iintro ⟨HR, HO⟩
  iapply (step_recv (VI I) K 0 3 (S := U3) (by decide) rfl ((((above_Or c 3 ∅ (by decide)).add (above_Or c 2 ∅ (by decide)))).add (above_Or c 1 ∅ (by decide))) (slotM_credit _ _ _)) $$ [HR HO]
  · isplitr; · iexact He
    isplitl [HR]; · iexact HR
    iexact HO
  iintro ⟨HR, HO⟩
  iapply (step_recv (VI I) K 0 4 (S := U4) (by decide) rfl ((((above_Or c 3 ∅ (by decide)).add (above_Or c 2 ∅ (by decide)))).add (above_Or c 1 ∅ (by decide))) (slotM_credit _ _ _)) $$ [HR HO]
  · isplitr; · iexact He
    isplitl [HR]; · iexact HR
    iexact HO
  iintro ⟨HR, HO⟩
  iapply (step_recv (VI I) K 0 5 (S := U5) (by decide) rfl ((((above_Or c 3 ∅ (by decide)).add (above_Or c 2 ∅ (by decide)))).add (above_Or c 1 ∅ (by decide))) (slotM_credit _ _ _)) $$ [HR HO]
  · isplitr; · iexact He
    isplitl [HR]; · iexact HR
    iexact HO
  iintro ⟨HR, HO⟩
  iapply (step_recv (VI I) K 0 6 (S := U6) (by decide) rfl ((((above_Or c 3 ∅ (by decide)).add (above_Or c 2 ∅ (by decide)))).add (above_Or c 1 ∅ (by decide))) (slotM_credit _ _ _)) $$ [HR HO]
  · isplitr; · iexact He
    isplitl [HR]; · iexact HR
    iexact HO
  iintro ⟨HR, HO⟩
  ihave HR := RR_all $$ HR
  ihave Ho := (arrived0 I c) $$ [Ho HR]
  · isplitl [Ho]; · iexact Ho
    iexact HR
  icases Ho with ⟨Ho, Hat⟩
  iapply (ld_all0 (0 : Dev nD) rfl (rs1 I c)) $$ Ho
  iintro Ho
  iapply (ld_all0 (1 : Dev nD) rfl (rs1 I c)) $$ Ho
  iintro Ho
  iapply (ld_all0 (2 : Dev nD) rfl (rs1 I c)) $$ Ho
  iintro Ho
  iapply (ld_all0 (3 : Dev nD) rfl (rs1 I c)) $$ Ho
  iintro Ho
  iapply (ld_all0 (4 : Dev nD) rfl (rs1 I c)) $$ Ho
  iintro Ho
  iapply (ld_all0 (5 : Dev nD) rfl (rs1 I c)) $$ Ho
  iintro Ho
  iapply (ld_all0 (6 : Dev nD) rfl (rs1 I c)) $$ Ho
  iintro Ho
  iapply (ld_all0 (7 : Dev nD) rfl (rs1 I c)) $$ Ho
  iintro Ho
  iapply (own_st1 (ag1 I) (k0_off30_eq c) (ag1_at I c (k0_off30_eq c))) $$ H3
  iintro H3
  ihave H3 := (lent1 I c) $$ H3
  icases H3 with ⟨H3, HA⟩
  iapply (step_ag1 I K 0 (T := ∅) (Or c 3 ∅ + Or c 2 ∅) (at_peer (k0_dev22_eq c) rfl) (by decide) rfl rfl) $$ [HA HS HO]
  · isplitr; · iexact He
    isplitl [HA]; · iexact HA
    isplitl [HS]; · iexact HS
    iexact HO
  iintro ⟨HA, HS, HO⟩
  iapply (step_ag1 I K 1 (T := U1) (Or c 3 ∅ + Or c 2 ∅) (at_peer (k0_dev23_eq c) rfl) (by decide) rfl rfl) $$ [HA HS HO]
  · isplitr; · iexact He
    isplitl [HA]; · iexact HA
    isplitl [HS]; · iexact HS
    iexact HO
  iintro ⟨HA, HS, HO⟩
  iapply (step_ag1 I K 2 (T := U2) (Or c 3 ∅ + Or c 2 ∅) (at_peer (k0_dev24_eq c) rfl) (by decide) rfl rfl) $$ [HA HS HO]
  · isplitr; · iexact He
    isplitl [HA]; · iexact HA
    isplitl [HS]; · iexact HS
    iexact HO
  iintro ⟨HA, HS, HO⟩
  iapply (step_ag1 I K 3 (T := U3) (Or c 3 ∅ + Or c 2 ∅) (at_peer (k0_dev25_eq c) rfl) (by decide) rfl rfl) $$ [HA HS HO]
  · isplitr; · iexact He
    isplitl [HA]; · iexact HA
    isplitl [HS]; · iexact HS
    iexact HO
  iintro ⟨HA, HS, HO⟩
  iapply (step_ag1 I K 4 (T := U4) (Or c 3 ∅ + Or c 2 ∅) (at_peer (k0_dev26_eq c) rfl) (by decide) rfl rfl) $$ [HA HS HO]
  · isplitr; · iexact He
    isplitl [HA]; · iexact HA
    isplitl [HS]; · iexact HS
    iexact HO
  iintro ⟨HA, HS, HO⟩
  iapply (step_ag1 I K 5 (T := U5) (Or c 3 ∅ + Or c 2 ∅) (at_peer (k0_dev27_eq c) rfl) (by decide) rfl rfl) $$ [HA HS HO]
  · isplitr; · iexact He
    isplitl [HA]; · iexact HA
    isplitl [HS]; · iexact HS
    iexact HO
  iintro ⟨HA, HS, HO⟩
  iapply (step_ag1 I K 6 (T := U6) (Or c 3 ∅ + Or c 2 ∅) (at_peer (k0_dev28_eq c) rfl) (by decide) rfl rfl) $$ [HA HS HO]
  · isplitr; · iexact He
    isplitl [HA]; · iexact HA
    isplitl [HS]; · iexact HS
    iexact HO
  iintro ⟨HA, HS, HO⟩
  iapply (ldS (cs := .vmem) (ix := 7) (hn := rfl) (S := Finset.univ) (r := Rect.unit (s := S512x256) ![0, 0] S512x256.size inb_S512x256_S512x256_0_0) (I c).w1 (Finset.subset_univ _) (fun j => full_val _ zero2 j)) $$ Hw1
  iintro Hw1
  iapply (ldS (cs := .vmem) (ix := 8) (hn := rfl) (S := Finset.univ) (r := Rect.unit (s := S256x512) ![0, 0] S256x512.size inb_S256x512_S256x512_0_0) (I c).w2 (Finset.subset_univ _) (fun j => full_val _ zero2 j)) $$ Hw2
  iintro Hw2
  iapply (ld_x2 c (k0_off29_eq c) (I c).x2) $$ Hx
  iintro Hx
  iapply (ld_mod 0 c (k0_off33_eq c) (I c).modc) $$ Hm
  iintro Hm
  iapply (ld_mod 1 c (k0_off34_eq c) (I c).modc) $$ Hm
  iintro Hm
  iapply (ld_mod 2 c (k0_off35_eq c) (I c).modc) $$ Hm
  iintro Hm
  ihave HA := (AGS_up I) $$ HA
  iclear HA
  iapply Hk
  isplitl [Ho]; · iexact Ho
  isplitl [Hat]; · iexact Hat
  isplitl [H3]; · iexact H3
  isplitl [HS]; · iapply SS_all_up; iexact HS
  isplitl [Hx]; · iexact Hx
  isplitl [Hm]; · iexact Hm
  isplitl [Hw1]; · iexact Hw1
  isplitl [Hw2]; · iexact Hw2
  iapply owes_all_up; iexact HO

end Cert.Dit

end
-- ==== Proof.Body1.lean ====
/-
The body to where the first half of the batch begins: the barrier, the modulation and the residual stream.
-/
module

public import proofs.«01_k».proof.Proof.Body13

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

theorem modw_ix (j : S1x8x512.Idx) : j = ix3 (0 : Fin 1) (j 1) (j 2) := by
  funext a
  match a with
  | 0 => exact Fin.ext (by have : (j 0).val < 1 := (j 0).isLt; show (j 0).val = 0; omega)
  | 1 => rfl
  | 2 => rfl
theorem mod0_at (c : Dev nD) {inb : ∀ a, ![0, 0, 0] a + S1x8x512.size a ≤ S4x8x512.size a} (j : S1x8x512.Idx) :
    k0_pay2 (I c).t (I c).wm j = (I c).modc ((Rect.unit (s := S4x8x512) ![0, 0, 0] S1x8x512.size inb).emb j) := by
  refine Eq.trans ?_ (congrArg (I c).modc (modw_emb (m := 0) (off := ![0, 0, 0]) (inb := inb) rfl j)).symm
  exact congrArg ((I c).modPart 0) (modw_ix j)
theorem mod1_at (c : Dev nD) {inb : ∀ a, ![1, 0, 0] a + S1x8x512.size a ≤ S4x8x512.size a} (j : S1x8x512.Idx) :
    k0_pay3 (I c).t (I c).wm j = (I c).modc ((Rect.unit (s := S4x8x512) ![1, 0, 0] S1x8x512.size inb).emb j) := by
  refine Eq.trans ?_ (congrArg (I c).modc (modw_emb (m := 1) (off := ![1, 0, 0]) (inb := inb) rfl j)).symm
  exact congrArg ((I c).modPart 1) (modw_ix j)
theorem mod2_at (c : Dev nD) {inb : ∀ a, ![2, 0, 0] a + S1x8x512.size a ≤ S4x8x512.size a} (j : S1x8x512.Idx) :
    k0_pay4 (I c).mod j = (I c).modc ((Rect.unit (s := S4x8x512) ![2, 0, 0] S1x8x512.size inb).emb j) := by
  refine Eq.trans ?_ (congrArg (I c).modc (modw_emb (m := 2) (off := ![2, 0, 0]) (inb := inb) rfl j)).symm
  exact congrArg ((I c).modPart 2) (modw_ix j)
theorem mod3_at (c : Dev nD) {inb : ∀ a, ![3, 0, 0] a + S1x8x512.size a ≤ S4x8x512.size a} (j : S1x8x512.Idx) :
    k0_pay5 (I c).mod j = (I c).modc ((Rect.unit (s := S4x8x512) ![3, 0, 0] S1x8x512.size inb).emb j) := by
  refine Eq.trans ?_ (congrArg (I c).modc (modw_emb (m := 3) (off := ![3, 0, 0]) (inb := inb) rfl j)).symm
  exact congrArg ((I c).modPart 3) (modw_ix j)
theorem x2half0_at (c : Dev nD) {inb : ∀ a, ![0, 0] a + S256x512.size a ≤ S512x512.size a} (j : S256x512.Idx) :
    k0_pay6 (xblk (I c).x 0) j = (I c).x2 ((Rect.unit (s := S512x512) ![0, 0] S256x512.size inb).emb j) := by
  have hj : (j 0).val < 256 := (j 0).isLt
  refine Eq.trans ?_ (congrArg (I c).x2 (half_emb (b := 0) (off := ![0, 0]) (inb := inb) rfl j)).symm
  have h1 : Ins.halfOf (⟨256 * (0 : Fin 2).val + (j 0).val, by show 256 * 0 + _ < 512; omega⟩ : Fin 512) = 0 := Fin.ext (by show (256 * 0 + (j 0).val) / 256 = 0; omega)
  have h2 : Ins.inHalf (⟨256 * (0 : Fin 2).val + (j 0).val, by show 256 * 0 + _ < 512; omega⟩ : Fin 512) = j 0 := Fin.ext (by show (256 * 0 + (j 0).val) % 256 = (j 0).val; omega)
  show _ = (I c).x2Part (Ins.halfOf (⟨256 * (0 : Fin 2).val + (j 0).val, by show 256 * 0 + _ < 512; omega⟩ : Fin 512)) (ix2 (Ins.inHalf (⟨256 * (0 : Fin 2).val + (j 0).val, by show 256 * 0 + _ < 512; omega⟩ : Fin 512)) (j 1))
  rw [h1, h2]
  exact congrArg ((I c).x2Part 0) (funext fun a => match a with | 0 => rfl | 1 => rfl)
theorem x2half1_at (c : Dev nD) {inb : ∀ a, ![256, 0] a + S256x512.size a ≤ S512x512.size a} (j : S256x512.Idx) :
    k0_pay7 (xblk (I c).x 1) j = (I c).x2 ((Rect.unit (s := S512x512) ![256, 0] S256x512.size inb).emb j) := by
  have hj : (j 0).val < 256 := (j 0).isLt
  refine Eq.trans ?_ (congrArg (I c).x2 (half_emb (b := 1) (off := ![256, 0]) (inb := inb) rfl j)).symm
  have h1 : Ins.halfOf (⟨256 * (1 : Fin 2).val + (j 0).val, by show 256 * 1 + _ < 512; omega⟩ : Fin 512) = 1 := Fin.ext (by show (256 * 1 + (j 0).val) / 256 = 1; omega)
  have h2 : Ins.inHalf (⟨256 * (1 : Fin 2).val + (j 0).val, by show 256 * 1 + _ < 512; omega⟩ : Fin 512) = j 0 := Fin.ext (by show (256 * 1 + (j 0).val) % 256 = (j 0).val; omega)
  show _ = (I c).x2Part (Ins.halfOf (⟨256 * (1 : Fin 2).val + (j 0).val, by show 256 * 1 + _ < 512; omega⟩ : Fin 512)) (ix2 (Ins.inHalf (⟨256 * (1 : Fin 2).val + (j 0).val, by show 256 * 1 + _ < 512; omega⟩ : Fin 512)) (j 1))
  rw [h1, h2]
  exact congrArg ((I c).x2Part 1) (funext fun a => match a with | 0 => rfl | 1 => rfl)

theorem step_dev {α : Type} {Q : α → sProp 𝕄} {c : Dev nD} {k : Dev nD → Prog (TpuEff nD τ sig (Elt F) Λ₀ .tc) α} : Wp c (k c) Q ⊢ Wp c (.op .deviceId k) Q :=
  Entails.of_eq (wp_deviceId 𝒱₀ (c : Thread nD τ) none Set.univ).symm

theorem owes_signed {c : Dev nD} {X : CellTallies nD τ sig Unit} : owesX (F := F) c (X + Ob c (insert 6 U6)) ⊢ owesX c X := by
  have e : Ob c (insert 6 U6) = 0 := (congrArg (Ob c) U_all).trans (Ob_univ c)
  exact Entails.of_eq (by rw [e, add_zero])
theorem BS_done {c : Dev nD} : BS (F := F) c (insert 6 U6) ⊢ iprop(emp) := by
  rw [U_all]; unfold BS
  rw [bigSep_congr (Ψ := fun _ => iprop(emp)) (fun k _ => if_pos (Finset.mem_univ k))]; exact Entails.of_eq (bigSep_emp_const _)

/-- The rows of the modulation written when the first `m` parts are, and of the residual stream when the first `h` halves are. -/
abbrev DM (m : ℕ) : S4x8x512.Idx → Prop := fun i => (i 0).val < m
abbrev DX (h : ℕ) : S512x512.Idx → Prop := fun i => (i 0).val / 256 < h

theorem DM_step (n n' : ℕ) (m : Fin 4) (e : m.val = n) (e' : n' = n + 1) {off : Fin 3 → ℕ} (h : off = ![m.val, 0, 0]) {inb : ∀ a, off a + S1x8x512.size a ≤ S4x8x512.size a} (i : S4x8x512.Idx) (hi : DM n' i) :
    DM n i ∨ i ∈ (Rect.unit (s := S4x8x512) off S1x8x512.size inb).set := by
  subst h e e'
  by_cases hlt : (i 0).val < m.val
  · exact Or.inl hlt
  · refine Or.inr (Rect.mem_set_unit.mpr fun a => ?_)
    have h1 : (i 1).val < 8 := (i 1).isLt
    have h2 : (i 2).val < 512 := (i 2).isLt
    have h3 : (i 0).val < m.val + 1 := hi
    match a with
    | 0 => show m.val ≤ (i 0).val ∧ (i 0).val < m.val + 1; omega
    | 1 => show 0 ≤ (i 1).val ∧ (i 1).val < 0 + 8; omega
    | 2 => show 0 ≤ (i 2).val ∧ (i 2).val < 0 + 512; omega
theorem DX_step (n n' : ℕ) (b : Fin 2) (e : b.val = n) (e' : n' = n + 1) {off : Fin 2 → ℕ} (h : off = ![256 * b.val, 0]) {inb : ∀ a, off a + S256x512.size a ≤ S512x512.size a} (i : S512x512.Idx) (hi : DX n' i) :
    DX n i ∨ i ∈ (Rect.unit (s := S512x512) off S256x512.size inb).set := by
  subst e e'
  rw [half_set h]
  by_cases hlt : (i 0).val / 256 < b.val
  · exact Or.inl hlt
  · refine Or.inr (Finset.mem_filter.mpr ⟨Finset.mem_univ i, ?_⟩)
    have h3 : (i 0).val / 256 < b.val + 1 := hi
    omega

theorem run1 {Q : Dev nD → sProp 𝕄} (c : Dev nD) :
    iprop(env (VI I) K ∗ BS c ∅ ∗ atPos ER (barCell c) 0 ∅ 0 ∗ cred (tallyAt (barCell c) () 7) ∗ owesX c (Or c 3 ∅ + Or c 2 ∅ + Or c 1 ∅ + Or c 0 ∅ + Ob c ∅)
        ∗ agr c cc0_scratch7 (DM 0) (I c).modc ∗ agr c cc0_scratch6 (DX 0) (I c).x2 ∗ (((c : Thread nD τ).loc cc0_stg0_0) ↦{fullShare} ((I c).x : Buf (Elt F) ((c : Thread nD τ).loc cc0_stg0_0))) ∗ (((c : Thread nD τ).loc cc0_stg1_0) ↦{fullShare} ((I c).wq : Buf (Elt F) ((c : Thread nD τ).loc cc0_stg1_0))) ∗ (((c : Thread nD τ).loc cc0_stg2_0) ↦{fullShare} ((I c).wk : Buf (Elt F) ((c : Thread nD τ).loc cc0_stg2_0))) ∗ (((c : Thread nD τ).loc cc0_stg3_0) ↦{fullShare} ((I c).wv : Buf (Elt F) ((c : Thread nD τ).loc cc0_stg3_0))) ∗ (((c : Thread nD τ).loc cc0_stg4_0) ↦{fullShare} ((I c).wo : Buf (Elt F) ((c : Thread nD τ).loc cc0_stg4_0))) ∗ (((c : Thread nD τ).loc cc0_stg5_0) ↦{fullShare} ((I c).t : Buf (Elt F) ((c : Thread nD τ).loc cc0_stg5_0))) ∗ (((c : Thread nD τ).loc cc0_stg6_0) ↦{fullShare} ((I c).wm : Buf (Elt F) ((c : Thread nD τ).loc cc0_stg6_0))))
     ⊢ iprop((∀ w0 w1 w2 w3 w4 w5 w6 w7, (atPos ER (barCell c) 1 ∅ 0 ∗ (bigSep Finset.univ fun k : Fin 7 => give (F := F) (peer c k) c) ∗ owesX c (Or c 3 ∅ + Or c 2 ∅ + Or c 1 ∅ + Or c 0 ∅)
          ∗ MODP I c ∗ X2P I c ∗ (((c : Thread nD τ).loc cc0_stg0_0) ↦{fullShare} ((I c).x : Buf (Elt F) ((c : Thread nD τ).loc cc0_stg0_0))) ∗ (((c : Thread nD τ).loc cc0_stg1_0) ↦{fullShare} ((I c).wq : Buf (Elt F) ((c : Thread nD τ).loc cc0_stg1_0))) ∗ (((c : Thread nD τ).loc cc0_stg2_0) ↦{fullShare} ((I c).wk : Buf (Elt F) ((c : Thread nD τ).loc cc0_stg2_0))) ∗ (((c : Thread nD τ).loc cc0_stg3_0) ↦{fullShare} ((I c).wv : Buf (Elt F) ((c : Thread nD τ).loc cc0_stg3_0))) ∗ (((c : Thread nD τ).loc cc0_stg4_0) ↦{fullShare} ((I c).wo : Buf (Elt F) ((c : Thread nD τ).loc cc0_stg4_0))) ∗ (((c : Thread nD τ).loc cc0_stg5_0) ↦{fullShare} ((I c).t : Buf (Elt F) ((c : Thread nD τ).loc cc0_stg5_0))) ∗ (((c : Thread nD τ).loc cc0_stg6_0) ↦{fullShare} ((I c).wm : Buf (Elt F) ((c : Thread nD τ).loc cc0_stg6_0))))
          -∗ Wp c (inst (rest5 (F := F)) c w0 (I c).mod (k0_pay8 (I c).wq) (k0_pay9 (I c).wk) (k0_pay10 (I c).wv) (k0_pay11 (I c).wo) w1 w2 w3 w4 w5 w6 w7 (k0_pay12 (I c).mod) (k0_pay13 (I c).mod) (k0_pay14 (xblk (I c).x 0)) (k0_pay15 (xblk (I c).x 0))) Q)
        -∗ Wp c (inst (rest1 (F := F))) Q) := by
  have em : agr c cc0_scratch7 (DM 4) (I c).modc ⊢ MODP I c := agr_all c cc0_scratch7 (DM 4) (I c).modc (fun i => (i 0).isLt)
  have ex : agr c cc0_scratch6 (DX 2) (I c).x2 ⊢ X2P I c := agr_all c cc0_scratch6 (DX 2) (I c).x2 (fun i => by have : (i 0).val < 512 := (i 0).isLt; show (i 0).val / 256 < 2; omega)
  have e1 : (1#32).toInt = 1 := by decide
  have e7 : (7#32).toInt = 7 := by decide
  unfold inst rest1 Ins.mod
  simp only [k0_part1_eq_skeleton, k0_part2_eq_skeleton, k0_part3_eq_skeleton, k0_part4_eq_skeleton, k0_part1_skel, k0_part2_skel, k0_part3_skel, k0_part4_skel, semSignalWord, semWaitWord, e1, e7, Prog.lift, Prog.bind_op, Prog.bind_ret, Prog.pure_eq_ret]
  iintro ⟨#He, HB, Hat, Hc, HO, Hm, H2, Hx, Hq, Hk', Hv, Ho, Ht, Hw⟩ Hk
  iapply step_dev
  iapply (step_signal (VI I) K 0 (S := ∅) (at_peer (k0_dev1_eq c) rfl) (by decide) (Or c 3 ∅ + Or c 2 ∅ + Or c 1 ∅ + Or c 0 ∅)) $$ [HB HO]
  · isplitr; · iexact He
    isplitl [HB]; · iexact HB
    iexact HO
  iintro ⟨HB, HO⟩
  iapply (step_signal (VI I) K 1 (S := U1) (at_peer (k0_dev2_eq c) rfl) (by decide) (Or c 3 ∅ + Or c 2 ∅ + Or c 1 ∅ + Or c 0 ∅)) $$ [HB HO]
  · isplitr; · iexact He
    isplitl [HB]; · iexact HB
    iexact HO
  iintro ⟨HB, HO⟩
  iapply (step_signal (VI I) K 2 (S := U2) (at_peer (k0_dev3_eq c) rfl) (by decide) (Or c 3 ∅ + Or c 2 ∅ + Or c 1 ∅ + Or c 0 ∅)) $$ [HB HO]
  · isplitr; · iexact He
    isplitl [HB]; · iexact HB
    iexact HO
  iintro ⟨HB, HO⟩
  iapply (step_signal (VI I) K 3 (S := U3) (at_peer (k0_dev4_eq c) rfl) (by decide) (Or c 3 ∅ + Or c 2 ∅ + Or c 1 ∅ + Or c 0 ∅)) $$ [HB HO]
  · isplitr; · iexact He
    isplitl [HB]; · iexact HB
    iexact HO
  iintro ⟨HB, HO⟩
  iapply (step_signal (VI I) K 4 (S := U4) (at_peer (k0_dev5_eq c) rfl) (by decide) (Or c 3 ∅ + Or c 2 ∅ + Or c 1 ∅ + Or c 0 ∅)) $$ [HB HO]
  · isplitr; · iexact He
    isplitl [HB]; · iexact HB
    iexact HO
  iintro ⟨HB, HO⟩
  iapply (step_signal (VI I) K 5 (S := U5) (at_peer (k0_dev6_eq c) rfl) (by decide) (Or c 3 ∅ + Or c 2 ∅ + Or c 1 ∅ + Or c 0 ∅)) $$ [HB HO]
  · isplitr; · iexact He
    isplitl [HB]; · iexact HB
    iexact HO
  iintro ⟨HB, HO⟩
  iapply (step_signal (VI I) K 6 (S := U6) (at_peer (k0_dev7_eq c) rfl) (by decide) (Or c 3 ∅ + Or c 2 ∅ + Or c 1 ∅ + Or c 0 ∅)) $$ [HB HO]
  · isplitr; · iexact He
    isplitl [HB]; · iexact HB
    iexact HO
  iintro ⟨HB, HO⟩
  ihave HB := BS_done $$ HB
  iclear HB
  ihave HO := owes_signed $$ HO
  iapply (step_barwait (VI I) K ((((above_Or c 3 ∅ (by decide)).add (above_Or c 2 ∅ (by decide))).add (above_Or c 1 ∅ (by decide))).add (above_Or c 0 ∅ (by decide)))) $$ [Hat Hc HO]
  · isplitr; · iexact He
    isplitl [Hat]; · iexact Hat
    isplitl [Hc]; · iexact Hc
    iexact HO
  iintro ⟨HO, Hat, Hg⟩
  iapply (ldS (cs := .vmem) (ix := 5) (hn := rfl) (S := Finset.univ) (r := Rect.unit (s := S2x128) ![0, 0] S2x128.size inb_S2x128_S2x128_0_0) (I c).t (Finset.subset_univ _) (fun j => full_val _ zero2 j)) $$ Ht
  iintro Ht
  iapply (ldS (cs := .vmem) (ix := 6) (hn := rfl) (S := Finset.univ) (r := Rect.unit (s := S128x3072) ![0, 0] S128x3072.size inb_S128x3072_S128x3072_0_0) (I c).wm (Finset.subset_univ _) (fun j => full_val _ zero2 j)) $$ Hw
  iintro Hw
  iapply (ldA (cs := .vmem) (ix := 17) (hn := rfl) (r := Rect.unit (s := S4x8x512) ![0, 0, 0] S1x8x512.size inb_S4x8x512_S1x8x512_0_0_0)) $$ Hm
  iintro %uHm Hm
  iapply (stA (cs := .vmem) (ix := 17) (hn := rfl) (r := Rect.unit (s := S4x8x512) ![0, 0, 0] S1x8x512.size inb_S4x8x512_S1x8x512_0_0_0) (DM 1) (DM_step 0 1 0 rfl rfl rfl) (mod0_at I c)) $$ Hm
  iintro Hm
  iapply (ldA (cs := .vmem) (ix := 17) (hn := rfl) (r := Rect.unit (s := S4x8x512) ![1, 0, 0] S1x8x512.size inb_S4x8x512_S1x8x512_1_0_0)) $$ Hm
  iintro %uHm Hm
  iapply (stA (cs := .vmem) (ix := 17) (hn := rfl) (r := Rect.unit (s := S4x8x512) ![1, 0, 0] S1x8x512.size inb_S4x8x512_S1x8x512_1_0_0) (DM 2) (DM_step 1 2 1 rfl rfl rfl) (mod1_at I c)) $$ Hm
  iintro Hm
  iapply (ldA (cs := .vmem) (ix := 17) (hn := rfl) (r := Rect.unit (s := S4x8x512) ![2, 0, 0] S1x8x512.size inb_S4x8x512_S1x8x512_2_0_0)) $$ Hm
  iintro %uHm Hm
  iapply (stA (cs := .vmem) (ix := 17) (hn := rfl) (r := Rect.unit (s := S4x8x512) ![2, 0, 0] S1x8x512.size inb_S4x8x512_S1x8x512_2_0_0) (DM 3) (DM_step 2 3 2 rfl rfl rfl) (mod2_at I c)) $$ Hm
  iintro Hm
  iapply (ldA (cs := .vmem) (ix := 17) (hn := rfl) (r := Rect.unit (s := S4x8x512) ![3, 0, 0] S1x8x512.size inb_S4x8x512_S1x8x512_3_0_0)) $$ Hm
  iintro %uHm Hm
  iapply (stA (cs := .vmem) (ix := 17) (hn := rfl) (r := Rect.unit (s := S4x8x512) ![3, 0, 0] S1x8x512.size inb_S4x8x512_S1x8x512_3_0_0) (DM 4) (DM_step 3 4 3 rfl rfl rfl) (mod3_at I c)) $$ Hm
  iintro Hm
  iapply (ldS (cs := .vmem) (ix := 0) (hn := rfl) (S := Finset.univ) (r := Rect.unit (s := S2x256x512) ![0, 0, 0] S1x256x512.size inb_S2x256x512_S1x256x512_0_0_0) (xblk (I c).x 0) (Finset.subset_univ _) (fun j => xblk_val (b := 0) (I c).x rfl j)) $$ Hx
  iintro Hx
  iapply (ldA (cs := .vmem) (ix := 16) (hn := rfl) (r := Rect.unit (s := S512x512) ![0, 0] S256x512.size inb_S512x512_S256x512_0_0)) $$ H2
  iintro %uH2 H2
  iapply (stA (cs := .vmem) (ix := 16) (hn := rfl) (r := Rect.unit (s := S512x512) ![0, 0] S256x512.size inb_S512x512_S256x512_0_0) (DX 1) (DX_step 0 1 0 rfl rfl rfl) (x2half0_at I c)) $$ H2
  iintro H2
  iapply (ldS (cs := .vmem) (ix := 0) (hn := rfl) (S := Finset.univ) (r := Rect.unit (s := S2x256x512) ![1, 0, 0] S1x256x512.size inb_S2x256x512_S1x256x512_1_0_0) (xblk (I c).x 1) (Finset.subset_univ _) (fun j => xblk_val (b := 1) (I c).x rfl j)) $$ Hx
  iintro Hx
  iapply (ldA (cs := .vmem) (ix := 16) (hn := rfl) (r := Rect.unit (s := S512x512) ![256, 0] S256x512.size inb_S512x512_S256x512_256_0)) $$ H2
  iintro %uH2 H2
  iapply (stA (cs := .vmem) (ix := 16) (hn := rfl) (r := Rect.unit (s := S512x512) ![256, 0] S256x512.size inb_S512x512_S256x512_256_0) (DX 2) (DX_step 1 2 1 rfl rfl rfl) (x2half1_at I c)) $$ H2
  iintro H2
  iapply (ldS (cs := .vmem) (ix := 1) (hn := rfl) (S := Finset.univ) (r := Rect.unit (s := S512x256) ![0, 0] S512x256.size inb_S512x256_S512x256_0_0) (I c).wq (Finset.subset_univ _) (fun j => full_val _ zero2 j)) $$ Hq
  iintro Hq
  iapply (ldS (cs := .vmem) (ix := 2) (hn := rfl) (S := Finset.univ) (r := Rect.unit (s := S512x256) ![0, 0] S512x256.size inb_S512x256_S512x256_0_0) (I c).wk (Finset.subset_univ _) (fun j => full_val _ zero2 j)) $$ Hk'
  iintro Hk'
  iapply (ldS (cs := .vmem) (ix := 3) (hn := rfl) (S := Finset.univ) (r := Rect.unit (s := S512x256) ![0, 0] S512x256.size inb_S512x256_S512x256_0_0) (I c).wv (Finset.subset_univ _) (fun j => full_val _ zero2 j)) $$ Hv
  iintro Hv
  iapply (ldS (cs := .vmem) (ix := 4) (hn := rfl) (S := Finset.univ) (r := Rect.unit (s := S256x512) ![0, 0] S256x512.size inb_S256x512_S256x512_0_0) (I c).wo (Finset.subset_univ _) (fun j => full_val _ zero2 j)) $$ Ho
  iintro Ho
  iapply (ldS (cs := .vmem) (ix := 0) (hn := rfl) (S := Finset.univ) (r := Rect.unit (s := S2x256x512) ![0, 0, 0] S1x256x512.size inb_S2x256x512_S1x256x512_0_0_0) (xblk (I c).x 0) (Finset.subset_univ _) (fun j => xblk_val (b := 0) (I c).x rfl j)) $$ Hx
  iintro Hx
  iapply Hk
  isplitl [Hat]; · iexact Hat
  isplitl [Hg]; · iexact Hg
  isplitl [HO]; · iexact HO
  isplitl [Hm]; · iapply em; iexact Hm
  isplitl [H2]; · iapply ex; iexact H2
  isplitl [Hx]; · iexact Hx
  isplitl [Hq]; · iexact Hq
  isplitl [Hk']; · iexact Hk'
  isplitl [Hv]; · iexact Hv
  isplitl [Ho]; · iexact Ho
  isplitl [Ht]; · iexact Ht
  iexact Hw

end Cert.Dit

end
-- ==== Proof.Body9.lean ====
/-
The body through the second half of the batch.
-/
module

public import proofs.«01_k».proof.Proof.OwnSlot

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

theorem SRC_all {c : Dev nD} {b : ℕ} : SRC (VI I) c b (insert 6 U6) ⊢ iprop(emp) := (Entails.of_eq (congrArg (SRC (VI I) c b) U_all)).trans (SRC_univ (VI I) c b)
theorem cond1_iff : ∀ c : Dev nD, k0_cond1 c = 1#1 ↔ (peer c 0).val / 4 = 0 := by decide +kernel
theorem cond2_iff : ∀ c : Dev nD, k0_cond2 c = 1#1 ↔ (peer c 1).val / 4 = 0 := by decide +kernel
theorem cond3_iff : ∀ c : Dev nD, k0_cond3 c = 1#1 ↔ (peer c 2).val / 4 = 0 := by decide +kernel
theorem cond4_iff : ∀ c : Dev nD, k0_cond4 c = 1#1 ↔ (peer c 3).val / 4 = 0 := by decide +kernel
theorem cond5_iff : ∀ c : Dev nD, k0_cond5 c = 1#1 ↔ (peer c 4).val / 4 = 0 := by decide +kernel
theorem cond6_iff : ∀ c : Dev nD, k0_cond6 c = 1#1 ↔ (peer c 5).val / 4 = 0 := by decide +kernel
theorem cond7_iff : ∀ c : Dev nD, k0_cond7 c = 1#1 ↔ (peer c 6).val / 4 = 0 := by decide +kernel
theorem cond8_iff : ∀ c : Dev nD, k0_cond8 c = 1#1 ↔ (peer c 0).val / 4 = 1 := by decide +kernel
theorem cond9_iff : ∀ c : Dev nD, k0_cond9 c = 1#1 ↔ (peer c 1).val / 4 = 1 := by decide +kernel
theorem cond10_iff : ∀ c : Dev nD, k0_cond10 c = 1#1 ↔ (peer c 2).val / 4 = 1 := by decide +kernel
theorem cond11_iff : ∀ c : Dev nD, k0_cond11 c = 1#1 ↔ (peer c 3).val / 4 = 1 := by decide +kernel
theorem cond12_iff : ∀ c : Dev nD, k0_cond12 c = 1#1 ↔ (peer c 4).val / 4 = 1 := by decide +kernel
theorem cond13_iff : ∀ c : Dev nD, k0_cond13 c = 1#1 ↔ (peer c 5).val / 4 = 1 := by decide +kernel
theorem cond14_iff : ∀ c : Dev nD, k0_cond14 c = 1#1 ↔ (peer c 6).val / 4 = 1 := by decide +kernel

/-- A copy of the first exchange where it is started in the other half of the batch or in this one, and what follows. -/
theorem step_cond (V : Vals F) {α β : Type} {Q : α → sProp 𝕄} {c : Dev nD} (b : ℕ) (k : Fin 7) {T : Finset (Fin 7)} (hk : k ∉ T) (X : CellTallies nD τ sig Unit)
    {C : Prop} [Decidable C] (hC : C ↔ (peer c k).val / 4 = b) {n : C → Dev nD} (hn : ∀ h, n h = peer c k)
    {off : Fin 3 → ℕ} {off' : Fin 2 → ℕ} {sS sR : DmaSem sig}
    (ho : off = ![c.val, 0, 0]) (ho' : off' = ![64 * (peer c k).val, 0]) (hsS : sS = sIx 0 k) (hsR : sR = rIx 0 k)
    {inb : C → ∀ a, off a + S1x64x512.size a ≤ S8x64x512.size a} {inb' : C → ∀ a, off' a + S64x512.size a ≤ S512x512.size a}
    {hsc : ∀ h, ((slotM (Memref.whole cc0_scratch2) off (inb h)) : Memref sig (Dev.tc (n h) : Thread nD τ).2.kind .vmem S64x512 .bf16).view.ref.isScScratch = false}
    {hsrc : ∀ h, (rowsM (Memref.whole cc0_scratch0) off' (inb' h)).view.WordExact} {hdst : ∀ h, (slotM (Memref.whole cc0_scratch2) off (inb h)).view.WordExact}
    {hsem : ∀ h, DmaTarget.Typed .vmem (.dma sR) (.remote (Dev.tc (n h) : Thread nD τ) (slotM (Memref.whole cc0_scratch2) off (inb h)) (.dma sS) (hsc h))}
    {m : Prog (TpuEff nD τ sig (Elt F) Λ₀ .tc) β} {kk : β → Prog (TpuEff nD τ sig (Elt F) Λ₀ .tc) α} :
    iprop(env V K ∗ SRC V c b T ∗ SS c 0 (sset c b T) ∗ owesX c (X + Or c 0 (sset c b T)))
      ⊢ iprop(((SRC V c b (insert k T) ∗ SS c 0 (sset c b (insert k T)) ∗ owesX c (X + Or c 0 (sset c b (insert k T)))) -∗ Wp c (m >>= kk) Q)
          -∗ Wp c ((if h : C then
              (.op (.enqueueDma (rowsM (Memref.whole cc0_scratch0) off' (inb' h)) (.remote (Dev.tc (n h) : Thread nD τ) (slotM (Memref.whole cc0_scratch2) off (inb h)) (.dma sS) (hsc h)) (.dma sR) (hsrc h) (hdst h) (hsem h)) fun _ => m)
              else m : Prog (TpuEff nD τ sig (Elt F) Λ₀ .tc) β) >>= kk) Q) := by
  have e : ((if h : C then
              (.op (.enqueueDma (rowsM (Memref.whole cc0_scratch0) off' (inb' h)) (.remote (Dev.tc (n h) : Thread nD τ) (slotM (Memref.whole cc0_scratch2) off (inb h)) (.dma sS) (hsc h)) (.dma sR) (hsrc h) (hdst h) (hsem h)) fun _ => m)
              else m : Prog (TpuEff nD τ sig (Elt F) Λ₀ .tc) β) >>= kk)
      = ((if h : C then
              (.op (.enqueueDma (rowsM (Memref.whole cc0_scratch0) off' (inb' h)) (.remote (Dev.tc (n h) : Thread nD τ) (slotM (Memref.whole cc0_scratch2) off (inb h)) (.dma sS) (hsc h)) (.dma sR) (hsrc h) (hdst h) (hsem h)) fun _ => .ret ⟨⟩)
              else .ret ⟨⟩ : Prog (TpuEff nD τ sig (Elt F) Λ₀ .tc) PUnit) >>= fun _ => m >>= kk) := by
    by_cases h : C
    · rw [dif_pos h, dif_pos h]; rfl
    · rw [dif_neg h, dif_neg h]; rfl
  rw [e]
  exact step_if V K b k hk X hC hn ho ho' hsS hsR (Q := Q) (kk := fun _ => m >>= kk)

theorem half1_at (c : Dev nD) {inb : ∀ a, ![256, 0] a + S256x512.size a ≤ S512x512.size a} (j : S256x512.Idx) :
    (I c).attn1 j = (I c).part1 ((Rect.unit (s := S512x512) ![256, 0] S256x512.size inb).emb j) := by
  have hj : (j 0).val < 256 := (j 0).isLt
  refine Eq.trans ?_ (congrArg (I c).part1 (half_emb (b := 1) (off := ![256, 0]) (inb := inb) rfl j)).symm
  have h1 : Ins.halfOf (⟨256 * (1 : Fin 2).val + (j 0).val, by show 256 * 1 + _ < 512; omega⟩ : Fin 512) = 1 := Fin.ext (by show (256 * 1 + (j 0).val) / 256 = 1; omega)
  have h2 : Ins.inHalf (⟨256 * (1 : Fin 2).val + (j 0).val, by show 256 * 1 + _ < 512; omega⟩ : Fin 512) = j 0 := Fin.ext (by show (256 * 1 + (j 0).val) % 256 = (j 0).val; omega)
  show _ = (I c).attn (Ins.halfOf (⟨256 * (1 : Fin 2).val + (j 0).val, by show 256 * 1 + _ < 512; omega⟩ : Fin 512)) (ix2 (Ins.inHalf (⟨256 * (1 : Fin 2).val + (j 0).val, by show 256 * 1 + _ < 512; omega⟩ : Fin 512)) (j 1))
  rw [h1, h2]
  exact congrArg (I c).attn1 (funext fun a => match a with | 0 => rfl | 1 => rfl)
theorem half0_at (c : Dev nD) {inb : ∀ a, ![0, 0] a + S256x512.size a ≤ S512x512.size a} (j : S256x512.Idx) :
    (I c).attn0 j = (I c).part1 ((Rect.unit (s := S512x512) ![0, 0] S256x512.size inb).emb j) := by
  have hj : (j 0).val < 256 := (j 0).isLt
  refine Eq.trans ?_ (congrArg (I c).part1 (half_emb (b := 0) (off := ![0, 0]) (inb := inb) rfl j)).symm
  have h1 : Ins.halfOf (⟨256 * (0 : Fin 2).val + (j 0).val, by show 256 * 0 + _ < 512; omega⟩ : Fin 512) = 0 := Fin.ext (by show (256 * 0 + (j 0).val) / 256 = 0; omega)
  have h2 : Ins.inHalf (⟨256 * (0 : Fin 2).val + (j 0).val, by show 256 * 0 + _ < 512; omega⟩ : Fin 512) = j 0 := Fin.ext (by show (256 * 0 + (j 0).val) % 256 = (j 0).val; omega)
  show _ = (I c).attn (Ins.halfOf (⟨256 * (0 : Fin 2).val + (j 0).val, by show 256 * 0 + _ < 512; omega⟩ : Fin 512)) (ix2 (Ins.inHalf (⟨256 * (0 : Fin 2).val + (j 0).val, by show 256 * 0 + _ < 512; omega⟩ : Fin 512)) (j 1))
  rw [h1, h2]
  exact congrArg (I c).attn0 (funext fun a => match a with | 0 => rfl | 1 => rfl)

theorem SS0_done {c : Dev nD} : SS (F := F) c 0 (sset c 1 (insert 6 U6)) ⊢ SS c 0 Finset.univ := Entails.of_eq (congrArg (SS c 0) ((congrArg (sset c 1) U_all).trans (sset_univ c)))
theorem SS0_next {c : Dev nD} : SS (F := F) c 0 (sset c 0 (insert 6 U6)) ⊢ SS c 0 (sset c 1 ∅) := Entails.of_eq (congrArg (SS c 0) ((congrArg (sset c 0) U_all).trans (sset_next c)))
theorem SS0_start {c : Dev nD} : SS (F := F) c 0 ∅ ⊢ SS c 0 (sset c 0 ∅) := Entails.of_eq (congrArg (SS c 0) (sset_zero c).symm)
theorem owes0_start {c : Dev nD} {X : CellTallies nD τ sig Unit} : owesX (F := F) c (X + Or c 0 ∅) ⊢ owesX c (X + Or c 0 (sset c 0 ∅)) := Entails.of_eq (congrArg (fun z => owesX c (X + Or c 0 z)) (sset_zero c).symm)
theorem owes0_next {c : Dev nD} {X : CellTallies nD τ sig Unit} : owesX (F := F) c (X + Or c 0 (sset c 0 (insert 6 U6))) ⊢ owesX c (X + Or c 0 (sset c 1 ∅)) :=
  Entails.of_eq (congrArg (fun z => owesX c (X + Or c 0 z)) ((congrArg (sset c 0) U_all).trans (sset_next c)))
theorem owes0_done {c : Dev nD} {X : CellTallies nD τ sig Unit} : owesX (F := F) c (X + Or c 0 (sset c 1 (insert 6 U6))) ⊢ owesX c X := by
  have e : Or c 0 (sset c 1 (insert 6 U6)) = 0 := (congrArg (Or c 0) ((congrArg (sset c 1) U_all).trans (sset_univ c))).trans (Or_univ c 0)
  exact Entails.of_eq (by rw [e, add_zero])

theorem run9 {Q : Dev nD → sProp 𝕄} (c : Dev nD) (v2 v100 v103 v106 v109 v112 v115 v118 : BitVec 32) :
    iprop(env (VI I) K ∗ (∃ f : Buf (Elt F) ((c : Thread nD τ).loc cc0_scratch0), (((c : Thread nD τ).loc cc0_scratch0) ↦[H2 1]{fullShare} (f : Buf (Elt F) ((c : Thread nD τ).loc cc0_scratch0)))) ∗ OWN (VI I) c 0 ∗ slotAny (F := F) 0 c c ∗ SS c 0 (sset c 1 ∅) ∗ owesX c (Or c 3 ∅ + Or c 2 ∅ + Or c 1 ∅ + Or c 0 (sset c 1 ∅)))
     ⊢ iprop((∀ w0 w1 w2 w3 w4 w5 w6 w7, (slotPts fullShare 0 c c (rs1 I c) ∗ chunk1Pts c c (I c).part1 ∗ SS c 0 Finset.univ ∗ owesX c (Or c 3 ∅ + Or c 2 ∅ + Or c 1 ∅))
          -∗ Wp c (inst (rest13 (F := F)) c w0 w1 w2 w3 w4 w5 w6 w7) Q)
        -∗ Wp c (inst (rest9 (F := F)) c v2 (k0_pay8 (I c).wq) (k0_pay9 (I c).wk) (k0_pay10 (I c).wv) (k0_pay11 (I c).wo) v100 v103 v106 v109 v112 v115 v118 (k0_pay29 (I c).mod) (k0_pay30 (I c).mod) (k0_pay31 (xblk (I c).x 1)) (k0_pay32 (xblk (I c).x 1)) (k0_pay33 (F := F))) Q) := by
  have eo : iprop(OWN (VI I) c 0 ∗ OWN (VI I) c 1) ⊢ chunk1Pts c c (I c).part1 := owned (VI I) c
  have eh : ((((c : Thread nD τ).loc cc0_scratch0) ↦[H2 1]{fullShare} ((I c).part1 : Buf (Elt F) ((c : Thread nD τ).loc cc0_scratch0))) : sProp 𝕄) ⊢ iprop(OWN (VI I) c 1 ∗ SRC (VI I) c 1 ∅) := half_chunks (VI I) c 1
  have ec : chunk1Pts c c (I c).part1 ⊢ ((((c : Thread nD τ).loc cc0_scratch0) ↦[C8 c]{fullShare} ((I c).part1 : Buf (Elt F) ((c : Thread nD τ).loc cc0_scratch0))) : sProp 𝕄) := Entails.of_eq rfl
  have ec' : ((((c : Thread nD τ).loc cc0_scratch0) ↦[C8 c]{fullShare} ((I c).part1 : Buf (Elt F) ((c : Thread nD τ).loc cc0_scratch0))) : sProp 𝕄) ⊢ chunk1Pts c c (I c).part1 := Entails.of_eq rfl
  unfold inst rest9
  simp only [k0_part9_eq_skeleton, k0_part10_eq_skeleton, k0_part11_eq_skeleton, k0_part12_eq_skeleton, k0_part9_skel, k0_part10_skel, k0_part11_skel, k0_part12_skel, Prog.lift, Prog.bind_op, Prog.bind_ret, Prog.pure_eq_ret]
  iintro ⟨#He, ⟨%f, H1⟩, Hown, H0, HS, HO⟩ Hk
  iapply (ldS (cs := .vmem) (ix := 10) (hn := rfl) (S := H2 1) (r := Rect.unit (s := S512x512) ![256, 0] S256x512.size inb_S512x512_S256x512_256_0) (fun j => f (Rect.emb _ j)) (half_set (b := 1) rfl).subset (fun j => rfl)) $$ H1
  iintro H1
  iapply (stS (cs := .vmem) (ix := 10) (hn := rfl) (S := H2 1) (r := Rect.unit (s := S512x512) ![256, 0] S256x512.size inb_S512x512_S256x512_256_0) (I c).part1 (half_set (b := 1) rfl) (half1_at I c)) $$ H1
  iintro H1
  ihave H1 := eh $$ H1
  icases H1 with ⟨H1, HC⟩
  iapply (step_cond K (VI I) 1 0 (T := ∅) (by decide) (Or c 3 ∅ + Or c 2 ∅ + Or c 1 ∅) (cond8_iff c) (fun h => at_peer (k0_dev15_eq c) rfl) (k0_off15_eq c) (k0_off16_eq c) rfl rfl) $$ [HC HS HO]
  · isplitr; · iexact He
    isplitl [HC]; · iexact HC
    isplitl [HS]; · iexact HS
    iexact HO
  iintro ⟨HC, HS, HO⟩
  iapply (step_cond K (VI I) 1 1 (T := U1) (by decide) (Or c 3 ∅ + Or c 2 ∅ + Or c 1 ∅) (cond9_iff c) (fun h => at_peer (k0_dev16_eq c) rfl) (k0_off17_eq c) (k0_off18_eq c) rfl rfl) $$ [HC HS HO]
  · isplitr; · iexact He
    isplitl [HC]; · iexact HC
    isplitl [HS]; · iexact HS
    iexact HO
  iintro ⟨HC, HS, HO⟩
  iapply (step_cond K (VI I) 1 2 (T := U2) (by decide) (Or c 3 ∅ + Or c 2 ∅ + Or c 1 ∅) (cond10_iff c) (fun h => at_peer (k0_dev17_eq c) rfl) (k0_off19_eq c) (k0_off20_eq c) rfl rfl) $$ [HC HS HO]
  · isplitr; · iexact He
    isplitl [HC]; · iexact HC
    isplitl [HS]; · iexact HS
    iexact HO
  iintro ⟨HC, HS, HO⟩
  simp only [Prog.bind_op, Prog.bind_ret]
  iapply (step_cond K (VI I) 1 3 (T := U3) (by decide) (Or c 3 ∅ + Or c 2 ∅ + Or c 1 ∅) (cond11_iff c) (fun h => at_peer (k0_dev18_eq c) rfl) (k0_off21_eq c) (k0_off22_eq c) rfl rfl) $$ [HC HS HO]
  · isplitr; · iexact He
    isplitl [HC]; · iexact HC
    isplitl [HS]; · iexact HS
    iexact HO
  iintro ⟨HC, HS, HO⟩
  iapply (step_cond K (VI I) 1 4 (T := U4) (by decide) (Or c 3 ∅ + Or c 2 ∅ + Or c 1 ∅) (cond12_iff c) (fun h => at_peer (k0_dev19_eq c) rfl) (k0_off23_eq c) (k0_off24_eq c) rfl rfl) $$ [HC HS HO]
  · isplitr; · iexact He
    isplitl [HC]; · iexact HC
    isplitl [HS]; · iexact HS
    iexact HO
  iintro ⟨HC, HS, HO⟩
  iapply (step_cond K (VI I) 1 5 (T := U5) (by decide) (Or c 3 ∅ + Or c 2 ∅ + Or c 1 ∅) (cond13_iff c) (fun h => at_peer (k0_dev20_eq c) rfl) (k0_off25_eq c) (k0_off26_eq c) rfl rfl) $$ [HC HS HO]
  · isplitr; · iexact He
    isplitl [HC]; · iexact HC
    isplitl [HS]; · iexact HS
    iexact HO
  iintro ⟨HC, HS, HO⟩
  iapply (step_cond K (VI I) 1 6 (T := U6) (by decide) (Or c 3 ∅ + Or c 2 ∅ + Or c 1 ∅) (cond14_iff c) (fun h => at_peer (k0_dev21_eq c) rfl) (k0_off27_eq c) (k0_off28_eq c) rfl rfl) $$ [HC HS HO]
  · isplitr; · iexact He
    isplitl [HC]; · iexact HC
    isplitl [HS]; · iexact HS
    iexact HO
  iintro ⟨HC, HS, HO⟩
  simp only [Prog.bind_op, Prog.bind_ret]
  ihave HC := (SRC_all I) $$ HC
  iclear HC
  ihave Hown := eo $$ [Hown H1]
  · isplitl [Hown]; · iexact Hown
    iexact H1
  ihave Hown := ec $$ Hown
  iapply (ldS (cs := .vmem) (ix := 10) (hn := rfl) (S := C8 c) (r := Rect.unit (s := S512x512) (k0_off29 c) S64x512.size (k0_off29_inb c)) (rows64 (I c).part1 c) (rows_set (k0_off29_eq c)).subset (fun j => rows_val (I c).part1 (k0_off29_eq c) j)) $$ Hown
  iintro Hown
  iapply (own_st0 (rs1 I c) (k0_off30_eq c) (rs1_at I c (k0_off30_eq c))) $$ H0
  iintro H0
  iapply Hk
  isplitl [H0]; · iexact H0
  isplitl [Hown]; · iapply ec'; iexact Hown
  isplitl [HS]; · iapply SS0_done; iexact HS
  iapply owes0_done; iexact HO

theorem run5 {Q : Dev nD → sProp 𝕄} (c : Dev nD) (v2 v100 v103 v106 v109 v112 v115 v118 : BitVec 32) :
    iprop(env (VI I) K ∗ agr c cc0_scratch0 (fun _ => False) (I c).part1 ∗ (((c : Thread nD τ).loc cc0_stg0_0) ↦{fullShare} ((I c).x : Buf (Elt F) ((c : Thread nD τ).loc cc0_stg0_0))) ∗ SS c 0 ∅ ∗ owesX c (Or c 3 ∅ + Or c 2 ∅ + Or c 1 ∅ + Or c 0 ∅))
     ⊢ iprop((∀ w0 w1 w2 w3 w4 w5 w6 w7, ((∃ f : Buf (Elt F) ((c : Thread nD τ).loc cc0_scratch0), (((c : Thread nD τ).loc cc0_scratch0) ↦[H2 1]{fullShare} (f : Buf (Elt F) ((c : Thread nD τ).loc cc0_scratch0)))) ∗ OWN (VI I) c 0 ∗ (((c : Thread nD τ).loc cc0_stg0_0) ↦{fullShare} ((I c).x : Buf (Elt F) ((c : Thread nD τ).loc cc0_stg0_0))) ∗ SS c 0 (sset c 1 ∅) ∗ owesX c (Or c 3 ∅ + Or c 2 ∅ + Or c 1 ∅ + Or c 0 (sset c 1 ∅)))
          -∗ Wp c (inst (rest9 (F := F)) c w0 (k0_pay8 (I c).wq) (k0_pay9 (I c).wk) (k0_pay10 (I c).wv) (k0_pay11 (I c).wo) w1 w2 w3 w4 w5 w6 w7 (k0_pay29 (I c).mod) (k0_pay30 (I c).mod) (k0_pay31 (xblk (I c).x 1)) (k0_pay32 (xblk (I c).x 1)) (k0_pay33 (F := F))) Q)
        -∗ Wp c (inst (rest5 (F := F)) c v2 (I c).mod (k0_pay8 (I c).wq) (k0_pay9 (I c).wk) (k0_pay10 (I c).wv) (k0_pay11 (I c).wo) v100 v103 v106 v109 v112 v115 v118 (k0_pay12 (I c).mod) (k0_pay13 (I c).mod) (k0_pay14 (xblk (I c).x 0)) (k0_pay15 (xblk (I c).x 0))) Q) := by
  have eh : (((c : Thread nD τ).loc cc0_scratch0) ↦[H2 0]{fullShare} ((I c).part1 : Buf (Elt F) ((c : Thread nD τ).loc cc0_scratch0)) : sProp 𝕄) ⊢ iprop(OWN (VI I) c 0 ∗ SRC (VI I) c 0 ∅) := half_chunks (VI I) c 0
  unfold inst rest5
  simp only [k0_part5_eq_skeleton, k0_part6_eq_skeleton, k0_part7_eq_skeleton, k0_part8_eq_skeleton, k0_part5_skel, k0_part6_skel, k0_part7_skel, k0_part8_skel, Prog.lift, Prog.bind_op, Prog.bind_ret, Prog.pure_eq_ret]
  iintro ⟨#He, H1, Hx, HS, HO⟩ Hk
  iapply (ldA (cs := .vmem) (ix := 10) (hn := rfl) (r := Rect.unit (s := S512x512) ![0, 0] S256x512.size inb_S512x512_S256x512_0_0)) $$ H1
  iintro %u H1
  iapply (stA (cs := .vmem) (ix := 10) (hn := rfl) (r := Rect.unit (s := S512x512) ![0, 0] S256x512.size inb_S512x512_S256x512_0_0) (fun i => (i 0).val / 256 = 0) (fun i h => Or.inr ((half_set (b := 0) rfl).symm ▸ Finset.mem_filter.mpr ⟨Finset.mem_univ i, h⟩)) (half0_at I c)) $$ H1
  iintro H1
  ihave H1 := (half_split c (I c).part1) $$ H1
  icases H1 with ⟨H1, H2⟩
  ihave H1 := eh $$ H1
  icases H1 with ⟨H1, HC⟩
  ihave HS := SS0_start $$ HS
  ihave HO := owes0_start $$ HO
  iapply (step_cond K (VI I) 0 0 (T := ∅) (by decide) (Or c 3 ∅ + Or c 2 ∅ + Or c 1 ∅) (cond1_iff c) (fun h => at_peer (k0_dev8_eq c) rfl) (k0_off1_eq c) (k0_off2_eq c) rfl rfl) $$ [HC HS HO]
  · isplitr; · iexact He
    isplitl [HC]; · iexact HC
    isplitl [HS]; · iexact HS
    iexact HO
  iintro ⟨HC, HS, HO⟩
  iapply (step_cond K (VI I) 0 1 (T := U1) (by decide) (Or c 3 ∅ + Or c 2 ∅ + Or c 1 ∅) (cond2_iff c) (fun h => at_peer (k0_dev9_eq c) rfl) (k0_off3_eq c) (k0_off4_eq c) rfl rfl) $$ [HC HS HO]
  · isplitr; · iexact He
    isplitl [HC]; · iexact HC
    isplitl [HS]; · iexact HS
    iexact HO
  iintro ⟨HC, HS, HO⟩
  iapply (step_cond K (VI I) 0 2 (T := U2) (by decide) (Or c 3 ∅ + Or c 2 ∅ + Or c 1 ∅) (cond3_iff c) (fun h => at_peer (k0_dev10_eq c) rfl) (k0_off5_eq c) (k0_off6_eq c) rfl rfl) $$ [HC HS HO]
  · isplitr; · iexact He
    isplitl [HC]; · iexact HC
    isplitl [HS]; · iexact HS
    iexact HO
  iintro ⟨HC, HS, HO⟩
  simp only [Prog.bind_op, Prog.bind_ret]
  iapply (step_cond K (VI I) 0 3 (T := U3) (by decide) (Or c 3 ∅ + Or c 2 ∅ + Or c 1 ∅) (cond4_iff c) (fun h => at_peer (k0_dev11_eq c) rfl) (k0_off7_eq c) (k0_off8_eq c) rfl rfl) $$ [HC HS HO]
  · isplitr; · iexact He
    isplitl [HC]; · iexact HC
    isplitl [HS]; · iexact HS
    iexact HO
  iintro ⟨HC, HS, HO⟩
  iapply (step_cond K (VI I) 0 4 (T := U4) (by decide) (Or c 3 ∅ + Or c 2 ∅ + Or c 1 ∅) (cond5_iff c) (fun h => at_peer (k0_dev12_eq c) rfl) (k0_off9_eq c) (k0_off10_eq c) rfl rfl) $$ [HC HS HO]
  · isplitr; · iexact He
    isplitl [HC]; · iexact HC
    isplitl [HS]; · iexact HS
    iexact HO
  iintro ⟨HC, HS, HO⟩
  iapply (step_cond K (VI I) 0 5 (T := U5) (by decide) (Or c 3 ∅ + Or c 2 ∅ + Or c 1 ∅) (cond6_iff c) (fun h => at_peer (k0_dev13_eq c) rfl) (k0_off11_eq c) (k0_off12_eq c) rfl rfl) $$ [HC HS HO]
  · isplitr; · iexact He
    isplitl [HC]; · iexact HC
    isplitl [HS]; · iexact HS
    iexact HO
  iintro ⟨HC, HS, HO⟩
  iapply (step_cond K (VI I) 0 6 (T := U6) (by decide) (Or c 3 ∅ + Or c 2 ∅ + Or c 1 ∅) (cond7_iff c) (fun h => at_peer (k0_dev14_eq c) rfl) (k0_off13_eq c) (k0_off14_eq c) rfl rfl) $$ [HC HS HO]
  · isplitr; · iexact He
    isplitl [HC]; · iexact HC
    isplitl [HS]; · iexact HS
    iexact HO
  iintro ⟨HC, HS, HO⟩
  simp only [Prog.bind_op, Prog.bind_ret]
  ihave HC := (SRC_all I) $$ HC
  iclear HC
  iapply (ldS (cs := .vmem) (ix := 0) (hn := rfl) (S := Finset.univ) (r := Rect.unit (s := S2x256x512) ![1, 0, 0] S1x256x512.size inb_S2x256x512_S1x256x512_1_0_0) (xblk (I c).x 1) (Finset.subset_univ _) (fun j => xblk_val (b := 1) (I c).x rfl j)) $$ Hx
  iintro Hx
  iapply Hk
  isplitl [H2]; · iexact H2
  isplitl [H1]; · iexact H1
  isplitl [Hx]; · iexact Hx
  isplitl [HS]; · iapply SS0_next; iexact HS
  iapply owes0_next; iexact HO

end Cert.Dit

end
-- ==== Proof.Body20.lean ====
/-
The body's middle: the own chunk of the feed-forward, then the seven others as they arrive, each sent to its device.
-/
module

public import proofs.«01_k».proof.Proof.OwnSlot

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

theorem run20 {Q : Dev nD → sProp 𝕄} (c : Dev nD) (v2 v507 v509 v511 v513 v515 v517 v519 : BitVec 32) :
    iprop(env (VI I) K ∗ slotAny (F := F) 2 c c ∗ RR (VI I) c 1 ∅ ∗ X2P I c ∗ MODP I c ∗ P2 (F := F) c ∅ ∗ SS c 2 ∅ ∗ owesX c (Or c 3 ∅ + Or c 2 ∅))
      ⊢ iprop((∀ w0 w1 w2 w3 w4 w5 w6, (slotPts fullShare 2 c c ((VI I).slot 2 c) ∗ RR (VI I) c 1 Finset.univ ∗ X2P I c ∗ MODP I c ∗ SS c 2 Finset.univ ∗ owesX c (Or c 3 ∅))
            -∗ Wp c (inst (rest35 (F := F)) c w0 w1 w2 w3 w4 w5 w6) Q)
          -∗ Wp c (inst (rest20 (F := F)) c v2 v507 v509 v511 v513 v515 v517 v519 (k0_pay53 (I c).w1) (k0_pay54 (I c).w2)
              (k0_pay55 (red1 I c) (I c).w1 (rows64 (I c).x2 c) (modrow (I c).modc 0 c) (modrow (I c).modc 1 c) (modrow (I c).modc 2 c)) (Scalar.ofBits .f32 0x00000000#32)) Q) := by
  unfold inst rest20
  simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, Prog.lift, Prog.bind_op, Prog.bind_ret, Prog.pure_eq_ret]
  iintro ⟨#He, Ho, HR, Hx, Hm, HP, HS, HO⟩ Hk
  iapply (own_st2 (rs2 I c) (k0_off30_eq c) (own2_at I c (k0_off30_eq c))) $$ Ho
  iintro Ho
  iapply (step_ffn I K 6 (Or c 3 ∅) (S := ∅) (T := ∅) (w := 7#32) rfl (at_peer (k0_dev29_eq c) rfl) (by decide) (by decide) rfl rfl rfl (above_Or c 3 ∅ (by decide))
    (fun a x m0 m1 m2 => k0_pay59 (k0_pay58 (k0_pay53 (I c).w1) (k0_pay54 (I c).w2) x (k0_pay57 a m0) m1 m2)) rfl) $$ [HR Hx Hm HP HS HO]
  · isplitr; · iexact He
    isplitl [HR]; · iexact HR
    isplitl [Hx]; · iexact Hx
    isplitl [Hm]; · iexact Hm
    isplitl [HP]; · iexact HP
    isplitl [HS]; · iexact HS
    iexact HO
  iintro ⟨HR, Hx, Hm, HP, HS, HO⟩
  iapply (step_ffn I K 5 (Or c 3 ∅) (S := U1) (T := D1) (w := 6#32) rfl (at_peer (k0_dev30_eq c) rfl) (by decide) (by decide) rfl rfl rfl (above_Or c 3 ∅ (by decide))
    (fun a x m0 m1 m2 => k0_pay62 (k0_pay61 (k0_pay53 (I c).w1) (k0_pay54 (I c).w2) (k0_pay60 a) x m0 m1 m2)) rfl) $$ [HR Hx Hm HP HS HO]
  · isplitr; · iexact He
    isplitl [HR]; · iexact HR
    isplitl [Hx]; · iexact Hx
    isplitl [Hm]; · iexact Hm
    isplitl [HP]; · iexact HP
    isplitl [HS]; · iexact HS
    iexact HO
  iintro ⟨HR, Hx, Hm, HP, HS, HO⟩
  iapply (step_ffn I K 4 (Or c 3 ∅) (S := U2) (T := D2) (w := 5#32) rfl (at_peer (k0_dev31_eq c) rfl) (by decide) (by decide) rfl rfl rfl (above_Or c 3 ∅ (by decide))
    (fun a x m0 m1 m2 => k0_pay65 (k0_pay54 (I c).w2) (k0_pay64 (k0_pay53 (I c).w1) (k0_pay63 a) x m0 m1 m2) (constant (F := F) S64x512 .f32 0x00000000#32)) rfl) $$ [HR Hx Hm HP HS HO]
  · isplitr; · iexact He
    isplitl [HR]; · iexact HR
    isplitl [Hx]; · iexact Hx
    isplitl [Hm]; · iexact Hm
    isplitl [HP]; · iexact HP
    isplitl [HS]; · iexact HS
    iexact HO
  iintro ⟨HR, Hx, Hm, HP, HS, HO⟩
  iapply (step_ffn I K 3 (Or c 3 ∅) (S := U3) (T := D3) (w := 4#32) rfl (at_peer (k0_dev32_eq c) rfl) (by decide) (by decide) rfl rfl rfl (above_Or c 3 ∅ (by decide))
    (fun a x m0 m1 m2 => k0_pay70 (k0_pay54 (I c).w2) (k0_pay67 (k0_pay53 (I c).w1) (k0_pay66 a) x m0 m1 m2) (k0_pay68 (k0_pay53 (I c).w1) (k0_pay66 a) x m0 m1 m2) (k0_pay69 (F := F))) rfl) $$ [HR Hx Hm HP HS HO]
  · isplitr; · iexact He
    isplitl [HR]; · iexact HR
    isplitl [Hx]; · iexact Hx
    isplitl [Hm]; · iexact Hm
    isplitl [HP]; · iexact HP
    isplitl [HS]; · iexact HS
    iexact HO
  iintro ⟨HR, Hx, Hm, HP, HS, HO⟩
  iapply (step_ffn I K 2 (Or c 3 ∅) (S := U4) (T := D4) (w := 3#32) rfl (at_peer (k0_dev33_eq c) rfl) (by decide) (by decide) rfl rfl rfl (above_Or c 3 ∅ (by decide))
    (fun a x m0 m1 m2 => k0_pay73 (k0_pay54 (I c).w2) (k0_pay71 (k0_pay53 (I c).w1) a x m0 m1 m2) (k0_pay72 (F := F))) rfl) $$ [HR Hx Hm HP HS HO]
  · isplitr; · iexact He
    isplitl [HR]; · iexact HR
    isplitl [Hx]; · iexact Hx
    isplitl [Hm]; · iexact Hm
    isplitl [HP]; · iexact HP
    isplitl [HS]; · iexact HS
    iexact HO
  iintro ⟨HR, Hx, Hm, HP, HS, HO⟩
  iapply (step_ffn I K 1 (Or c 3 ∅) (S := U5) (T := D5) (w := 2#32) rfl (at_peer (k0_dev34_eq c) rfl) (by decide) (by decide) rfl rfl rfl (above_Or c 3 ∅ (by decide))
    (fun a x m0 m1 m2 => k0_pay75 (k0_pay53 (I c).w1) (k0_pay54 (I c).w2) (k0_pay74 a x m0 m1 m2)) rfl) $$ [HR Hx Hm HP HS HO]
  · isplitr; · iexact He
    isplitl [HR]; · iexact HR
    isplitl [Hx]; · iexact Hx
    isplitl [Hm]; · iexact Hm
    isplitl [HP]; · iexact HP
    isplitl [HS]; · iexact HS
    iexact HO
  iintro ⟨HR, Hx, Hm, HP, HS, HO⟩
  iapply (step_ffn I K 0 (Or c 3 ∅) (S := U6) (T := D6) (w := 1#32) rfl (at_peer (k0_dev35_eq c) rfl) (by decide) (by decide) rfl rfl rfl (above_Or c 3 ∅ (by decide))
    (fun a x m0 m1 m2 => k0_pay77 (k0_pay53 (I c).w1) (k0_pay54 (I c).w2) (k0_pay76 a x m0 m1) m2) rfl) $$ [HR Hx Hm HP HS HO]
  · isplitr; · iexact He
    isplitl [HR]; · iexact HR
    isplitl [Hx]; · iexact Hx
    isplitl [Hm]; · iexact Hm
    isplitl [HP]; · iexact HP
    isplitl [HS]; · iexact HS
    iexact HO
  iintro ⟨HR, Hx, Hm, HP, HS, HO⟩
  iapply Hk
  isplitl [Ho]; · iexact Ho
  isplitl [HR]; · iapply RR_all; iexact HR
  isplitl [Hx]; · iexact Hx
  isplitl [Hm]; · iexact Hm
  isplitl [HS]; · iapply SS_all_down; iexact HS
  iapply owes_all_down; iexact HO

end Cert.Dit

end
-- ==== Proof.Body41.lean ====
/-
The body's last stretches: the result chunk by chunk as it arrives, then the waits for what was sent.
-/
module

public import proofs.«01_k».proof.Proof.OwnSlot

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

theorem SW_all_down {V : Vals F} {c : Dev nD} {p : Fin 4} : SW V c p (insert 0 D6) ⊢ SW V c p Finset.univ := Entails.of_eq (congrArg (SW V c p) D_all)
theorem SW_all {V : Vals F} {c : Dev nD} {p : Fin 4} : SW V c p (insert 6 U6) ⊢ SW V c p Finset.univ := Entails.of_eq (congrArg (SW V c p) U_all)

/-- The waits for departures, one after another. -/
theorem run49 {Q : Dev nD → sProp 𝕄} (c : Dev nD) :
    iprop(env (VI I) K ∗ SW (VI I) c 0 U2 ∗ SW (VI I) c 1 ∅ ∗ SW (VI I) c 2 ∅ ∗ SW (VI I) c 3 ∅ ∗ owesX c 0)
      ⊢ iprop(((SW (VI I) c 0 Finset.univ ∗ SW (VI I) c 1 Finset.univ ∗ SW (VI I) c 2 Finset.univ ∗ SW (VI I) c 3 U5 ∗ owesX c 0) -∗ Wp c (.ret c) Q)
          -∗ Wp c (inst (rest49 (F := F)) c) Q) := by
  unfold inst rest49
  simp only [k0_part49_eq_skeleton, k0_part50_eq_skeleton, k0_part51_eq_skeleton, k0_part52_eq_skeleton, k0_part53_eq_skeleton, k0_part54_eq_skeleton, k0_part49_skel, k0_part50_skel, k0_part51_skel, k0_part52_skel, k0_part53_skel, k0_part54_skel, Prog.lift, Prog.bind_op, Prog.bind_ret, Prog.pure_eq_ret]
  iintro ⟨#He, H0, H1, H2, H3, HO⟩ Hk
  iapply (step_swait (VI I) K 0 2 (S := U2) (by decide) rfl (rowsM_credit _ _ _)) $$ [H0 HO]
  · isplitr; · iexact He
    isplitl [H0]; · iexact H0
    iexact HO
  iintro ⟨H0, HO⟩
  iapply (step_swait (VI I) K 0 3 (S := U3) (by decide) rfl (rowsM_credit _ _ _)) $$ [H0 HO]
  · isplitr; · iexact He
    isplitl [H0]; · iexact H0
    iexact HO
  iintro ⟨H0, HO⟩
  iapply (step_swait (VI I) K 0 4 (S := U4) (by decide) rfl (rowsM_credit _ _ _)) $$ [H0 HO]
  · isplitr; · iexact He
    isplitl [H0]; · iexact H0
    iexact HO
  iintro ⟨H0, HO⟩
  iapply (step_swait (VI I) K 0 5 (S := U5) (by decide) rfl (rowsM_credit _ _ _)) $$ [H0 HO]
  · isplitr; · iexact He
    isplitl [H0]; · iexact H0
    iexact HO
  iintro ⟨H0, HO⟩
  iapply (step_swait (VI I) K 0 6 (S := U6) (by decide) rfl (rowsM_credit _ _ _)) $$ [H0 HO]
  · isplitr; · iexact He
    isplitl [H0]; · iexact H0
    iexact HO
  iintro ⟨H0, HO⟩
  iapply (step_swait (VI I) K 1 0 (S := ∅) (by decide) rfl (slotM_credit _ _ _)) $$ [H1 HO]
  · isplitr; · iexact He
    isplitl [H1]; · iexact H1
    iexact HO
  iintro ⟨H1, HO⟩
  iapply (step_swait (VI I) K 1 1 (S := U1) (by decide) rfl (slotM_credit _ _ _)) $$ [H1 HO]
  · isplitr; · iexact He
    isplitl [H1]; · iexact H1
    iexact HO
  iintro ⟨H1, HO⟩
  iapply (step_swait (VI I) K 1 2 (S := U2) (by decide) rfl (slotM_credit _ _ _)) $$ [H1 HO]
  · isplitr; · iexact He
    isplitl [H1]; · iexact H1
    iexact HO
  iintro ⟨H1, HO⟩
  iapply (step_swait (VI I) K 1 3 (S := U3) (by decide) rfl (slotM_credit _ _ _)) $$ [H1 HO]
  · isplitr; · iexact He
    isplitl [H1]; · iexact H1
    iexact HO
  iintro ⟨H1, HO⟩
  iapply (step_swait (VI I) K 1 4 (S := U4) (by decide) rfl (slotM_credit _ _ _)) $$ [H1 HO]
  · isplitr; · iexact He
    isplitl [H1]; · iexact H1
    iexact HO
  iintro ⟨H1, HO⟩
  iapply (step_swait (VI I) K 1 5 (S := U5) (by decide) rfl (slotM_credit _ _ _)) $$ [H1 HO]
  · isplitr; · iexact He
    isplitl [H1]; · iexact H1
    iexact HO
  iintro ⟨H1, HO⟩
  iapply (step_swait (VI I) K 1 6 (S := U6) (by decide) rfl (slotM_credit _ _ _)) $$ [H1 HO]
  · isplitr; · iexact He
    isplitl [H1]; · iexact H1
    iexact HO
  iintro ⟨H1, HO⟩
  iapply (step_swait (VI I) K 2 6 (S := ∅) (by decide) rfl (rowsM_credit _ _ _)) $$ [H2 HO]
  · isplitr; · iexact He
    isplitl [H2]; · iexact H2
    iexact HO
  iintro ⟨H2, HO⟩
  iapply (step_swait (VI I) K 2 5 (S := D1) (by decide) rfl (rowsM_credit _ _ _)) $$ [H2 HO]
  · isplitr; · iexact He
    isplitl [H2]; · iexact H2
    iexact HO
  iintro ⟨H2, HO⟩
  iapply (step_swait (VI I) K 2 4 (S := D2) (by decide) rfl (rowsM_credit _ _ _)) $$ [H2 HO]
  · isplitr; · iexact He
    isplitl [H2]; · iexact H2
    iexact HO
  iintro ⟨H2, HO⟩
  iapply (step_swait (VI I) K 2 3 (S := D3) (by decide) rfl (rowsM_credit _ _ _)) $$ [H2 HO]
  · isplitr; · iexact He
    isplitl [H2]; · iexact H2
    iexact HO
  iintro ⟨H2, HO⟩
  iapply (step_swait (VI I) K 2 2 (S := D4) (by decide) rfl (rowsM_credit _ _ _)) $$ [H2 HO]
  · isplitr; · iexact He
    isplitl [H2]; · iexact H2
    iexact HO
  iintro ⟨H2, HO⟩
  iapply (step_swait (VI I) K 2 1 (S := D5) (by decide) rfl (rowsM_credit _ _ _)) $$ [H2 HO]
  · isplitr; · iexact He
    isplitl [H2]; · iexact H2
    iexact HO
  iintro ⟨H2, HO⟩
  iapply (step_swait (VI I) K 2 0 (S := D6) (by decide) rfl (rowsM_credit _ _ _)) $$ [H2 HO]
  · isplitr; · iexact He
    isplitl [H2]; · iexact H2
    iexact HO
  iintro ⟨H2, HO⟩
  iapply (step_swait (VI I) K 3 0 (S := ∅) (by decide) rfl (slotM_credit _ _ _)) $$ [H3 HO]
  · isplitr; · iexact He
    isplitl [H3]; · iexact H3
    iexact HO
  iintro ⟨H3, HO⟩
  iapply (step_swait (VI I) K 3 1 (S := U1) (by decide) rfl (slotM_credit _ _ _)) $$ [H3 HO]
  · isplitr; · iexact He
    isplitl [H3]; · iexact H3
    iexact HO
  iintro ⟨H3, HO⟩
  iapply (step_swait (VI I) K 3 2 (S := U2) (by decide) rfl (slotM_credit _ _ _)) $$ [H3 HO]
  · isplitr; · iexact He
    isplitl [H3]; · iexact H3
    iexact HO
  iintro ⟨H3, HO⟩
  iapply (step_swait (VI I) K 3 3 (S := U3) (by decide) rfl (slotM_credit _ _ _)) $$ [H3 HO]
  · isplitr; · iexact He
    isplitl [H3]; · iexact H3
    iexact HO
  iintro ⟨H3, HO⟩
  iapply (step_swait (VI I) K 3 4 (S := U4) (by decide) rfl (slotM_credit _ _ _)) $$ [H3 HO]
  · isplitr; · iexact He
    isplitl [H3]; · iexact H3
    iexact HO
  iintro ⟨H3, HO⟩
  iapply Hk
  isplitl [H0]; · iapply SW_all; iexact H0
  isplitl [H1]; · iapply SW_all; iexact H1
  isplitl [H2]; · iapply SW_all_down; iexact H2
  isplitl [H3]; · iexact H3
  iexact HO

theorem outD_all (c : Dev nD) : agr c cc0_stg9_0 (outD c (insert 0 D6)) (outc I c) ⊢ (((c : Thread nD τ).loc cc0_stg9_0) ↦{fullShare} (outc I c : Buf (Elt F) ((c : Thread nD τ).loc cc0_stg9_0)) : sProp 𝕄) :=
  agr_all c cc0_stg9_0 _ _ fun i => by rw [D_all]; exact outD_univ c i

theorem run41 {Q : Dev nD → sProp 𝕄} (c : Dev nD) (v2 v1273 v1275 v1277 v1279 v1281 v1283 v1285 : BitVec 32) :
    iprop(env (VI I) K ∗ RR (VI I) c 3 ∅ ∗ RR (VI I) c 1 Finset.univ ∗ X2P I c ∗ MODP I c ∗ agr c cc0_stg9_0 (fun _ => False) (outc I c) ∗ SW (VI I) c 0 ∅ ∗ owesX c 0)
      ⊢ iprop(((RR (VI I) c 3 Finset.univ ∗ RR (VI I) c 1 Finset.univ ∗ X2P I c ∗ MODP I c ∗ (((c : Thread nD τ).loc cc0_stg9_0) ↦{fullShare} (outc I c : Buf (Elt F) ((c : Thread nD τ).loc cc0_stg9_0)))
            ∗ SW (VI I) c 0 U2 ∗ owesX c 0) -∗ Wp c (inst (rest49 (F := F)) c) Q)
          -∗ Wp c (inst (rest41 (F := F)) c v2 (red2 I c) v1273 v1275 v1277 v1279 v1281 v1283 v1285 (rows64 (I c).x2 c) (k0_pay81 (modrow (I c).modc 0 c)) (k0_pay82 (slotv (ag1 I) c))) Q) := by
  unfold inst rest41
  simp only [k0_part41_eq_skeleton, k0_part42_eq_skeleton, k0_part43_eq_skeleton, k0_part44_eq_skeleton, k0_part45_eq_skeleton, k0_part46_eq_skeleton, k0_part47_eq_skeleton, k0_part48_eq_skeleton, k0_part41_skel, k0_part42_skel, k0_part43_skel, k0_part44_skel, k0_part45_skel, k0_part46_skel, k0_part47_skel, k0_part48_skel, Prog.lift, Prog.bind_op, Prog.bind_ret, Prog.pure_eq_ret]
  iintro ⟨#He, HR, HR1, Hx, Hm, Ho, H0, HO⟩ Hk
  iapply (ld_mod 3 c (k0_off41_eq c) (I c).modc) $$ Hm
  iintro Hm
  iapply (ldA (cs := .vmem) (ix := 9) (hn := rfl) (r := Rect.unit (s := S512x512) (k0_off29 c) S64x512.size (k0_off29_inb c))) $$ Ho
  iintro %v Ho
  iapply (stA (cs := .vmem) (ix := 9) (hn := rfl) (r := Rect.unit (s := S512x512) (k0_off29 c) S64x512.size (k0_off29_inb c)) (outD c ∅) (fun i hi => by
      rcases hi with h | ⟨k', hk', h⟩
      · exact Or.inr (mem_rows (k0_off29_eq c) h)
      · exact absurd hk' (Finset.notMem_empty k')) (fun j => outc_at_own I (k0_off29_eq c) j)) $$ Ho
  iintro Ho
  iapply (step_out I K 6 (S := ∅) (T := ∅) (w := 7#32) rfl (by decide) rfl (fun g x m0 a m3 => k0_pay86 (k0_pay84 g) x (k0_pay85 m0) a m3) rfl) $$ [HR HR1 Hx Hm Ho HO]
  · isplitr; · iexact He
    isplitl [HR]; · iexact HR
    isplitl [HR1]; · iexact HR1
    isplitl [Hx]; · iexact Hx
    isplitl [Hm]; · iexact Hm
    isplitl [Ho]; · iexact Ho
    iexact HO
  iintro ⟨HR, HR1, Hx, Hm, Ho, HO⟩
  iapply (step_out I K 5 (S := U1) (T := D1) (w := 6#32) rfl (by decide) rfl (fun g x m0 a m3 => k0_pay89 (k0_pay87 g) x (k0_pay88 m0) a m3) rfl) $$ [HR HR1 Hx Hm Ho HO]
  · isplitr; · iexact He
    isplitl [HR]; · iexact HR
    isplitl [HR1]; · iexact HR1
    isplitl [Hx]; · iexact Hx
    isplitl [Hm]; · iexact Hm
    isplitl [Ho]; · iexact Ho
    iexact HO
  iintro ⟨HR, HR1, Hx, Hm, Ho, HO⟩
  iapply (step_out I K 4 (S := U2) (T := D2) (w := 5#32) rfl (by decide) rfl (fun g x m0 a m3 => k0_pay91 (k0_pay90 g) x m0 a m3) rfl) $$ [HR HR1 Hx Hm Ho HO]
  · isplitr; · iexact He
    isplitl [HR]; · iexact HR
    isplitl [HR1]; · iexact HR1
    isplitl [Hx]; · iexact Hx
    isplitl [Hm]; · iexact Hm
    isplitl [Ho]; · iexact Ho
    iexact HO
  iintro ⟨HR, HR1, Hx, Hm, Ho, HO⟩
  iapply (step_out I K 3 (S := U3) (T := D3) (w := 4#32) rfl (by decide) rfl (fun g x m0 a m3 => k0_pay93 (k0_pay92 g) x m0 a m3) rfl) $$ [HR HR1 Hx Hm Ho HO]
  · isplitr; · iexact He
    isplitl [HR]; · iexact HR
    isplitl [HR1]; · iexact HR1
    isplitl [Hx]; · iexact Hx
    isplitl [Hm]; · iexact Hm
    isplitl [Ho]; · iexact Ho
    iexact HO
  iintro ⟨HR, HR1, Hx, Hm, Ho, HO⟩
  iapply (step_out I K 2 (S := U4) (T := D4) (w := 3#32) rfl (by decide) rfl (fun g x m0 a m3 => k0_pay95 (k0_pay94 g) x m0 a m3) rfl) $$ [HR HR1 Hx Hm Ho HO]
  · isplitr; · iexact He
    isplitl [HR]; · iexact HR
    isplitl [HR1]; · iexact HR1
    isplitl [Hx]; · iexact Hx
    isplitl [Hm]; · iexact Hm
    isplitl [Ho]; · iexact Ho
    iexact HO
  iintro ⟨HR, HR1, Hx, Hm, Ho, HO⟩
  iapply (step_out I K 1 (S := U5) (T := D5) (w := 2#32) rfl (by decide) rfl (fun g x m0 a m3 => k0_pay97 (k0_pay96 g) x m0 a m3) rfl) $$ [HR HR1 Hx Hm Ho HO]
  · isplitr; · iexact He
    isplitl [HR]; · iexact HR
    isplitl [HR1]; · iexact HR1
    isplitl [Hx]; · iexact Hx
    isplitl [Hm]; · iexact Hm
    isplitl [Ho]; · iexact Ho
    iexact HO
  iintro ⟨HR, HR1, Hx, Hm, Ho, HO⟩
  iapply (step_out I K 0 (S := U6) (T := D6) (w := 1#32) rfl (by decide) rfl (fun g x m0 a m3 => k0_pay99 (k0_pay98 g) x m0 a m3) rfl) $$ [HR HR1 Hx Hm Ho HO]
  · isplitr; · iexact He
    isplitl [HR]; · iexact HR
    isplitl [HR1]; · iexact HR1
    isplitl [Hx]; · iexact Hx
    isplitl [Hm]; · iexact Hm
    isplitl [Ho]; · iexact Ho
    iexact HO
  iintro ⟨HR, HR1, Hx, Hm, Ho, HO⟩
  iapply (step_swait (VI I) K 0 0 (S := ∅) (by decide) rfl (rowsM_credit _ _ _)) $$ [H0 HO]
  · isplitr; · iexact He
    isplitl [H0]; · iexact H0
    iexact HO
  iintro ⟨H0, HO⟩
  iapply (step_swait (VI I) K 0 1 (S := U1) (by decide) rfl (rowsM_credit _ _ _)) $$ [H0 HO]
  · isplitr; · iexact He
    isplitl [H0]; · iexact H0
    iexact HO
  iintro ⟨H0, HO⟩
  iapply Hk
  isplitl [HR]; · iapply RR_all; iexact HR
  isplitl [HR1]; · iexact HR1
  isplitl [Hx]; · iexact Hx
  isplitl [Hm]; · iexact Hm
  isplitl [Ho]; · iapply (outD_all I c); iexact Ho
  isplitl [H0]; · iexact H0
  iexact HO

end Cert.Dit

end
-- ==== Proof.Body.lean ====
/-
The whole body on a device: from its tokens and buffers to its result.
-/
module

public import proofs.«01_k».proof.Proof.Body1
public import proofs.«01_k».proof.Proof.Body9
public import proofs.«01_k».proof.Proof.Body20
public import proofs.«01_k».proof.Proof.Body41

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

/-- The entry signals' tokens, and a phase's copies'. -/
def TB (c : Dev nD) : sProp 𝕄 := bigSep Finset.univ fun k : Fin 7 => dutyTok ER (barCell (peer c k)) 0 k
def TK (c : Dev nD) (p : Fin 4) : sProp 𝕄 := bigSep Finset.univ fun k : Fin 7 => iprop(dutyTok ER (sendCell c p k) 0 0 ∗ dutyTok ER (recvCell (peer c k) p k) 0 0)

theorem BS_intro (c : Dev nD) : iprop(TB c ∗ (bigSep Finset.univ fun k : Fin 7 => slotAny (F := F) 0 c (peer c k)) ∗ (bigSep Finset.univ fun k : Fin 7 => slotAny (F := F) 1 c (peer c k))
      ∗ (bigSep Finset.univ fun k : Fin 7 => slotAny (F := F) 2 c (peer c k)) ∗ (bigSep Finset.univ fun k : Fin 7 => slotAny (F := F) 3 c (peer c k)))
    ⊢ BS (F := F) c ∅ := by
  have h := by_phase (F := F) c fun k p => slotAny p c (peer c k)
  rw [← h]
  unfold TB BS
  rw [← bigSep_sep']
  refine bigSep_mono fun k _ => ?_
  rw [if_neg (Finset.notMem_empty k)]
  exact BI.Entails.refl _

theorem given (c : Dev nD) : (bigSep Finset.univ fun k : Fin 7 => give (F := F) (peer c k) c)
    ⊢ iprop((bigSep Finset.univ fun k : Fin 7 => slotAny (F := F) 0 (peer c k) c) ∗ (bigSep Finset.univ fun k : Fin 7 => slotAny (F := F) 1 (peer c k) c)
      ∗ (bigSep Finset.univ fun k : Fin 7 => slotAny (F := F) 2 (peer c k) c) ∗ (bigSep Finset.univ fun k : Fin 7 => slotAny (F := F) 3 (peer c k) c)) :=
  Entails.of_eq (by_phase (F := F) c fun k p => slotAny p (peer c k) c)

theorem started (c : Dev nD) (p : Fin 4) : iprop(TK c p ∗ bigSep Finset.univ fun k : Fin 7 => slotAny (F := F) p (peer c k) c) ⊢ SS c p ∅ := starts c p

/-- The operands' buffers. -/
def STG (c : Dev nD) : sProp 𝕄 := iprop((((c : Thread nD τ).loc cc0_stg0_0) ↦{fullShare} ((I c).x : Buf (Elt F) ((c : Thread nD τ).loc cc0_stg0_0))) ∗ (((c : Thread nD τ).loc cc0_stg1_0) ↦{fullShare} ((I c).wq : Buf (Elt F) ((c : Thread nD τ).loc cc0_stg1_0))) ∗ (((c : Thread nD τ).loc cc0_stg2_0) ↦{fullShare} ((I c).wk : Buf (Elt F) ((c : Thread nD τ).loc cc0_stg2_0))) ∗ (((c : Thread nD τ).loc cc0_stg3_0) ↦{fullShare} ((I c).wv : Buf (Elt F) ((c : Thread nD τ).loc cc0_stg3_0))) ∗ (((c : Thread nD τ).loc cc0_stg4_0) ↦{fullShare} ((I c).wo : Buf (Elt F) ((c : Thread nD τ).loc cc0_stg4_0))) ∗ (((c : Thread nD τ).loc cc0_stg5_0) ↦{fullShare} ((I c).t : Buf (Elt F) ((c : Thread nD τ).loc cc0_stg5_0))) ∗ (((c : Thread nD τ).loc cc0_stg6_0) ↦{fullShare} ((I c).wm : Buf (Elt F) ((c : Thread nD τ).loc cc0_stg6_0))) ∗ (((c : Thread nD τ).loc cc0_stg7_0) ↦{fullShare} ((I c).w1 : Buf (Elt F) ((c : Thread nD τ).loc cc0_stg7_0))) ∗ (((c : Thread nD τ).loc cc0_stg8_0) ↦{fullShare} ((I c).w2 : Buf (Elt F) ((c : Thread nD τ).loc cc0_stg8_0))))
def SCR (c : Dev nD) : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f))
/-- What a device's cells are at the start and at the end. -/
def LIVE (c : Dev nD) : sProp 𝕄 :=
  iprop(TB c ∗ TK c 0 ∗ TK c 1 ∗ TK c 2 ∗ TK c 3 ∗ atPos ER (barCell c) 0 ∅ 0 ∗ cred (tallyAt (barCell c) () 7)
    ∗ RR (VI I) c 0 ∅ ∗ RR (VI I) c 1 ∅ ∗ RR (VI I) c 2 ∅ ∗ RR (VI I) c 3 ∅ ∗ ATS (F := F) c 0 0 ∗ ATS (F := F) c 1 0 ∗ ATS (F := F) c 2 0 ∗ ATS (F := F) c 3 0)
def DONE (c : Dev nD) : sProp 𝕄 :=
  iprop(atPos ER (barCell c) 1 ∅ 0 ∗ ATR (F := F) c 0 1 ∗ ATR (F := F) c 1 1 ∗ ATR (F := F) c 2 1 ∗ ATR (F := F) c 3 1
    ∗ ATS (F := F) c 0 1 ∗ ATS (F := F) c 1 1 ∗ ATS (F := F) c 2 1 ∗ ATS (F := F) c 3 1)

theorem slots0 (c : Dev nD) (f : Buf (Elt F) ((c : Thread nD τ).loc cc0_scratch2)) : (((c : Thread nD τ).loc cc0_scratch2) ↦{fullShare} f : sProp 𝕄)
    ⊢ iprop(slotAny 0 c c ∗ bigSep Finset.univ fun k : Fin 7 => slotAny (F := F) 0 c (peer c k)) := split_any 0 c f
theorem slots1 (c : Dev nD) (f : Buf (Elt F) ((c : Thread nD τ).loc cc0_scratch4)) : (((c : Thread nD τ).loc cc0_scratch4) ↦{fullShare} f : sProp 𝕄)
    ⊢ iprop(slotAny 1 c c ∗ bigSep Finset.univ fun k : Fin 7 => slotAny (F := F) 1 c (peer c k)) := split_any 1 c f
theorem slots2 (c : Dev nD) (f : Buf (Elt F) ((c : Thread nD τ).loc cc0_scratch3)) : (((c : Thread nD τ).loc cc0_scratch3) ↦{fullShare} f : sProp 𝕄)
    ⊢ iprop(slotAny 2 c c ∗ bigSep Finset.univ fun k : Fin 7 => slotAny (F := F) 2 c (peer c k)) := split_any 2 c f
theorem slots3 (c : Dev nD) (f : Buf (Elt F) ((c : Thread nD τ).loc cc0_scratch5)) : (((c : Thread nD τ).loc cc0_scratch5) ↦{fullShare} f : sProp 𝕄)
    ⊢ iprop(slotAny 3 c c ∗ bigSep Finset.univ fun k : Fin 7 => slotAny (F := F) 3 c (peer c k)) := split_any 3 c f
theorem back0 (c : Dev nD) : iprop(chunk1Pts c c (I c).part1 ∗ bigSep Finset.univ fun k : Fin 7 => sendPay (VI I) 0 c k)
    ⊢ (((c : Thread nD τ).loc cc0_scratch0) ↦{fullShare} ((I c).part1 : Buf (Elt F) ((c : Thread nD τ).loc cc0_scratch0)) : sProp 𝕄) := chunks1_back (VI I) c
theorem back2 (c : Dev nD) (f : (cc0_scratch1 : Ref sig .tc).ty.Contents (Elt F)) : iprop(chunk2Pts c c f ∗ bigSep Finset.univ fun k : Fin 7 => sendPay (VI I) 2 c k)
    ⊢ (iprop((∃ f : Buf (Elt F) ((c : Thread nD τ).loc cc0_scratch1), ((c : Thread nD τ).loc cc0_scratch1) ↦{fullShare} f)) : sProp 𝕄) := chunks2_back (VI I) c f
theorem back1 (c : Dev nD) : iprop(slotPts dropped 1 c c (ag1 I) ∗ (bigSep Finset.univ fun k : Fin 7 => sendPay (VI I) 1 c k) ∗ RR (VI I) c 1 Finset.univ)
    ⊢ iprop((((c : Thread nD τ).loc cc0_scratch4) ↦{fullShare} (ag1 I : Buf (Elt F) ((c : Thread nD τ).loc cc0_scratch4))) ∗ ATR (F := F) c 1 1) := by
  have h1 : iprop(slotPts dropped 1 c c (ag1 I) ∗ (bigSep Finset.univ fun k : Fin 7 => sendPay (VI I) 1 c k)) ⊢ slotPts fullShare 1 c c (ag1 I) := unlend I 1 c
  have h2 : iprop(slotPts fullShare 1 c c (ag1 I) ∗ RR (VI I) c 1 Finset.univ) ⊢ iprop((((c : Thread nD τ).loc cc0_scratch4) ↦{fullShare} (ag1 I : Buf (Elt F) ((c : Thread nD τ).loc cc0_scratch4))) ∗ ATR (F := F) c 1 1) := arrived (VI I) 1 c
  iintro ⟨H1, H2, H3⟩
  iapply h2
  isplitl [H1 H2]
  · iapply h1
    isplitl [H1]; · iexact H1
    iexact H2
  iexact H3
theorem back3 (c : Dev nD) : iprop(slotPts dropped 3 c c (ag2 I) ∗ (bigSep Finset.univ fun k : Fin 7 => sendPay (VI I) 3 c k) ∗ RR (VI I) c 3 Finset.univ)
    ⊢ iprop((((c : Thread nD τ).loc cc0_scratch5) ↦{fullShare} (ag2 I : Buf (Elt F) ((c : Thread nD τ).loc cc0_scratch5))) ∗ ATR (F := F) c 3 1) := by
  have h1 : iprop(slotPts dropped 3 c c (ag2 I) ∗ (bigSep Finset.univ fun k : Fin 7 => sendPay (VI I) 3 c k)) ⊢ slotPts fullShare 3 c c (ag2 I) := unlend I 3 c
  have h2 : iprop(slotPts fullShare 3 c c (ag2 I) ∗ RR (VI I) c 3 Finset.univ) ⊢ iprop((((c : Thread nD τ).loc cc0_scratch5) ↦{fullShare} (ag2 I : Buf (Elt F) ((c : Thread nD τ).loc cc0_scratch5))) ∗ ATR (F := F) c 3 1) := arrived (VI I) 3 c
  iintro ⟨H1, H2, H3⟩
  iapply h2
  isplitl [H1 H2]
  · iapply h1
    isplitl [H1]; · iexact H1
    iexact H2
  iexact H3

theorem body_run (c : Dev nD) (Kt : PUnit → sProp 𝕄) :
    iprop(env (VI I) K ∗ LIVE I c ∗ owesX c (O₀ c) ∗ STG I c ∗ agr c cc0_stg9_0 (fun _ => False) (outc I c) ∗ SCR c
        ∗ ((DONE c ∗ owesX c 0 ∗ STG I c ∗ (((c : Thread nD τ).loc cc0_stg9_0) ↦{fullShare} (outc I c : Buf (Elt F) ((c : Thread nD τ).loc cc0_stg9_0))) ∗ SCR c) -∗ |={Set.univ}=> Kt ⟨⟩))
      ⊢ Wp c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Kt := by
  rw [cc0_body_eq_skeleton]
  unfold cc0_body_skel
  unfold Wp
  rw [wp_bind, part55_eq]
  simp only [Prog.lift, Prog.bind_op, Prog.bind_ret, Prog.pure_eq_ret]
  unfold LIVE O₀ STG SCR
  iintro ⟨#He, ⟨HTB, HT0, HT1, HT2, HT3, Hat, Hc, HR0, HR1, HR2, HR3, HA0, HA1, HA2, HA3⟩, HO, ⟨Hx, Hq, Hk1, Hv, Ho, Ht, Hw, Hw1, Hw2⟩, Hout, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩⟩, Hk⟩
  ihave Hs2 := (slots0 c f2) $$ Hs2
  icases Hs2 with ⟨Ho0, Hg0⟩
  ihave Hs4 := (slots1 c f4) $$ Hs4
  icases Hs4 with ⟨Ho1, Hg1⟩
  ihave Hs3 := (slots2 c f3) $$ Hs3
  icases Hs3 with ⟨Ho2, Hg2⟩
  ihave Hs5 := (slots3 c f5) $$ Hs5
  icases Hs5 with ⟨Ho3, Hg3⟩
  ihave HB := (BS_intro (F := F) c) $$ [HTB Hg0 Hg1 Hg2 Hg3]
  · isplitl [HTB]; · iexact HTB
    isplitl [Hg0]; · iexact Hg0
    isplitl [Hg1]; · iexact Hg1
    isplitl [Hg2]; · iexact Hg2
    iexact Hg3
  ihave Hs7 := (agr_none c cc0_scratch7 (DM 0) (I c).modc (fun i h => Nat.not_lt_zero _ h) f7) $$ Hs7
  ihave Hs6 := (agr_none c cc0_scratch6 (DX 0) (I c).x2 (fun i h => Nat.not_lt_zero _ h) f6) $$ Hs6
  ihave Hs0 := (agr_none c cc0_scratch0 (fun _ => False) (I c).part1 (fun i h => h) f0) $$ Hs0
  ihave Hs1 := (chunks2_any c f1) $$ Hs1
  icases Hs1 with ⟨Hs1, HP⟩
  iapply (run1 I K c) $$ [HB Hat Hc HO Hs7 Hs6 Hx Hq Hk1 Hv Ho Ht Hw]
  · isplitr; · iexact He
    isplitl [HB]; · iexact HB
    isplitl [Hat]; · iexact Hat
    isplitl [Hc]; · iexact Hc
    isplitl [HO]; · iexact HO
    isplitl [Hs7]; · iexact Hs7
    isplitl [Hs6]; · iexact Hs6
    isplitl [Hx]; · iexact Hx
    isplitl [Hq]; · iexact Hq
    isplitl [Hk1]; · iexact Hk1
    isplitl [Hv]; · iexact Hv
    isplitl [Ho]; · iexact Ho
    isplitl [Ht]; · iexact Ht
    iexact Hw
  iintro %w0 %w1 %w2 %w3 %w4 %w5 %w6 %w7 ⟨Hat, Hg, HO, Hs7, Hs6, Hx, Hq, Hk1, Hv, Ho, Ht, Hw⟩
  ihave Hg := (given c) $$ Hg
  icases Hg with ⟨Hg0, Hg1, Hg2, Hg3⟩
  ihave HS0 := (started c 0) $$ [HT0 Hg0]
  · isplitl [HT0]; · iexact HT0
    iexact Hg0
  ihave HS1 := (started c 1) $$ [HT1 Hg1]
  · isplitl [HT1]; · iexact HT1
    iexact Hg1
  ihave HS2 := (started c 2) $$ [HT2 Hg2]
  · isplitl [HT2]; · iexact HT2
    iexact Hg2
  ihave HS3 := (started c 3) $$ [HT3 Hg3]
  · isplitl [HT3]; · iexact HT3
    iexact Hg3
  iapply (run5 I K c _ _ _ _ _ _ _ _) $$ [Hs0 Hx HS0 HO]
  · isplitr; · iexact He
    isplitl [Hs0]; · iexact Hs0
    isplitl [Hx]; · iexact Hx
    isplitl [HS0]; · iexact HS0
    iexact HO
  iintro %w0 %w1 %w2 %w3 %w4 %w5 %w6 %w7 ⟨Hs0, Hown, Hx, HS0, HO⟩
  iapply (run9 I K c _ _ _ _ _ _ _ _) $$ [Hs0 Hown Ho0 HS0 HO]
  · isplitr; · iexact He
    isplitl [Hs0]; · iexact Hs0
    isplitl [Hown]; · iexact Hown
    isplitl [Ho0]; · iexact Ho0
    isplitl [HS0]; · iexact HS0
    iexact HO
  iintro %w0 %w1 %w2 %w3 %w4 %w5 %w6 %w7 ⟨Ho0, Hown, HS0, HO⟩
  iapply (run13 I K c _ _ _ _ _ _ _ _) $$ [Ho0 HR0 Ho1 HS1 Hs6 Hs7 Hw1 Hw2 HO]
  · isplitr; · iexact He
    isplitl [Ho0]; · iexact Ho0
    isplitl [HR0]; · iexact HR0
    isplitl [Ho1]; · iexact Ho1
    isplitl [HS1]; · iexact HS1
    isplitl [Hs6]; · iexact Hs6
    isplitl [Hs7]; · iexact Hs7
    isplitl [Hw1]; · iexact Hw1
    isplitl [Hw2]; · iexact Hw2
    iexact HO
  iintro %w0 %w1 %w2 %w3 %w4 %w5 %w6 %w7 ⟨Hs2, HR0, Ho1, HS1, Hs6, Hs7, Hw1, Hw2, HO⟩
  iapply (run20 I K c _ _ _ _ _ _ _ _) $$ [Ho2 HR1 Hs6 Hs7 HP HS2 HO]
  · isplitr; · iexact He
    isplitl [Ho2]; · iexact Ho2
    isplitl [HR1]; · iexact HR1
    isplitl [Hs6]; · iexact Hs6
    isplitl [Hs7]; · iexact Hs7
    isplitl [HP]; · iexact HP
    isplitl [HS2]; · iexact HS2
    iexact HO
  iintro %w0 %w1 %w2 %w3 %w4 %w5 %w6 ⟨Ho2, HR1, Hs6, Hs7, HS2, HO⟩
  iapply (run35 I K c _ _ _ _ _ _ _) $$ [Ho2 HR2 Ho3 HS3 Ho1 Hs6 Hs7 HO]
  · isplitr; · iexact He
    isplitl [Ho2]; · iexact Ho2
    isplitl [HR2]; · iexact HR2
    isplitl [Ho3]; · iexact Ho3
    isplitl [HS3]; · iexact HS3
    isplitl [Ho1]; · iexact Ho1
    isplitl [Hs6]; · iexact Hs6
    isplitl [Hs7]; · iexact Hs7
    iexact HO
  iintro %w0 %w1 %w2 %w3 %w4 %w5 %w6 %w7 ⟨Hs3, HR2, Ho3, HS3, Ho1, Hs6, Hs7, HO⟩
  ihave HS0 := (departs (VI I) c 0) $$ [HS0 HA0]
  · isplitl [HS0]; · iexact HS0
    iexact HA0
  ihave HS1 := (departs (VI I) c 1) $$ [HS1 HA1]
  · isplitl [HS1]; · iexact HS1
    iexact HA1
  ihave HS2 := (departs (VI I) c 2) $$ [HS2 HA2]
  · isplitl [HS2]; · iexact HS2
    iexact HA2
  ihave HS3 := (departs (VI I) c 3) $$ [HS3 HA3]
  · isplitl [HS3]; · iexact HS3
    iexact HA3
  iapply (run41 I K c _ _ _ _ _ _ _ _) $$ [HR3 HR1 Hs6 Hs7 Hout HS0 HO]
  · isplitr; · iexact He
    isplitl [HR3]; · iexact HR3
    isplitl [HR1]; · iexact HR1
    isplitl [Hs6]; · iexact Hs6
    isplitl [Hs7]; · iexact Hs7
    isplitl [Hout]; · iexact Hout
    isplitl [HS0]; · iexact HS0
    iexact HO
  iintro  ⟨HR3, HR1, Hs6, Hs7, Hout, HS0, HO⟩
  iapply (run49 I K c) $$ [HS0 HS1 HS2 HS3 HO]
  · isplitr; · iexact He
    isplitl [HS0]; · iexact HS0
    isplitl [HS1]; · iexact HS1
    isplitl [HS2]; · iexact HS2
    isplitl [HS3]; · iexact HS3
    iexact HO
  iintro  ⟨HS0, HS1, HS2, HS3, HO⟩
  unfold Wp
  rw [wp_ret]
  imodintro
  iapply (step_swait (VI I) K 3 5 (S := U5) (by decide) rfl (slotM_credit _ _ _)) $$ [HS3 HO]
  · isplitr; · iexact He
    isplitl [HS3]; · iexact HS3
    iexact HO
  iintro ⟨HS3, HO⟩
  iapply (step_swait (VI I) K 3 6 (S := U6) (by decide) rfl (slotM_credit _ _ _)) $$ [HS3 HO]
  · isplitr; · iexact He
    isplitl [HS3]; · iexact HS3
    iexact HO
  iintro ⟨HS3, HO⟩
  ihave HS3 := SW_all $$ HS3
  ihave HS0 := (departed (VI I) c 0) $$ HS0
  icases HS0 with ⟨HA0, HS0⟩
  ihave HS1 := (departed (VI I) c 1) $$ HS1
  icases HS1 with ⟨HA1, HS1⟩
  ihave HS2 := (departed (VI I) c 2) $$ HS2
  icases HS2 with ⟨HA2, HS2⟩
  ihave HS3 := (departed (VI I) c 3) $$ HS3
  icases HS3 with ⟨HA3, HS3⟩
  ihave Hs0 := (back0 I c) $$ [Hown HS0]
  · isplitl [Hown]; · iexact Hown
    iexact HS0
  ihave Hs1 := (back2 I c f1) $$ [Hs1 HS2]
  · isplitl [Hs1]; · iexact Hs1
    iexact HS2
  ihave Hs4 := (back1 I c) $$ [Ho1 HS1 HR1]
  · isplitl [Ho1]; · iexact Ho1
    isplitl [HS1]; · iexact HS1
    iexact HR1
  icases Hs4 with ⟨Hs4, HR1⟩
  ihave Hs5 := (back3 I c) $$ [Ho3 HS3 HR3]
  · isplitl [Ho3]; · iexact Ho3
    isplitl [HS3]; · iexact HS3
    iexact HR3
  icases Hs5 with ⟨Hs5, HR3⟩
  unfold Wp
  rw [wp_ret]
  imod Hk $$ [-] with Hk
  · unfold DONE
    isplitl [Hat HR0 HR1 HR2 HR3 HA0 HA1 HA2 HA3]
    · isplitl [Hat]; · iexact Hat
      isplitl [HR0]; · iexact HR0
      isplitl [HR1]; · iexact HR1
      isplitl [HR2]; · iexact HR2
      isplitl [HR3]; · iexact HR3
      isplitl [HA0]; · iexact HA0
      isplitl [HA1]; · iexact HA1
      isplitl [HA2]; · iexact HA2
      iexact HA3
    isplitl [HO]; · iexact HO
    isplitl [Hx Hq Hk1 Hv Ho Ht Hw Hw1 Hw2]
    · isplitl [Hx]; · iexact Hx
      isplitl [Hq]; · iexact Hq
      isplitl [Hk1]; · iexact Hk1
      isplitl [Hv]; · iexact Hv
      isplitl [Ho]; · iexact Ho
      isplitl [Ht]; · iexact Ht
      isplitl [Hw]; · iexact Hw
      isplitl [Hw1]; · iexact Hw1
      iexact Hw2
    isplitl [Hout]; · iexact Hout
    isplitl [Hs0]; · iexists _; iexact Hs0
    isplitl [Hs1]; · iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    iexists _; iexact Hs7
  imodintro
  iexact Hk

end Cert.Dit

end
-- ==== Proof.Ghost.lean ====
/-
The launch: the cells with their tokens and credits, dealt to the devices.
-/
module

public import proofs.«01_k».proof.Proof.Body

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

open Idealize.ShloMosaic.Pipeline (Dat Cfg Window BodyObligation cellOf)

/-! ## The cells and their tokens -/

theorem csem_injective : Function.Injective csem := by
  intro x y h
  rcases x with _ | ⟨_ | _, p, k⟩ <;> rcases y with _ | ⟨_ | _, q, l⟩
  · rfl
  · cases h
  · cases h
  · cases h
  · have e : sIx p k = sIx q l := by injection h
    have e' := congrArg dec e; rw [dec_sIx, dec_sIx] at e'; exact e'
  · have e : sIx p k = rIx q l := by injection h
    have e' := congrArg dec e; rw [dec_sIx, dec_rIx] at e'; exact e'
  · cases h
  · have e : rIx p k = sIx q l := by injection h
    have e' := congrArg dec e; rw [dec_rIx, dec_sIx] at e'; exact e'
  · have e : rIx p k = rIx q l := by injection h
    have e' := congrArg dec e; rw [dec_rIx, dec_rIx] at e'; exact e'

theorem kcell_injective : Function.Injective kcell := by
  rintro ⟨c, x⟩ ⟨d, y⟩ h
  have h1 : c = d := congrArg (fun g : GSem nD τ sig => g.1.1) h
  have h2 : csem x = csem y := congrArg Prod.snd h
  rw [h1, csem_injective h2]

def ringCells : Finset (GSem nD τ sig) := Finset.univ.map ⟨kcell, kcell_injective⟩

abbrev tokOf (x : (Dev nD × KI) × Fin 7) : GSem nD τ sig × ℕ × Fin 7 := (kcell x.1, 0, x.2)
theorem tokOf_injective : Function.Injective tokOf := by
  rintro ⟨x, d⟩ ⟨y, e⟩ h
  have h1 : kcell x = kcell y := congrArg (fun z : GSem nD τ sig × ℕ × Fin 7 => z.1) h
  have h2 : d = e := congrArg (fun z : GSem nD τ sig × ℕ × Fin 7 => z.2.2) h
  rw [kcell_injective h1, h2]
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- A family over a device's cells: its barrier cell's member, its send cells' and its receive cells'. -/
theorem cells_split {M : Type} [URA M] (Φ : KI → sProp M) : bigSep Finset.univ Φ
    = iprop(Φ none ∗ (bigSep Finset.univ fun p : Fin 4 => bigSep Finset.univ fun k : Fin 7 => Φ (some (false, p, k)))
      ∗ bigSep Finset.univ fun p : Fin 4 => bigSep Finset.univ fun k : Fin 7 => Φ (some (true, p, k))) := by
  have h : (Finset.univ : Finset KI) = insert none (Finset.univ.image some) := by
    ext x; cases x <;> simp
  rw [h, bigSep_insert (by simp), bigSep_image_of_injOn ((Option.some_injective _).injOn), bigSep_univ_prod,
    bigSep_univ_eq_bigSepL [false, true] (by decide) (by decide), bigSepL_cons_cons, bigSepL_singleton, bigSep_univ_prod, bigSep_univ_prod]
  rfl

/-- All tokens minted for device `c`'s own cells. -/
def toks (c : Dev nD) : sProp 𝕄 := bigSep Finset.univ fun x : KI => bigSep Finset.univ fun d : Fin 7 => dutyTok ER (kcell (c, x)) 0 d
/-- Those that are used: its barrier cell's seven, one of each other cell. -/
def ownToks (c : Dev nD) : sProp 𝕄 :=
  iprop((bigSep Finset.univ fun k : Fin 7 => dutyTok ER (barCell c) 0 k)
    ∗ (bigSep Finset.univ fun p : Fin 4 => bigSep Finset.univ fun k : Fin 7 => dutyTok ER (sendCell c p k) 0 0)
    ∗ bigSep Finset.univ fun p : Fin 4 => bigSep Finset.univ fun k : Fin 7 => dutyTok ER (recvCell c p k) 0 0)
/-- What a device pays with. -/
def payToks (c : Dev nD) : sProp 𝕄 := iprop(TB c ∗ bigSep Finset.univ fun p : Fin 4 => TK c p)

theorem toks_own (c : Dev nD) : toks (F := F) c ⊢ ownToks c := by
  unfold toks ownToks
  rw [cells_split]
  refine BIClass.sep_mono (BI.Entails.refl _) (BIClass.sep_mono ?_ ?_)
  · exact bigSep_mono fun p _ => bigSep_mono fun k _ => bigSep_elim (Finset.mem_univ 0)
  · exact bigSep_mono fun p _ => bigSep_mono fun k _ => bigSep_elim (Finset.mem_univ 0)

/-- A family over (device, offset) may be indexed by the receiving or by the sending device. -/
theorem around (Φ : Dev nD → Fin 7 → sProp 𝕄) : (bigSep Finset.univ fun c : Dev nD => bigSep Finset.univ fun k : Fin 7 => Φ c k)
    = bigSep Finset.univ fun c : Dev nD => bigSep Finset.univ fun k : Fin 7 => Φ (peer c k) k := by
  rw [← bigSep_univ_prod (fun x : Dev nD × Fin 7 => Φ x.1 x.2), bigSep_univ_equiv ring (fun x : Dev nD × Fin 7 => Φ x.1 x.2),
    bigSep_univ_prod]
  rfl

theorem toks_around : (bigSep Finset.univ fun c : Dev nD => toks (F := F) c) ⊢ bigSep Finset.univ fun c : Dev nD => payToks c := by
  have h0 : (bigSep Finset.univ fun c : Dev nD => toks (F := F) c) ⊢ bigSep Finset.univ fun c : Dev nD => ownToks (F := F) c := bigSep_mono fun c _ => toks_own c
  refine h0.trans ?_
  unfold ownToks payToks TB TK
  simp only [four, bigSep_sep']
  rw [around (fun c k => dutyTok ER (barCell c) 0 k), around (fun c k => dutyTok ER (recvCell c 0 k) 0 0), around (fun c k => dutyTok ER (recvCell c 1 k) 0 0),
    around (fun c k => dutyTok ER (recvCell c 2 k) 0 0), around (fun c k => dutyTok ER (recvCell c 3 k) 0 0)]

section Ghost
variable (V : Vals F)

/-- What the launch deals device `c`; -/
def G (c : Dev nD) : sProp 𝕄 :=
  iprop((bigSep Finset.univ fun x : KI => roundState ER (sched V) (kcell (c, x)) 0)
    ∗ (bigSep Finset.univ fun x : KI => iprop(atPos ER (kcell (c, x)) 0 ∅ 0 ∗ reached ER (kcell (c, x)) 0)) ∗ toks c)

def records (K : Dev nD × KI → ℕ) : sProp 𝕄 :=
  iprop((bigSep Finset.univ fun x : Dev nD × KI => cellInv ER (sched V) (K x) (kcell x))
    ∗ bigSep Finset.univ fun x : Dev nD × KI => reached ER (kcell x) 0)
instance records_persistent (K : Dev nD × KI → ℕ) : BI.Persistent (records V K) := by unfold records; infer_instance

/-- and what it holds once the cells' invariants are allocated. -/
def linear (c : Dev nD) : sProp 𝕄 := iprop((bigSep Finset.univ fun x : KI => atPos ER (kcell (c, x)) 0 ∅ 0) ∗ payToks c)
def G' (c : Dev nD) : sProp 𝕄 := iprop(∃ K, records V K ∗ linear c)

theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (sched V) ringCells ringToks) $$ HX with ⟨Hst, Hr, Hat, Htok⟩
  imodintro
  ihave Hst' := (Entails.of_eq (hX fun g => roundState ER (sched V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the copies' send and receive cells. -/
abbrev osem : Bool × Fin 4 × Fin 7 → SemLoc sig := fun x => csem (some x)

theorem ownSemFacts : Pipeline.OwnSemFacts cfg0.spec osem := by decide

theorem unscopedSems0_eq (c : Dev nD) : (unscopedSems0 c : sProp 𝕄) = semVal (barCell c) 0 := by
  unfold unscopedSems0; rw [bigSep_eq_bigSepL_of_eq [SemLoc.reg barS] (by decide) (by decide)]; rfl

/-- Every cell's counter: the own semaphores' and the barrier's. -/
theorem sems0_eq (c : Dev nD) :
    (bigSep Finset.univ fun x : KI => semVal (kcell (c, x)) 0 : sProp 𝕄)
      = iprop(unscopedSems0 c ∗ Pipeline.ownSems0 (Ix := Unit) (Name := ℕ) (U := UU) (Lvl := ℕ) (Val := Elt F) (τ := τ) osem c) := by
  have h : (Finset.univ : Finset KI) = insert none (Finset.univ.image some) := by
    ext x; cases x <;> simp
  rw [h, bigSep_insert (by simp), bigSep_image_of_injOn ((Option.some_injective _).injOn), unscopedSems0_eq]
  rfl

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (sched V) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : KI => semVal (kcell (c, k)) 0) ∗ bigSep Finset.univ fun k : KI => roundState ER (sched V) (kcell (c, k)) 0)
      ⊢ (|={Set.univ}=> bigSep Finset.univ fun k => iprop(∃ κ : ℕ, cellInv ER (sched V) κ (kcell (c, k))) : sProp 𝕄) from by
        rw [← bigSep_sep']
        exact (bigSep_mono fun k _ => (Rounds.body_intro ER (sched V) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched V) κ (kcell (c, k))))
          ∗ (bigSep Finset.univ fun k => iprop(atPos ER (kcell (c, k)) 0 ∅ 0 ∗ reached ER (kcell (c, k)) 0)) ∗ toks c) : sProp 𝕄)
      ⊢ bigSep Finset.univ (G' V) := by
  rw [bigSep_sep', bigSep_sep', ← bigSep_univ_prod (fun x : Dev nD × KI => iprop(∃ κ : ℕ, cellInv ER (sched V) κ (kcell x))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun x : Dev nD × KI => (reached ER (kcell x) 0 : sProp 𝕄))]
  iintro ⟨HI, ⟨Hat, #HR⟩, Htok⟩
  ihave HK := (BI.bigSep_exists_pi Finset.univ (fun (x : Dev nD × KI) (κ : ℕ) => (cellInv ER (sched V) κ (kcell x) : sProp 𝕄))) $$ HI
  icases HK with ⟨%K, #HI⟩
  ihave Htk := (toks_around (F := F)) $$ Htok
  iapply (with_persistent (R := records V K) fun c _ => show iprop(records V K ∗ linear c) ⊢ G' V c from by
    unfold G'; iintro H; iexists K; iexact H)
  isplitr
  · unfold records; isplitl; · iexact HI
    iexact HR
  · unfold linear
    rw [bigSep_sep']
    isplitl [Hat]; · iexact Hat
    iexact Htk

/-- All devices' semaphores at once become their cells' invariants. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

end Ghost

/-! ## The launch credit -/

theorem recv_eq {a c : Dev nD} {p q : Fin 4} {k l : Fin 7} (h : recvCell a p k = recvCell c q l) : a = c ∧ p = q ∧ k = l := by
  have e : kcell (a, some (true, p, k)) = kcell (c, some (true, q, l)) := h
  have e' := kcell_injective e
  simp only [Prod.mk.injEq, Option.some.injEq, true_and] at e'
  exact e'
theorem bar_eq {a c : Dev nD} (h : barCell a = barCell c) : a = c := congrArg (fun g : GSem nD τ sig => g.1.1) h
theorem recv_ne_bar {a c : Dev nD} {p : Fin 4} {k : Fin 7} : recvCell a p k ≠ barCell c := fun h => by
  have := congrArg Prod.snd h; cases this

theorem Or_recv (d : Dev nD) (q : Fin 4) (c : Dev nD) (p : Fin 4) (k : Fin 7) :
    Or d q ∅ (recvCell c p k) () = if q = p ∧ d = back c k then N else 0 := by
  unfold Or
  rw [Finset.sdiff_empty, Finset.sum_apply, Finsupp.finset_sum_apply]
  simp only [tallyAt_apply]
  by_cases h : q = p ∧ d = back c k
  · obtain ⟨rfl, rfl⟩ := h
    rw [if_pos ⟨rfl, rfl⟩, Finset.sum_eq_single k]
    · rw [peer_back]; simp
    · intro l _ hl; exact if_neg fun e => hl (recv_eq e.1).2.2.symm
    · intro h; exact absurd (Finset.mem_univ k) h
  · rw [if_neg h]
    refine Finset.sum_eq_zero fun l _ => if_neg fun e => h ?_
    obtain ⟨e1, e2, e3⟩ := recv_eq e.1
    refine ⟨e2.symm, ?_⟩
    rw [e1, e3, back_peer]

theorem Ob_recv (d c : Dev nD) (p : Fin 4) (k : Fin 7) : Ob d ∅ (recvCell c p k) () = 0 := by
  unfold Ob
  rw [Finset.sum_apply, Finsupp.finset_sum_apply]
  exact Finset.sum_eq_zero fun l _ => by rw [tallyAt_apply]; exact if_neg fun e => recv_ne_bar e.1
theorem Or_bar (d : Dev nD) (q : Fin 4) (c : Dev nD) : Or d q ∅ (barCell c) () = 0 := by
  unfold Or
  rw [Finset.sum_apply, Finsupp.finset_sum_apply]
  exact Finset.sum_eq_zero fun l _ => by rw [tallyAt_apply]; exact if_neg fun e => recv_ne_bar e.1.symm
theorem Ob_bar (d c : Dev nD) : Ob d ∅ (barCell c) () = ∑ k : Fin 7, if d = back c k then 1 else 0 := by
  unfold Ob
  rw [Finset.sdiff_empty, Finset.sum_apply, Finsupp.finset_sum_apply]
  refine Finset.sum_congr rfl fun k _ => ?_
  rw [tallyAt_apply]
  by_cases h : d = back c k
  · subst h; rw [peer_back, if_pos ⟨rfl, rfl⟩, if_pos rfl]
  · rw [if_neg h, if_neg fun e => h (by rw [bar_eq e.1, back_peer])]

theorem owed_recv (d c : Dev nD) (p : Fin 4) (k : Fin 7) : O₀ d (recvCell c p k) () = if d = back c k then N else 0 := by
  unfold O₀
  simp only [Pi.add_apply, Finsupp.add_apply, Or_recv, Ob_recv]
  by_cases h : d = back c k
  · simp only [h, and_true, if_true]; fin_cases p <;> simp
  · simp [h]
theorem owed_bar (d c : Dev nD) : O₀ d (barCell c) () = ∑ k : Fin 7, if d = back c k then 1 else 0 := by
  unfold O₀
  simp only [Pi.add_apply, Finsupp.add_apply, Or_bar, Ob_bar, Nat.zero_add]

theorem launch_recv (c : Dev nD) (p : Fin 4) (k : Fin 7) :
    tallyOn (recvCell c p k) (launchCredit (Pipeline.owing O₀) 0 (recvCell c p k)) = (tallyAt (recvCell c p k) () N : CellTallies nD τ sig Unit) := by
  unfold tallyAt; refine congrArg _ (Finsupp.ext fun u => ?_); cases u
  rw [Pipeline.launchCredit_owing, Finsupp.single_eq_same, Finset.sum_congr rfl fun d _ => owed_recv d c p k,
    Finset.sum_ite_eq' Finset.univ (back c k) fun _ => N, if_pos (Finset.mem_univ _)]
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (back c k) fun _ => 1).trans (if_pos (Finset.mem_univ _))]
  rfl

theorem creds (c : Dev nD) : (Pipeline.launchCred O₀ c : sProp 𝕄)
    ⊢ iprop(cred (tallyAt (barCell c) () 7) ∗ bigSep Finset.univ fun p : Fin 4 => bigSep Finset.univ fun k : Fin 7 => cred (tallyAt (recvCell c p k) () N)) := by
  unfold Pipeline.launchCred
  refine (BI.bigSep_subset (Finset.subset_univ (Finset.univ.map ⟨csem, csem_injective⟩))).trans ?_
  rw [bigSep_map]
  refine (Entails.of_eq (cells_split _)).trans ?_
  refine BIClass.sep_mono (Entails.of_eq (congrArg cred (launch_bar c))) ?_
  refine BIBase.Entails.trans (BIBase.Entails.trans Laws.sep_and and_elimR) ?_
  exact bigSep_mono fun p _ => bigSep_mono fun k _ => Entails.of_eq (congrArg cred (launch_recv c p k))

end Cert.Dit

end
-- ==== Proof.Launch.lean ====
/-
The launch of the kernel on the eight devices, and what every run of it ends in.
-/
module

public import proofs.«01_k».proof.Proof.Ghost
public import proofs.«01_k».proof.Proof.Gen.KernelIdeal.Points
public import Idealize.ShloMosaic.Lib.Pipeline.CollectiveSegs

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

open Idealize.ShloMosaic.Pipeline (Dat Cfg Window BodyObligation cellOf)

section Run
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s operands, as its staging buffers hold them. -/
def insOf (c : Dev nD) : Ins F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  wk := (win0_2.blk (0 : Fin 1)).view.read (Elt F) ((s₀ m ρ).mem ((c : Thread nD τ).loc main_arg2))
  wv := (win0_3.blk (0 : Fin 1)).view.read (Elt F) ((s₀ m ρ).mem ((c : Thread nD τ).loc main_arg3))
  wo := (win0_4.blk (0 : Fin 1)).view.read (Elt F) ((s₀ m ρ).mem ((c : Thread nD τ).loc main_arg4))
  t := (win0_5.blk (0 : Fin 1)).view.read (Elt F) ((s₀ m ρ).mem ((c : Thread nD τ).loc main_arg5))
  wm := (win0_6.blk (0 : Fin 1)).view.read (Elt F) ((s₀ m ρ).mem ((c : Thread nD τ).loc main_arg6))
  w1 := (win0_7.blk (0 : Fin 1)).view.read (Elt F) ((s₀ m ρ).mem ((c : Thread nD τ).loc main_arg7))
  w2 := (win0_8.blk (0 : Fin 1)).view.read (Elt F) ((s₀ m ρ).mem ((c : Thread nD τ).loc main_arg8))

def start (c : Dev nD) : sProp 𝕄 := iprop(∃ K, env (VI (insOf m ρ)) K ∗ LIVE (insOf m ρ) c)
def Φ₀ (c : Dev nD) : sProp 𝕄 := iprop(start m ρ c ∗ SCR (F := F) c)
def Φ₁ (c : Dev nD) : sProp 𝕄 := iprop(SCR (F := F) c ∗ bigSep Finset.univ fun x : KI => semVal (kcell (c, x)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m ρ c).x
    | ⟨1, _⟩ => (insOf m ρ c).wq
    | ⟨2, _⟩ => (insOf m ρ c).wk
    | ⟨3, _⟩ => (insOf m ρ c).wv
    | ⟨4, _⟩ => (insOf m ρ c).wo
    | ⟨5, _⟩ => (insOf m ρ c).t
    | ⟨6, _⟩ => (insOf m ρ c).wm
    | ⟨7, _⟩ => (insOf m ρ c).w1
    | ⟨8, _⟩ => (insOf m ρ c).w2
    | ⟨9, _⟩ => outc (insOf m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body, with the cells closed after it -/

/-- A finished cell gives its counter back, at zero. -/
theorem close_cell {V : Vals F} {K : Dev nD × KI → ℕ} (x : Dev nD × KI) :
    iprop(env V K ∗ atPos ER (kcell x) 1 ∅ 0) ⊢ (|={Set.univ}=> semVal (kcell x) 0 : sProp 𝕄) := by
  iintro ⟨#He, Hat⟩
  ihave #Hi := (env_inv V K x) $$ He
  imod (Rounds.cell_close ER (sched V) (Set.mem_univ (K x)) (fun h => h) (R := 0 + 1) (duties_later V (kcell x))) $$ [Hat] with Hz
  · isplitr; · iexact Hi
    iexact Hat
  imodintro
  iexact Hz

theorem done_eq (c : Dev nD) : DONE c ⊢ (bigSep Finset.univ fun x : KI => atPos ER (kcell (c, x)) 1 ∅ 0 : sProp 𝕄) := by
  rw [cells_split, four, four]
  show DONE c ⊢ iprop(atPos ER (barCell c) 1 ∅ 0 ∗ (ATS (F := F) c 0 1 ∗ ATS (F := F) c 1 1 ∗ ATS (F := F) c 2 1 ∗ ATS (F := F) c 3 1)
    ∗ ATR (F := F) c 0 1 ∗ ATR (F := F) c 1 1 ∗ ATR (F := F) c 2 1 ∗ ATR (F := F) c 3 1)
  unfold DONE
  iintro ⟨HB, R0, R1, R2, R3, HS⟩
  isplitl [HB]; · iexact HB
  isplitl [HS]; · iexact HS
  isplitl [R0]; · iexact R0
  isplitl [R1]; · iexact R1
  isplitl [R2] <;> iassumption

theorem close_all {V : Vals F} {K : Dev nD × KI → ℕ} (c : Dev nD) :
    iprop(env V K ∗ DONE c) ⊢ (|={Set.univ}=> bigSep Finset.univ fun x : KI => semVal (kcell (c, x)) 0 : sProp 𝕄) := by
  have h : iprop(env V K ∗ bigSep Finset.univ fun x : KI => atPos ER (kcell (c, x)) 1 ∅ 0)
      ⊢ (bigSep Finset.univ fun x : KI => iprop(|={Set.univ}=> semVal (kcell (c, x)) 0) : sProp 𝕄) :=
    with_persistent fun x _ => close_cell (c, x)
  have h2 : iprop(env V K ∗ bigSep Finset.univ fun x : KI => atPos ER (kcell (c, x)) 1 ∅ 0)
      ⊢ (|={Set.univ}=> bigSep Finset.univ fun x : KI => semVal (kcell (c, x)) 0 : sProp 𝕄) := h.trans (bigSep_fupd _ _)
  iintro ⟨#He, HD⟩
  iapply h2
  isplitr; · iexact He
  iapply (done_eq c); iexact HD

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 10) t₀ d))
    ∗ (∃ d, stg c cc0_stg1_0 ((dats m ρ 0 c).before (1 : Fin 10) t₀ d))
    ∗ (∃ d, stg c cc0_stg2_0 ((dats m ρ 0 c).before (2 : Fin 10) t₀ d))
    ∗ (∃ d, stg c cc0_stg3_0 ((dats m ρ 0 c).before (3 : Fin 10) t₀ d))
    ∗ (∃ d, stg c cc0_stg4_0 ((dats m ρ 0 c).before (4 : Fin 10) t₀ d))
    ∗ (∃ d, stg c cc0_stg5_0 ((dats m ρ 0 c).before (5 : Fin 10) t₀ d))
    ∗ (∃ d, stg c cc0_stg6_0 ((dats m ρ 0 c).before (6 : Fin 10) t₀ d))
    ∗ (∃ d, stg c cc0_stg7_0 ((dats m ρ 0 c).before (7 : Fin 10) t₀ d))
    ∗ (∃ d, stg c cc0_stg8_0 ((dats m ρ 0 c).before (8 : Fin 10) t₀ d))
    ∗ (∃ d, stg c cc0_stg9_0 ((dats m ρ 0 c).before (9 : Fin 10) t₀ d)))
set_option maxRecDepth 4000 in
def bodyPost (c : Dev nD) : sProp 𝕄 :=
  iprop(Φ₁ c ∗ (dats m ρ 0 c).owesAt () t₀.succ
    ∗ stg c cc0_stg0_0 ((insOf m ρ c).x)
    ∗ stg c cc0_stg1_0 ((insOf m ρ c).wq)
    ∗ stg c cc0_stg2_0 ((insOf m ρ c).wk)
    ∗ stg c cc0_stg3_0 ((insOf m ρ c).wv)
    ∗ stg c cc0_stg4_0 ((insOf m ρ c).wo)
    ∗ stg c cc0_stg5_0 ((insOf m ρ c).t)
    ∗ stg c cc0_stg6_0 ((insOf m ρ c).wm)
    ∗ stg c cc0_stg7_0 ((insOf m ρ c).w1)
    ∗ stg c cc0_stg8_0 ((insOf m ρ c).w2)
    ∗ stg c cc0_stg9_0 (outc (insOf m ρ) c))

theorem before0 (c : Dev nD) (d) : (dats m ρ 0 c).before (0 : Fin 10) t₀ d = (insOf m ρ c).x := by
  unfold Dat.before; rw [if_pos (fetch0_0 t₀)]; rfl
theorem before1 (c : Dev nD) (d) : (dats m ρ 0 c).before (1 : Fin 10) t₀ d = (insOf m ρ c).wq := by
  unfold Dat.before; rw [if_pos (fetch0_1 t₀)]; rfl
theorem before2 (c : Dev nD) (d) : (dats m ρ 0 c).before (2 : Fin 10) t₀ d = (insOf m ρ c).wk := by
  unfold Dat.before; rw [if_pos (fetch0_2 t₀)]; rfl
theorem before3 (c : Dev nD) (d) : (dats m ρ 0 c).before (3 : Fin 10) t₀ d = (insOf m ρ c).wv := by
  unfold Dat.before; rw [if_pos (fetch0_3 t₀)]; rfl
theorem before4 (c : Dev nD) (d) : (dats m ρ 0 c).before (4 : Fin 10) t₀ d = (insOf m ρ c).wo := by
  unfold Dat.before; rw [if_pos (fetch0_4 t₀)]; rfl
theorem before5 (c : Dev nD) (d) : (dats m ρ 0 c).before (5 : Fin 10) t₀ d = (insOf m ρ c).t := by
  unfold Dat.before; rw [if_pos (fetch0_5 t₀)]; rfl
theorem before6 (c : Dev nD) (d) : (dats m ρ 0 c).before (6 : Fin 10) t₀ d = (insOf m ρ c).wm := by
  unfold Dat.before; rw [if_pos (fetch0_6 t₀)]; rfl
theorem before7 (c : Dev nD) (d) : (dats m ρ 0 c).before (7 : Fin 10) t₀ d = (insOf m ρ c).w1 := by
  unfold Dat.before; rw [if_pos (fetch0_7 t₀)]; rfl
theorem before8 (c : Dev nD) (d) : (dats m ρ 0 c).before (8 : Fin 10) t₀ d = (insOf m ρ c).w2 := by
  unfold Dat.before; rw [if_pos (fetch0_8 t₀)]; rfl

theorem sound_body (c : Dev nD) : bodyPre m ρ c ⊢ Wp c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) (fun _ => bodyPost m ρ c) := by
  unfold bodyPre Φ₀ start
  iintro ⟨⟨⟨%K, #He, HL⟩, HS⟩, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩, ⟨%d9, %g9, %e9, H9⟩⟩
  rw [before0] at e0
  subst e0
  rw [before1] at e1
  subst e1
  rw [before2] at e2
  subst e2
  rw [before3] at e3
  subst e3
  rw [before4] at e4
  subst e4
  rw [before5] at e5
  subst e5
  rw [before6] at e6
  subst e6
  rw [before7] at e7
  subst e7
  rw [before8] at e8
  subst e8
  unfold Dat.owesAt Pipeline.owesWithin
  icases Ho with ⟨%W, %hW, HO⟩
  rw [show (dats m ρ 0 c).owed t₀.castSucc = O₀ c from rfl]
  ihave H9 := (agr_none c cc0_stg9_0 (fun _ => False) (outc (insOf m ρ) c) (fun i h => h) g9) $$ H9
  iapply (body_run (insOf m ρ) K c (fun _ => bodyPost m ρ c)) $$ [-]
  isplitr; · iexact He
  isplitl [HL]; · iexact HL
  isplitl [HO]; · (unfold owesX; iexists W; iexact HO)
  isplitl [H0 H1 H2 H3 H4 H5 H6 H7 H8]
  · unfold STG
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [HS]; · iexact HS
  iintro ⟨HD, HO, HG, H9, HS⟩
  imod (close_all (V := VI (insOf m ρ)) (K := K) c) $$ [HD] with Hz
  · isplitr; · iexact He
    iexact HD
  imodintro
  unfold owesX STG bodyPost Φ₁ Dat.owesAt Pipeline.owesWithin
  rw [show (dats m ρ 0 c).owed t₀.succ = 0 from rfl]
  icases HO with ⟨%W', HO⟩
  icases HG with ⟨H0, H1, H2, H3, H4, H5, H6, H7, H8⟩
  isplitl [HS Hz]
  · isplitl [HS] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  isplitl [H7]
  · iexists _; isplitr; · (ipureintro; rfl)
    iexact H7
  isplitl [H8]
  · iexists _; isplitr; · (ipureintro; rfl)
    iexact H8
  iexists _; isplitr; · (ipureintro; rfl)
  iexact H9

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

/-! ## The launch theorem's side conditions -/

theorem share_eq (c : Dev nD) (w : Fin cfg0.W) : (dats m ρ 0 c).share w = fullShare := by unfold Dat.share; split <;> rfl

theorem live_intro (c : Dev nD) (V : Vals F) (K : Dev nD × KI → ℕ) (h : V = VI (insOf m ρ)) :
    iprop(records V K ∗ linear c ∗ levAts L lv ∗ cred (tallyAt (barCell c) () 7)
      ∗ bigSep Finset.univ fun p : Fin 4 => bigSep Finset.univ fun k : Fin 7 => cred (tallyAt (recvCell c p k) () N)) ⊢ start m ρ c := by
  subst h
  have hR (p : Fin 4) : iprop((bigSep Finset.univ fun k : Fin 7 => atPos ER (recvCell c p k) 0 ∅ 0) ∗ bigSep Finset.univ fun k : Fin 7 => cred (tallyAt (recvCell c p k) () N))
      ⊢ RR (VI (insOf m ρ)) c p ∅ := by
    unfold RR
    rw [← bigSep_sep']
    refine bigSep_mono fun k _ => ?_
    rw [if_neg (Finset.notMem_empty k)]
    exact BI.Entails.refl _
  unfold start records linear payToks env LIVE
  rw [cells_split, four, four, four, four]
  iintro ⟨⟨#HI, #HR⟩, ⟨⟨HB, ⟨HS0, HS1, HS2, HS3⟩, HV0, HV1, HV2, HV3⟩, HTB, HT0, HT1, HT2, HT3⟩, #Hl, Hc, HC0, HC1, HC2, HC3⟩
  iexists K
  isplitr
  · isplitr; · iexact HI
    isplitr; · iexact HR
    iexact Hl
  isplitl [HTB]; · iexact HTB
  isplitl [HT0]; · iexact HT0
  isplitl [HT1]; · iexact HT1
  isplitl [HT2]; · iexact HT2
  isplitl [HT3]; · iexact HT3
  isplitl [HB]; · iexact HB
  isplitl [Hc]; · iexact Hc
  isplitl [HV0 HC0]
  · iapply (hR 0); isplitl [HV0]
    · iexact HV0
    · iexact HC0
  isplitl [HV1 HC1]
  · iapply (hR 1); isplitl [HV1]
    · iexact HV1
    · iexact HC1
  isplitl [HV2 HC2]
  · iapply (hR 2); isplitl [HV2]
    · iexact HV2
    · iexact HC2
  isplitl [HV3 HC3]
  · iapply (hR 3); isplitl [HV3]
    · iexact HV3
    · iexact HC3
  isplitl [HS0]; · (unfold ATS; iexact HS0)
  isplitl [HS1]; · (unfold ATS; iexact HS1)
  isplitl [HS2]; · (unfold ATS; iexact HS2)
  unfold ATS; iexact HS3

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (VI (insOf m ρ)) c)
      ⊢ |={Set.univ}=> iprop(start m ρ c ∗ emp) := by
  unfold G'
  iintro ⟨-, Hlev, Hcr, -, ⟨%K, Hr, Hl⟩⟩
  ihave Hc := (creds (F := F) c) $$ Hcr
  icases Hc with ⟨H1, HN⟩
  imodintro
  isplitl
  · iapply (live_intro m ρ c _ K rfl)
    isplitl [Hr]; · iexact Hr
    isplitl [Hl]; · iexact Hl
    isplitl [Hlev]; · iexact Hlev
    isplitl [H1]; · iexact H1
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ SCR
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ SCR
  rw [sems0_eq]
  iintro ⟨Hr, HB, HS⟩
  isplitl [HB]; · iexact HB
  isplitl [HS]; · iexact HS
  iexact Hr

theorem stage_lv (c : Dev nD) : ∀ (w : Fin cfg0.W) (s : Fin (cfg0.win w).nbuf), lv ((c : Thread nD τ), SemLoc.dma ((cfg0.win w).sem s)) () ≤ 0 := by
  have h : ∀ q : DmaSem sig, q.val < 10 → lv ((c : Thread nD τ), SemLoc.dma q) () ≤ 0 := fun q hq => by
    have hd : dec q = none := by unfold dec; exact dif_neg fun h => by omega
    unfold lv; simp only [hd]; exact Nat.le_refl 0
  intro w s
  exact h _ ((by decide : ∀ (w : Fin cfg0.W) (s : Fin (cfg0.win w).nbuf), ((cfg0.win w).sem s).val < 10) w s)

theorem waits (c : Dev nD) : (levAts L lv : sProp 𝕄) ⊢ Pipeline.cellsWaits cfgs (dats m ρ) () 0 c :=
  Pipeline.cellsWaits_intro cfgs (dats m ρ) () 0 c fun w s t =>
    mayWait_of (n := 0) c _ (stage_lv c w s) (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, for any float values, from any memory with zero counters: every fair execution ends, each device's
    result array at the computed contents, its operands unchanged, every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (VI (insOf m ρ))) (G' := G' (VI (insOf m ρ))) (u₀ := u₀)
    (hu₀ := by
      unfold u₀
      iintro Hu
      ihave H := (ownU_pair _ _) $$ Hu
      icases H with ⟨HP, HX⟩
      imod (fund_ring (VI (insOf m ρ))) $$ HX with HG
      imodintro
      isplitl [HP] <;> iassumption)
    (hglob := glob (VI (insOf m ρ)))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Run

end Cert.Dit

end
-- ==== Proof.Kept.lean ====
/-
What every run leaves in the operands.
-/
module

public import proofs.«01_k».proof.Proof.Launch

@[expose] public section

noncomputable section

namespace Cert.Dit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × KI → ℕ)

open Idealize.ShloMosaic.Pipeline (Dat Cfg Window BodyObligation cellOf)

section Run
variable (m : (ℓ : Loc nD τ sig) → Buf (Elt F) ℓ) (ρ : Dev nD → PrngReg)

theorem kept (r : PUnit × MemSt nD τ sig (Elt F)) (h : QC m ρ r) (c : Dev nD) :
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h c (0 : Fin 10)).trans ((dats (F := F) m ρ 0 c).arrAt_in (0 : Fin 10) rfl _),
    (h c (1 : Fin 10)).trans ((dats (F := F) m ρ 0 c).arrAt_in (1 : Fin 10) rfl _),
    (h c (2 : Fin 10)).trans ((dats (F := F) m ρ 0 c).arrAt_in (2 : Fin 10) rfl _),
    (h c (3 : Fin 10)).trans ((dats (F := F) m ρ 0 c).arrAt_in (3 : Fin 10) rfl _),
    (h c (4 : Fin 10)).trans ((dats (F := F) m ρ 0 c).arrAt_in (4 : Fin 10) rfl _),
    (h c (5 : Fin 10)).trans ((dats (F := F) m ρ 0 c).arrAt_in (5 : Fin 10) rfl _),
    (h c (6 : Fin 10)).trans ((dats (F := F) m ρ 0 c).arrAt_in (6 : Fin 10) rfl _),
    (h c (7 : Fin 10)).trans ((dats (F := F) m ρ 0 c).arrAt_in (7 : Fin 10) rfl _),
    (h c (8 : Fin 10)).trans ((dats (F := F) m ρ 0 c).arrAt_in (8 : Fin 10) rfl _)⟩

end Run

end Cert.Dit

end
-- ==== Proof.Frames.lean ====
/-
The two frames of the kernel, from its run.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Kept

@[expose] public section

noncomputable section

namespace Cert.Dit

open Idealize.ShloMosaic Idealize.ShloMosaic.TcCoe Idealize.SL.Sem

theorem frame_ideal : Cert.quiescent_KernelIdeal := fun m ρ _ =>
  (θ_run Cert.KernelIdeal.defs _ _).mono (fun r h => ⟨fun c => kept m ρ r h.1 c, h.2⟩) (run_main (F := Ideal) m ρ)

/-- The two prints' body tables are the same table. -/
theorem table_eq : Cert.Kernel.defs₀ (F := Bits) = Cert.KernelIdeal.defs₀ (F := Bits) := by
  refine congrArg Defs.onTc (funext fun p => funext fun a => ?_)
  match p, a with
  | 0, (t, s) => rfl

theorem defs_eq : Cert.Kernel.defs (F := Bits) = Cert.KernelIdeal.defs (F := Bits) :=
  congrArg (Pipeline.defs Cert.KernelIdeal.pcfgs) table_eq

theorem frame_kernel : Cert.quiescent_Kernel := fun m ρ _ => by
  rw [defs_eq]
  exact (θ_run Cert.KernelIdeal.defs _ _).mono (fun r h => ⟨fun c => kept m ρ r h.1 c, h.2⟩) (run_main (F := Bits) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

end Cert.Dit

end
-- ==== Proof.Spec.lean ====
/-
The block's mathematics over the extended reals, row by row, and the two facts that are not a rearrangement of sums: a
quotient by a root is a product with the reciprocal root where the radicand is positive, and the layer norm's is.
-/
module

public import Idealize.ShloMosaic.Lib.Pointwise
public import Idealize.ShloMosaic.PureOps.Ideal.Laws

@[expose] public section

noncomputable section

namespace Cert.Dit

open Idealize.ShloMosaic

/-- The row length, and the layer norm's small constant. -/
def c512 : EReal := Ideal.ofBits .f32 0x44000000#32
def ceps : EReal := Ideal.ofBits .f32 0x3727C5AC#32
/-- The scores' scale, and the value a row's maximum starts from. -/
def c8th : EReal := Ideal.ofBits .f32 0x3E000000#32
def cinf : EReal := Ideal.ofBits .f32 0xFF800000#32

def mean (f : Fin 512 → EReal) : EReal := Ideal.div (∑ k, f k) c512
/-- The mean of the squares of a row's distances from its mean. -/
def vari (f : Fin 512 → EReal) : EReal := mean fun k => (f k - mean f) * (f k - mean f)
/-- A row normalised, scaled by `1 + a` and shifted by `g`. -/
def adal (f a g : Fin 512 → EReal) (j : Fin 512) : EReal :=
  (f j - mean f) * Ideal.rsqrt (vari f + ceps) * (1 + a j) + g j

def score (q k : Fin 256 → Fin 64 → EReal) (i j : Fin 256) : EReal := (∑ d, q i d * k j d) * c8th
/-- A score's exponential, relative to the largest score of its row. -/
def wexp (q k : Fin 256 → Fin 64 → EReal) (i j : Fin 256) : EReal :=
  Ideal.exp (score q k i j - (Finset.univ : Finset (Fin 256)).fold max cinf (score q k i))
/-- One head of the attention. -/
def head (q k v : Fin 256 → Fin 64 → EReal) (i : Fin 256) (d : Fin 64) : EReal :=
  Ideal.div (∑ j, wexp q k i j * v j d) (∑ j, wexp q k i j)

def gate (z : EReal) : EReal := Ideal.div z (1 + Ideal.exp (-z))

/-- A square is not negative, at the infinities either. -/
theorem mul_self_nonneg' (a : EReal) : 0 ≤ a * a := by
  rcases le_total 0 a with h | h
  · exact mul_nonneg h h
  · have h' : 0 ≤ -a := EReal.neg_nonneg.mpr h
    have := mul_nonneg h' h'
    rwa [neg_mul_neg] at this

/-- The row length is 512. -/
theorem c512_eq : c512 = ((512 : ℝ) : EReal) := by
  simp [c512, Ideal.ofBits, Ideal.ieee, -EReal.coe_mul]; norm_num

/-- The small constant is positive. -/
theorem ceps_pos : 0 < ceps := by
  simp [ceps, Ideal.ofBits, Ideal.ieee, -EReal.coe_mul]

/-- A variance is not negative. -/
theorem vari_nonneg (f : Fin 512 → EReal) : 0 ≤ vari f := by
  have h : 0 ≤ ∑ k, (f k - mean f) * (f k - mean f) := Finset.sum_nonneg fun k _ => mul_self_nonneg' _
  have h5 : (c512 : EReal) ≠ 0 := by rw [c512_eq]; norm_num
  unfold vari
  rw [show mean (fun k => (f k - mean f) * (f k - mean f)) = Ideal.div (∑ k, (f k - mean f) * (f k - mean f)) c512 from rfl]
  unfold Ideal.div
  rw [if_neg h5]
  refine mul_nonneg h ?_
  rw [c512_eq]
  rw [← EReal.coe_inv]
  exact EReal.coe_nonneg.mpr (by norm_num)

/-- A quotient by a root is the product with the reciprocal root, for a positive radicand. -/
theorem div_sqrt {x a : EReal} (h : 0 < a) : Ideal.div x (Ideal.sqrt a) = x * Ideal.rsqrt a := by
  induction a with
  | bot => exact absurd h (by simp)
  | top => simp [Ideal.div]
  | coe r =>
    have hr : 0 < r := EReal.coe_pos.mp h
    have hs : Real.sqrt r ≠ 0 := (Real.sqrt_pos.mpr hr).ne'
    rw [Ideal.sqrt_coe, Ideal.rsqrt_coe, if_neg hr.not_gt, if_neg hr.not_gt, if_neg hr.ne']
    unfold Ideal.div
    rw [if_neg (by exact_mod_cast hs), EReal.coe_inv]

/-- The layer norm's quotient. -/
theorem norm_div (f : Fin 512 → EReal) (x : EReal) :
    Ideal.div x (Ideal.sqrt (vari f + ceps)) = x * Ideal.rsqrt (vari f + ceps) :=
  div_sqrt (lt_of_lt_of_le ceps_pos (le_add_of_nonneg_left (vari_nonneg f)))

/-! ## The block, from its whole parameters -/

/-- Column `j` of the modulation's part `o`. -/
def mcol (o : Fin 6) (j : Fin 512) : Fin 3072 := ⟨512 * o.val + j.val, by omega⟩
/-- Lane `d` of the head column `n` lies in, and the lane of `n`. -/
def hcol (n : Fin 2048) (d : Fin 64) : Fin 2048 := ⟨64 * (n.val / 64) + d.val, by omega⟩
def hcol4 (n : Fin 256) (d : Fin 64) : Fin 256 := ⟨64 * (n.val / 64) + d.val, by omega⟩
def lane {N : ℕ} (n : Fin N) : Fin 64 := ⟨n.val % 64, Nat.mod_lt _ (by decide)⟩
/-- Device `c`'s `n`-th of the 2048 columns. -/
def blk (c : Fin 8) (n : Fin 256) : Fin 2048 := ⟨256 * c.val + n.val, by omega⟩

/-- The block's parameters. -/
structure Par where
  x : Fin 2 → Fin 256 → Fin 512 → EReal
  wq : Fin 512 → Fin 2048 → EReal
  wk : Fin 512 → Fin 2048 → EReal
  wv : Fin 512 → Fin 2048 → EReal
  wo : Fin 2048 → Fin 512 → EReal
  t : Fin 2 → Fin 128 → EReal
  wm : Fin 128 → Fin 3072 → EReal
  w1 : Fin 512 → Fin 2048 → EReal
  w2 : Fin 2048 → Fin 512 → EReal

namespace Par
variable (P : Par)

def md (o : Fin 6) (b : Fin 2) (j : Fin 512) : EReal := ∑ k, P.t b k * P.wm k (mcol o j)
/-- The attention's input, its projections, its heads side by side, and its output. -/
def y (b : Fin 2) (r : Fin 256) : Fin 512 → EReal := adal (P.x b r) (P.md 0 b) (P.md 1 b)
def proj (w : Fin 512 → Fin 2048 → EReal) (b : Fin 2) (r : Fin 256) (n : Fin 2048) : EReal := ∑ k, P.y b r k * w k n
def o (b : Fin 2) (r : Fin 256) (n : Fin 2048) : EReal :=
  head (fun i d => P.proj P.wq b i (hcol n d)) (fun i d => P.proj P.wk b i (hcol n d)) (fun i d => P.proj P.wv b i (hcol n d)) r (lane n)
def att (b : Fin 2) (r : Fin 256) (j : Fin 512) : EReal := ∑ n, P.o b r n * P.wo n j
/-- The residual stream after the attention. -/
def x1 (b : Fin 2) (r : Fin 256) (j : Fin 512) : EReal := P.x b r j + P.md 2 b j * P.att b r j
/-- The feed-forward's input, its gated hidden row, and its output. -/
def y2 (b : Fin 2) (r : Fin 256) : Fin 512 → EReal := adal (P.x1 b r) (P.md 3 b) (P.md 4 b)
def hid (b : Fin 2) (r : Fin 256) (n : Fin 2048) : EReal := gate (∑ k, P.y2 b r k * P.w1 k n)
def ff (b : Fin 2) (r : Fin 256) (j : Fin 512) : EReal := ∑ n, P.hid b r n * P.w2 n j
/-- The block's result. -/
def out (b : Fin 2) (r : Fin 256) (j : Fin 512) : EReal := P.x1 b r j + P.md 5 b j * P.ff b r j

end Par

/-- A sum over the 2048 columns is the sum of the devices' sums, in the devices' order. -/
theorem sum_blk (f : Fin 2048 → EReal) : ∑ n, f n = ∑ c : Fin 8, ∑ n : Fin 256, f (blk c n) := by
  rw [← Finset.sum_product' Finset.univ Finset.univ (fun c n => f (blk c n))]
  refine (Fintype.sum_equiv (finProdFinEquiv (m := 8) (n := 256)) _ f fun a => ?_).symm
  refine congrArg f (Fin.ext ?_)
  show 256 * a.1.val + a.2.val = a.2.val + 256 * a.1.val
  omega

/-- A device's head columns are the whole array's. -/
theorem hcol_blk (c : Fin 8) (n : Fin 256) (d : Fin 64) : hcol (blk c n) d = blk c (hcol4 n d) := by
  refine Fin.ext ?_
  show 64 * ((256 * c.val + n.val) / 64) + d.val = 256 * c.val + (64 * (n.val / 64) + d.val)
  omega

/-- A column keeps its lane. -/
theorem lane_blk (c : Fin 8) (n : Fin 256) : lane (blk c n) = lane n := by
  refine Fin.ext ?_
  show (256 * c.val + n.val) % 64 = n.val % 64
  omega

end Cert.Dit

end
-- ==== Proof.KVal.lean ====
/-
What the device's pieces hold, index by index, over the extended reals.
-/
module

public import proofs.«01_k».proof.Proof.Vals
public import proofs.«01_k».proof.Proof.Spec

@[expose] public section

noncomputable section

namespace Cert.Dit

open Cert.KernelIdeal Cert.KernelIdeal.Gen
open Idealize.ShloMosaic Idealize.ShloMosaic.TcCoe

/-! ## The single pieces -/

section Pieces

/-- The modulation is the product of the conditioning rows with their weights. -/
theorem pay1_at (t : Vec Ideal S2x128 .bf16) (w : Vec Ideal S128x3072 .bf16) (b : Fin 2) (j : Fin 3072) :
    k0_pay1 t w (ix2 b j) = ∑ k : Fin 128, t (ix2 b k) * w (ix2 k j) := by
  pointwise [k0_pay1]

/-- The batch an eighth of the rows lies in. -/
def bat (e : Fin 8) : Fin 2 := ⟨e.val / 4, by omega⟩

/-- A choice by the half of the chunks is a reading at the chunk's batch. -/
theorem bat_if (e : Fin 8) (f : Fin 2 → EReal) : (if e.val < 4 then f 0 else f 1) = f (bat e) := by
  by_cases h : e.val < 4
  · rw [if_pos h]; exact congrArg f (Fin.ext (by show 0 = e.val / 4; omega))
  · rw [if_neg h]; exact congrArg f (Fin.ext (by show 1 = e.val / 4; omega))

/-- A chunk's row of the modulation's part 2. -/
theorem pay2_at (t : Vec Ideal S2x128 .bf16) (w : Vec Ideal S128x3072 .bf16) (e : Fin 8) (j : Fin 512) :
    k0_pay2 t w (ix3 0 e j) = k0_pay1 t w (ix2 (bat e) (mcol 2 j)) := by
  pointwise [k0_pay2]
  exact bat_if e fun b => k0_pay1 t w (ix2 b (mcol 2 j))
/-- A chunk's row of the modulation's part 3. -/
theorem pay3_at (t : Vec Ideal S2x128 .bf16) (w : Vec Ideal S128x3072 .bf16) (e : Fin 8) (j : Fin 512) :
    k0_pay3 t w (ix3 0 e j) = k0_pay1 t w (ix2 (bat e) (mcol 3 j)) := by
  pointwise [k0_pay3]
  exact bat_if e fun b => k0_pay1 t w (ix2 b (mcol 3 j))
/-- A chunk's row of the modulation's part 4. -/
theorem pay4_at (m : FVec Ideal S2x3072 .f32) (e : Fin 8) (j : Fin 512) :
    k0_pay4 m (ix3 0 e j) = m (ix2 (bat e) (mcol 4 j)) := by
  pointwise [k0_pay4]
  exact bat_if e fun b => m (ix2 b (mcol 4 j))
/-- A chunk's row of the modulation's part 5. -/
theorem pay5_at (m : FVec Ideal S2x3072 .f32) (e : Fin 8) (j : Fin 512) :
    k0_pay5 m (ix3 0 e j) = m (ix2 (bat e) (mcol 5 j)) := by
  pointwise [k0_pay5]
  exact bat_if e fun b => m (ix2 b (mcol 5 j))

/-- The residual stream's first half is the first batch. -/
theorem pay6_at (x : Vec Ideal S1x256x512 .f32) (r : Fin 256) (j : Fin 512) : k0_pay6 x (ix2 r j) = x (ix3 0 r j) := by
  pointwise [k0_pay6]
/-- The residual stream's second half is the second batch. -/
theorem pay7_at (x : Vec Ideal S1x256x512 .f32) (r : Fin 256) (j : Fin 512) : k0_pay7 x (ix2 r j) = x (ix3 0 r j) := by
  pointwise [k0_pay7]

/-- The first half's projections. -/
theorem pay17_at (w : Vec Ideal S512x256 .bf16) (m : FVec Ideal S2x3072 .f32) (x : Vec Ideal S1x256x512 .f32) (r n : Fin 256) :
    k0_pay17 w (k0_pay12 m) (k0_pay13 m) (k0_pay14 x) (k0_pay15 x) (ix2 r n)
      = ∑ k, adal (fun k => x (ix3 0 r k)) (fun k => m (ix2 0 (mcol 0 k))) (fun k => m (ix2 0 (mcol 1 k))) k * w (ix2 k n) := by
  have hs : ∀ k : Fin 512, mcol 0 k = ⟨k.val, by omega⟩ := fun k => Fin.ext (by show 512 * 0 + k.val = k.val; omega)
  pointwise [k0_pay17, k0_pay16, k0_pay12, k0_pay13, k0_pay14, k0_pay15]
  simp only [hs]
  rfl
/-- The second half's projections. -/
theorem pay35_at (w : Vec Ideal S512x256 .bf16) (m : FVec Ideal S2x3072 .f32) (x : Vec Ideal S1x256x512 .f32) (r n : Fin 256) :
    k0_pay35 w (k0_pay29 m) (k0_pay30 m) (k0_pay31 x) (k0_pay32 x) (k0_pay33 (F := Ideal)) (ix2 r n)
      = ∑ k, adal (fun k => x (ix3 0 r k)) (fun k => m (ix2 1 (mcol 0 k))) (fun k => m (ix2 1 (mcol 1 k))) k * w (ix2 k n) := by
  have hs : ∀ k : Fin 512, mcol 0 k = ⟨k.val, by omega⟩ := fun k => Fin.ext (by show 512 * 0 + k.val = k.val; omega)
  pointwise [k0_pay35, k0_pay34, k0_pay29, k0_pay30, k0_pay31, k0_pay32, k0_pay33]
  simp only [hs]
  rfl

/-- One head, from its four-head matrices. -/
def hd (q k v : FVec Ideal S256x256 .bf16) (h : Fin 4) (i : Fin 256) (d : Fin 64) : EReal :=
  head (fun i d => q (ix2 i (⟨64 * h.val + d.val, by omega⟩ : Fin 256))) (fun i d => k (ix2 i (⟨64 * h.val + d.val, by omega⟩ : Fin 256)))
    (fun i d => v (ix2 i (⟨64 * h.val + d.val, by omega⟩ : Fin 256))) i d

/-- The first half's head 0. -/
theorem pay20_at (a b c : Vec Ideal S512x256 .bf16) (g h x s) (i : Fin 256) (d : Fin 64) :
    k0_pay20 a b c g h x s (ix2 i d) = hd (k0_pay17 a g h x s) (k0_pay18 b g h x s) (k0_pay19 c g h x s) 0 i d := by
  pointwise [k0_pay20]
  have hs : ∀ k : Fin 64, (⟨64 * (0 : Fin 4).val + k.val, by simp; omega⟩ : Fin 256) = ⟨k.val, by omega⟩ := fun k => Fin.ext (by simp)
  unfold hd; simp only [hs]; rfl
/-- The first half's head 1. -/
theorem pay23_at (q k v : FVec Ideal S256x256 .bf16) (a b : FVec Ideal S256x64 .bf16)
    (ha : ∀ i d, a (ix2 i d) = q (ix2 i (⟨64 + d.val, by omega⟩ : Fin 256)))
    (hb : ∀ i d, b (ix2 i d) = k (ix2 i (⟨64 + d.val, by omega⟩ : Fin 256))) (i : Fin 256) (d : Fin 64) :
    k0_pay23 v a b (ix2 i d) = hd q k v 1 i d := by
  pointwise [k0_pay23]
  simp only [ha, hb]; rfl
/-- The first half's head 2. -/
theorem pay24_at (q k v : FVec Ideal S256x256 .bf16) (i : Fin 256) (d : Fin 64) :
    k0_pay24 q k v (ix2 i d) = hd q k v 2 i d := by
  pointwise [k0_pay24]
  rfl
/-- The second half's head 2. -/
theorem pay43_at (q k v : FVec Ideal S256x256 .bf16) (i : Fin 256) (d : Fin 64) :
    k0_pay43 q k v (ix2 i d) = hd q k v 2 i d := by
  pointwise [k0_pay43]
  rfl
/-- The second half's head 0. -/
theorem pay38_at (a b c : Vec Ideal S512x256 .bf16) (g h x s u) (i : Fin 256) (d : Fin 64) :
    k0_pay38 a b c g h x s u (ix2 i d) = hd (k0_pay35 a g h x s u) (k0_pay36 b g h x s u) (k0_pay37 c g h x s u) 0 i d := by
  pointwise [k0_pay38]
  have hs : ∀ k : Fin 64, (⟨64 * (0 : Fin 4).val + k.val, by simp; omega⟩ : Fin 256) = ⟨k.val, by omega⟩ := fun k => Fin.ext (by simp)
  unfold hd; simp only [hs]; rfl
/-- The second half's head 1. -/
theorem pay42_at (q k v : FVec Ideal S256x256 .bf16) (a b c : FVec Ideal S256x64 .bf16)
    (ha : ∀ i d, a (ix2 i d) = q (ix2 i (⟨64 + d.val, by omega⟩ : Fin 256)))
    (hb : ∀ i d, b (ix2 i d) = k (ix2 i (⟨64 + d.val, by omega⟩ : Fin 256)))
    (hc : ∀ i d, c (ix2 i d) = v (ix2 i (⟨64 + d.val, by omega⟩ : Fin 256))) (i : Fin 256) (d : Fin 64) :
    k0_pay42 a b c (constant (F := Ideal) S256x256 .f32 0x00000000#32) (ix2 i d) = hd q k v 1 i d := by
  pointwise [k0_pay42]
  simp only [ha, hb, hc]; rfl

/-- The head a column lies in. -/
def hof (n : Fin 256) : Fin 4 := ⟨n.val / 64, by omega⟩

/-- Four blocks of 64 columns side by side, read at a column. -/
theorem cat4_at (f : Fin 4 → Fin 64 → EReal) (n : Fin 256) :
    (if h : n.val < 64 then f 0 ⟨n.val, h⟩ else if h : n.val - 64 < 64 then f 1 ⟨n.val - 64, h⟩
      else if h : n.val - 64 - 64 < 64 then f 2 ⟨n.val - 64 - 64, h⟩ else f 3 ⟨n.val - 64 - 64 - 64, by omega⟩) = f (hof n) (lane n) := by
  have key : ∀ (h : Fin 4) (d : Fin 64), n.val = 64 * h.val + d.val → f h d = f (hof n) (lane n) := fun h d e => by
    rw [show h = hof n from Fin.ext (by show h.val = n.val / 64; omega), show d = lane n from Fin.ext (by show d.val = n.val % 64; omega)]
  split
  · exact key _ _ (by simp)
  · split
    · exact key _ _ (by simp; omega)
    · split
      · exact key _ _ (by simp; omega)
      · exact key _ _ (by simp; omega)

/-- The first half's four heads, side by side, times the output weights. -/
theorem pay28_at (q k v : FVec Ideal S256x256 .bf16) (wo : FVec Ideal S256x512 .bf16) (a b c : FVec Ideal S256x64 .bf16)
    (ha : ∀ i d, a (ix2 i d) = hd q k v 0 i d) (hb : ∀ i d, b (ix2 i d) = hd q k v 1 i d) (hc : ∀ i d, c (ix2 i d) = hd q k v 2 i d)
    (i : Fin 256) (j : Fin 512) :
    k0_pay28 wo a b c (k0_pay25 v) (k0_pay26 q k) (k0_pay27 q k) (ix2 i j) = ∑ n, hd q k v (hof n) i (lane n) * wo (ix2 n j) := by
  pointwise [k0_pay28, k0_pay25, k0_pay26, k0_pay27]
  refine Finset.sum_congr rfl fun n _ => congrArg (· * _) ?_
  refine Eq.trans ?_ (cat4_at (fun h d => hd q k v h i d) n)
  simp only [ha, hb, hc]
  rfl
/-- The second half's four heads, side by side, times the output weights. -/
theorem pay48_at (q k v : FVec Ideal S256x256 .bf16) (wo : FVec Ideal S256x512 .bf16) (a b c : FVec Ideal S256x64 .bf16)
    (ha : ∀ i d, a (ix2 i d) = hd q k v 0 i d) (hb : ∀ i d, b (ix2 i d) = hd q k v 1 i d) (hc : ∀ i d, c (ix2 i d) = hd q k v 2 i d)
    (i : Fin 256) (j : Fin 512) :
    k0_pay48 wo a b c (k0_pay44 v) (k0_pay46 q k) (k0_pay47 q k) (ix2 i j) = ∑ n, hd q k v (hof n) i (lane n) * wo (ix2 n j) := by
  pointwise [k0_pay48, k0_pay44, k0_pay45, k0_pay46, k0_pay47]
  refine Finset.sum_congr rfl fun n _ => congrArg (· * _) ?_
  refine Eq.trans ?_ (cat4_at (fun h d => hd q k v h i d) n)
  simp only [ha, hb, hc]
  rfl

/-! ## The exchanges' pieces -/

/-- A reduced chunk is the sum of its eight slots. -/
theorem pay50_at (s : Fin 8 → Vec Ideal S1x64x512 .bf16) (i : Fin 64) (j : Fin 512) :
    k0_pay50 (s 0) (s 1) (s 2) (s 3) (s 4) (s 5) (s 6) (s 7) (ix2 i j) = ∑ e, s e (ix3 0 i j) := by
  pointwise [k0_pay50]
  rw [Fin.sum_univ_eight]
/-- The reduced chunk as it is sent is the same sum. -/
theorem pay52_at (s : Fin 8 → Vec Ideal S1x64x512 .bf16) (i : Fin 64) (j : Fin 512) :
    k0_pay52 (k0_pay51 (s 0) (s 1) (s 2) (s 3) (s 4) (s 5) (s 6) (s 7)) (ix3 0 i j) = ∑ e, s e (ix3 0 i j) := by
  pointwise [k0_pay50, k0_pay51, k0_pay52]
  rw [Fin.sum_univ_eight]
/-- The second reduced chunk is the sum of its eight slots. -/
theorem pay79_at (s : Fin 8 → Vec Ideal S1x64x512 .bf16) (i : Fin 64) (j : Fin 512) :
    k0_pay79 (k0_pay78 (s 0) (s 1)) (s 2) (s 3) (s 4) (s 5) (s 6) (s 7) (ix2 i j) = ∑ e, s e (ix3 0 i j) := by
  pointwise [k0_pay78, k0_pay79]
  rw [Fin.sum_univ_eight]
/-- The second reduced chunk as it is sent is the same sum. -/
theorem pay80_at (s : Fin 8 → Vec Ideal S1x64x512 .bf16) (i : Fin 64) (j : Fin 512) :
    k0_pay80 (k0_pay78 (s 0) (s 1)) (s 2) (s 3) (s 4) (s 5) (s 6) (s 7) (ix3 0 i j) = ∑ e, s e (ix3 0 i j) := by
  pointwise [k0_pay78, k0_pay79, k0_pay80]
  rw [Fin.sum_univ_eight]

/-- A chunk's feed-forward rows. -/
theorem pay58_at (w1 w2 x a m0 m1 m2) (i : Fin 64) (j : Fin 512) :
    k0_pay59 (k0_pay58 (F := Ideal) (k0_pay53 w1) (k0_pay54 w2) x (k0_pay57 a m0) m1 m2) (ix2 i j)
      = ∑ n : Fin 256, gate (∑ k, adal (fun k => x (ix2 i k) + m0 (ix3 0 0 k) * a (ix3 0 i k)) (fun k => m1 (ix3 0 0 k)) (fun k => m2 (ix3 0 0 k)) k
          * w1 (ix2 k n)) * w2 (ix2 n j) := by
  pointwise [k0_pay53, k0_pay54, k0_pay57, k0_pay58, k0_pay59]
  simp only [zero_sub]
  rfl
/-- The own chunk's feed-forward rows. -/
theorem pay56_at (w1 w2 x a m0 m1 m2) (i : Fin 64) (j : Fin 512) :
    k0_pay56 (F := Ideal) (k0_pay54 w2) (k0_pay55 a w1 x m0 m1 m2) (Scalar.ofBits .f32 0x00000000#32) (ix3 0 i j)
      = ∑ n : Fin 256, gate (∑ k, adal (fun k => x (ix2 i k) + m0 (ix3 0 0 k) * a (ix2 i k)) (fun k => m1 (ix3 0 0 k)) (fun k => m2 (ix3 0 0 k)) k
          * w1 (ix2 k n)) * w2 (ix2 n j) := by
  pointwise [k0_pay53, k0_pay54, k0_pay55, k0_pay56]
  simp only [zero_sub]
  rfl

/-- The own chunk's result rows. -/
theorem pay83_at (r x m a g) (i : Fin 64) (j : Fin 512) :
    k0_pay83 (F := Ideal) r x (k0_pay81 m) (k0_pay82 a) g (ix2 i j)
      = x (ix2 i j) + m (ix3 0 0 j) * a (ix3 0 i j) + g (ix3 0 0 j) * r (ix2 i j) := by
  pointwise [k0_pay81, k0_pay82, k0_pay83]
/-- A gathered chunk's result rows. -/
theorem pay86_at (r x m a g) (i : Fin 64) (j : Fin 512) :
    k0_pay86 (F := Ideal) (k0_pay84 r) x (k0_pay85 m) a g (ix2 i j)
      = x (ix2 i j) + m (ix3 0 0 j) * a (ix3 0 i j) + g (ix3 0 0 j) * r (ix3 0 i j) := by
  pointwise [k0_pay84, k0_pay85, k0_pay86]

end Pieces

end Cert.Dit

end
-- ==== Proof.KOut.lean ====
/-
The result each device leaves is the block's: the pieces' values, put together over the exchanges.
-/
module

public import proofs.«01_k».proof.Proof.KVal

@[expose] public section

noncomputable section

namespace Cert.Dit

open Cert.KernelIdeal Cert.KernelIdeal.Gen
open Idealize.ShloMosaic Idealize.ShloMosaic.TcCoe

/-- The devices hold the block's parameters: the columns of the first matrices and the rows of the second ones in
eight parts, the others whole. -/
structure Shard (P : Par) (I : Dev nD → Ins Ideal) : Prop where
  x : ∀ c b r j, (I c).x (ix3 b r j) = P.x b r j
  wq : ∀ c k n, (I c).wq (ix2 k n) = P.wq k (blk c n)
  wk : ∀ c k n, (I c).wk (ix2 k n) = P.wk k (blk c n)
  wv : ∀ c k n, (I c).wv (ix2 k n) = P.wv k (blk c n)
  wo : ∀ c n j, (I c).wo (ix2 n j) = P.wo (blk c n) j
  t : ∀ c b k, (I c).t (ix2 b k) = P.t b k
  wm : ∀ c k n, (I c).wm (ix2 k n) = P.wm k n
  w1 : ∀ c k n, (I c).w1 (ix2 k n) = P.w1 k (blk c n)
  w2 : ∀ c n j, (I c).w2 (ix2 n j) = P.w2 (blk c n) j

variable {P : Par} {I : Dev nD → Ins Ideal} (h : Shard P I)
include h

/-- A device's modulation is the block's. -/
theorem mod_at (c : Dev nD) (o : Fin 6) (b : Fin 2) (j : Fin 512) : (I c).mod (ix2 b (mcol o j)) = P.md o b j := by
  unfold Ins.mod
  rw [pay1_at]
  simp only [h.t, h.wm]; rfl

/-- So are the modulation rows it keeps for each chunk. -/
theorem modc_at (c : Dev nD) (m : Fin 4) (e : Fin 8) (j : Fin 512) :
    (I c).modc (ix3 m e j) = P.md ⟨m.val + 2, by omega⟩ (bat e) j := by
  fin_cases m
  · exact (pay2_at _ _ e j).trans (mod_at h c 2 (bat e) j)
  · exact (pay3_at _ _ e j).trans (mod_at h c 3 (bat e) j)
  · exact (pay4_at _ e j).trans (mod_at h c 4 (bat e) j)
  · exact (pay5_at _ e j).trans (mod_at h c 5 (bat e) j)

/-- A device's residual stream is the block's argument. -/
theorem x2Part_at (c : Dev nD) (b : Fin 2) (r : Fin 256) (j : Fin 512) : (I c).x2Part b (ix2 r j) = P.x b r j := by
  match b with
  | 0 => show k0_pay6 (xblk (I c).x 0) (ix2 r j) = _; rw [pay6_at]; exact h.x c 0 r j
  | 1 => show k0_pay7 (xblk (I c).x 1) (ix2 r j) = _; rw [pay7_at]; exact h.x c 1 r j

/-- A device's projections are its columns of the whole ones. -/
theorem proj0_at (c : Dev nD) (w : Vec Ideal S512x256 .bf16) (W : Fin 512 → Fin 2048 → EReal) (hw : ∀ k n, w (ix2 k n) = W k (blk c n))
    (r n : Fin 256) :
    k0_pay17 w (k0_pay12 (I c).mod) (k0_pay13 (I c).mod) (k0_pay14 (xblk (I c).x 0)) (k0_pay15 (xblk (I c).x 0)) (ix2 r n)
      = P.proj W 0 r (blk c n) := by
  rw [pay17_at]
  have hx : (fun k => xblk (I c).x 0 (ix3 0 r k)) = P.x 0 r := funext fun k => h.x c 0 r k
  have h0 : (fun k => (I c).mod (ix2 0 (mcol 0 k))) = P.md 0 0 := funext fun k => mod_at h c 0 0 k
  have h1 : (fun k => (I c).mod (ix2 0 (mcol 1 k))) = P.md 1 0 := funext fun k => mod_at h c 1 0 k
  rw [hx, h0, h1]
  simp only [hw]; rfl
/-- The same of the second batch. -/
theorem proj1_at (c : Dev nD) (w : Vec Ideal S512x256 .bf16) (W : Fin 512 → Fin 2048 → EReal) (hw : ∀ k n, w (ix2 k n) = W k (blk c n))
    (r n : Fin 256) :
    k0_pay35 w (k0_pay29 (I c).mod) (k0_pay30 (I c).mod) (k0_pay31 (xblk (I c).x 1)) (k0_pay32 (xblk (I c).x 1)) (k0_pay33 (F := Ideal)) (ix2 r n)
      = P.proj W 1 r (blk c n) := by
  rw [pay35_at]
  have hx : (fun k => xblk (I c).x 1 (ix3 0 r k)) = P.x 1 r := funext fun k => h.x c 1 r k
  have h0 : (fun k => (I c).mod (ix2 1 (mcol 0 k))) = P.md 0 1 := funext fun k => mod_at h c 0 1 k
  have h1 : (fun k => (I c).mod (ix2 1 (mcol 1 k))) = P.md 1 1 := funext fun k => mod_at h c 1 1 k
  rw [hx, h0, h1]
  simp only [hw]; rfl

omit h in
/-- A head of the device's four is the block's. -/
theorem hd_at (c : Dev nD) (b : Fin 2) (q k v : FVec Ideal S256x256 .bf16)
    (hq : ∀ r n, q (ix2 r n) = P.proj P.wq b r (blk c n)) (hk : ∀ r n, k (ix2 r n) = P.proj P.wk b r (blk c n))
    (hv : ∀ r n, v (ix2 r n) = P.proj P.wv b r (blk c n)) (r n : Fin 256) :
    hd q k v (hof n) r (lane n) = P.o b r (blk c n) := by
  have e : ∀ d : Fin 64, blk c (⟨64 * (hof n).val + d.val, by omega⟩ : Fin 256) = hcol (blk c n) d := fun d => (hcol_blk c n d).symm
  unfold hd Par.o
  simp only [hq, hk, hv, lane_blk, ← e]

omit h in
theorem b0_at (i : Ins Ideal) (r : Fin 256) (d : Fin 64) : i.b0 (ix2 r d) = i.q0 (ix2 r (⟨64 + d.val, by omega⟩ : Fin 256)) := by
  pointwise [Ins.b0, Ins.q0, k0_pay21]
omit h in
theorem c0_at (i : Ins Ideal) (r : Fin 256) (d : Fin 64) : i.c0 (ix2 r d) = i.k0 (ix2 r (⟨64 + d.val, by omega⟩ : Fin 256)) := by
  pointwise [Ins.c0, Ins.k0, k0_pay22]
omit h in
theorem b1_at (i : Ins Ideal) (r : Fin 256) (d : Fin 64) : i.b1 (ix2 r d) = i.q1 (ix2 r (⟨64 + d.val, by omega⟩ : Fin 256)) := by
  pointwise [Ins.b1, Ins.q1, k0_pay39]
omit h in
theorem c1_at (i : Ins Ideal) (r : Fin 256) (d : Fin 64) : i.c1 (ix2 r d) = i.k1 (ix2 r (⟨64 + d.val, by omega⟩ : Fin 256)) := by
  pointwise [Ins.c1, Ins.k1, k0_pay40]
omit h in
theorem d1_at (i : Ins Ideal) (r : Fin 256) (d : Fin 64) : i.d1 (ix2 r d) = i.v1 (ix2 r (⟨64 + d.val, by omega⟩ : Fin 256)) := by
  pointwise [Ins.d1, Ins.v1, k0_pay41]

omit h in
theorem pay11_eq (w : Vec Ideal S256x512 .bf16) : k0_pay11 w = w := by
  funext j
  rw [eq_ix2 j]
  pointwise [k0_pay11]
omit h in
theorem pay8_eq (w : Vec Ideal S512x256 .bf16) : k0_pay8 w = w := by
  funext j
  rw [eq_ix2 j]
  pointwise [k0_pay8]

omit h in
theorem attn0_at (i : Ins Ideal) (r : Fin 256) (j : Fin 512) :
    i.attn0 (ix2 r j) = ∑ n, hd i.q0 i.k0 i.v0 (hof n) r (lane n) * i.wo (ix2 n j) := by
  unfold Ins.attn0
  rw [pay11_eq]
  exact pay28_at i.q0 i.k0 i.v0 i.wo i.a0 _ _ (fun i d => pay20_at _ _ _ _ _ _ _ i d)
    (fun a d => pay23_at i.q0 i.k0 i.v0 _ _ (b0_at i) (c0_at i) a d) (fun i d => pay24_at _ _ _ i d) r j
omit h in
theorem attn1_at (i : Ins Ideal) (r : Fin 256) (j : Fin 512) :
    i.attn1 (ix2 r j) = ∑ n, hd i.q1 i.k1 i.v1 (hof n) r (lane n) * i.wo (ix2 n j) := by
  unfold Ins.attn1
  rw [pay11_eq]
  exact pay48_at i.q1 i.k1 i.v1 i.wo i.a1 _ _ (fun i d => pay38_at _ _ _ _ _ _ _ _ i d)
    (fun a d => pay42_at i.q1 i.k1 i.v1 _ _ _ (b1_at i) (c1_at i) (d1_at i) a d) (fun i d => pay43_at _ _ _ i d) r j

/-- The first batch's queries. -/
theorem q0_at (c : Dev nD) (r n : Fin 256) : (I c).q0 (ix2 r n) = P.proj P.wq 0 r (blk c n) := by
  unfold Ins.q0; rw [pay8_eq]; exact proj0_at h c _ _ (h.wq c) r n
/-- The first batch's keys. -/
theorem k0_at (c : Dev nD) (r n : Fin 256) : (I c).k0 (ix2 r n) = P.proj P.wk 0 r (blk c n) := by
  unfold Ins.k0; rw [show k0_pay9 (I c).wk = (I c).wk from pay8_eq _]; exact proj0_at h c _ _ (h.wk c) r n
/-- The first batch's values. -/
theorem v0_at (c : Dev nD) (r n : Fin 256) : (I c).v0 (ix2 r n) = P.proj P.wv 0 r (blk c n) := by
  unfold Ins.v0; rw [show k0_pay10 (I c).wv = (I c).wv from pay8_eq _]; exact proj0_at h c _ _ (h.wv c) r n
/-- The second batch's queries. -/
theorem q1_at (c : Dev nD) (r n : Fin 256) : (I c).q1 (ix2 r n) = P.proj P.wq 1 r (blk c n) := by
  unfold Ins.q1; rw [pay8_eq]; exact proj1_at h c _ _ (h.wq c) r n
/-- The second batch's keys. -/
theorem k1_at (c : Dev nD) (r n : Fin 256) : (I c).k1 (ix2 r n) = P.proj P.wk 1 r (blk c n) := by
  unfold Ins.k1; rw [show k0_pay9 (I c).wk = (I c).wk from pay8_eq _]; exact proj1_at h c _ _ (h.wk c) r n
/-- The second batch's values. -/
theorem v1_at (c : Dev nD) (r n : Fin 256) : (I c).v1 (ix2 r n) = P.proj P.wv 1 r (blk c n) := by
  unfold Ins.v1; rw [show k0_pay10 (I c).wv = (I c).wv from pay8_eq _]; exact proj1_at h c _ _ (h.wv c) r n

/-- A device's partial sum of the attention's output is over its columns. -/
theorem attn_at (c : Dev nD) (b : Fin 2) (r : Fin 256) (j : Fin 512) :
    (I c).attn b (ix2 r j) = ∑ n, P.o b r (blk c n) * P.wo (blk c n) j := by
  match b with
  | 0 =>
    show (I c).attn0 (ix2 r j) = _
    rw [attn0_at]
    exact Finset.sum_congr rfl fun n _ => by rw [hd_at (P := P) c 0 _ _ _ (q0_at h c) (k0_at h c) (v0_at h c), h.wo]
  | 1 =>
    show (I c).attn1 (ix2 r j) = _
    rw [attn1_at]
    exact Finset.sum_congr rfl fun n _ => by rw [hd_at (P := P) c 1 _ _ _ (q1_at h c) (k1_at h c) (v1_at h c), h.wo]

end Cert.Dit

end
-- ==== Proof.KOut2.lean ====
/-
The exchanges' values: what the reduced chunks hold is the block's attention and feed-forward, and the result the block's.
-/
module

public import proofs.«01_k».proof.Proof.KOut

@[expose] public section

noncomputable section

namespace Cert.Dit

open Cert.KernelIdeal Cert.KernelIdeal.Gen
open Idealize.ShloMosaic Idealize.ShloMosaic.TcCoe
open Ins (halfOf inHalf)

/-- A chunk's rows lie in the chunk's batch. -/
theorem half_row (e : Dev nD) (a : Fin 64) : halfOf (row64 e a) = bat e := by
  refine Fin.ext ?_
  show (64 * e.val + a.val) / 256 = e.val / 4
  omega

variable {P : Par} {I : Dev nD → Ins Ideal} (h : Shard P I)
include h

/-- A chunk's rows of the residual stream. -/
theorem rows_at (d e : Dev nD) (a : Fin 64) (j : Fin 512) : rows64 (I d).x2 e (ix2 a j) = P.x (bat e) (inHalf (row64 e a)) j := by
  rw [← half_row e a]
  exact x2Part_at h d _ _ j

/-- A chunk's modulation row. -/
theorem modrow_at (d e : Dev nD) (m : Fin 4) (j : Fin 512) : modrow (I d).modc m e (ix3 0 0 j) = P.md ⟨m.val + 2, by omega⟩ (bat e) j :=
  modc_at h d m e j

/-- A chunk's rows of a device's partial sum. -/
theorem part1_at (c e : Dev nD) (a : Fin 64) (j : Fin 512) :
    (I c).part1 (ix2 (row64 e a) j) = ∑ n, P.o (bat e) (inHalf (row64 e a)) (blk c n) * P.wo (blk c n) j := by
  rw [← half_row e a]
  exact attn_at h c _ _ j

/-- What the first reduce-scatter brings from a device. -/
theorem rs1_val (d c : Dev nD) (a : Fin 64) (j : Fin 512) :
    slotv (rs1 I d) c (ix3 0 a j) = ∑ n, P.o (bat d) (inHalf (row64 d a)) (blk c n) * P.wo (blk c n) j := by
  show (I c).part1 (rowIx d (ix3 c a j)) = _
  rw [rowIx_eq]
  exact part1_at h c d a j

/-- The reduced chunk is the attention's output rows. -/
theorem red1_at (d : Dev nD) (a : Fin 64) (j : Fin 512) : red1 I d (ix2 a j) = P.att (bat d) (inHalf (row64 d a)) j := by
  refine (pay50_at (fun e => slotv (rs1 I d) e) a j).trans ?_
  unfold Par.att
  rw [sum_blk]
  exact Finset.sum_congr rfl fun c _ => rs1_val h d c a j
/-- So it is as it is sent. -/
theorem red1b_at (d : Dev nD) (a : Fin 64) (j : Fin 512) : red1b I d (ix3 0 a j) = P.att (bat d) (inHalf (row64 d a)) j := by
  refine (pay52_at (fun e => slotv (rs1 I d) e) a j).trans ?_
  unfold Par.att
  rw [sum_blk]
  exact Finset.sum_congr rfl fun c _ => rs1_val h d c a j
/-- The first all-gather brings the attention's output rows. -/
theorem ag1_val (e : Dev nD) (a : Fin 64) (j : Fin 512) : slotv (ag1 I) e (ix3 0 a j) = P.att (bat e) (inHalf (row64 e a)) j :=
  red1b_at h e a j

/-- A device's partial sum of the feed-forward is over its columns. -/
theorem ffn_at (d e : Dev nD) (a : Fin 64) (j : Fin 512) :
    ffn I d e (ix2 a j) = ∑ n, P.hid (bat e) (inHalf (row64 e a)) (blk d n) * P.w2 (blk d n) j := by
  unfold ffn
  rw [pay58_at]
  simp only [rows_at h, modrow_at h, ag1_val h, h.w1, h.w2]
  rfl
/-- The same of the device's own chunk. -/
theorem own_at (d : Dev nD) (a : Fin 64) (j : Fin 512) :
    own I d (ix3 0 a j) = ∑ n, P.hid (bat d) (inHalf (row64 d a)) (blk d n) * P.w2 (blk d n) j := by
  unfold own
  rw [pay56_at]
  simp only [rows_at h, modrow_at h, red1_at h, h.w1, h.w2]
  rfl

theorem rs2_at (d c : Dev nD) (a : Fin 64) (j : Fin 512) :
    slotv (rs2 I d) c (ix3 0 a j) = ∑ n, P.hid (bat d) (inHalf (row64 d a)) (blk c n) * P.w2 (blk c n) j := by
  show rs2 I d (ix3 c a j) = _
  unfold rs2
  rw [show devOf (ix3 c a j) = c from rfl]
  split
  · rename_i e; subst e
    exact own_at h c a j
  · rw [rowIx_eq]
    show ffn I c (chunkOf (row64 d a)) (ix2 (inChunk (row64 d a)) j) = _
    rw [show chunkOf (row64 d a) = d from Fin.ext (by show (64 * d.val + a.val) / 64 = d.val; omega),
      show inChunk (row64 d a) = a from Fin.ext (by show (64 * d.val + a.val) % 64 = a.val; omega)]
    exact ffn_at h c d a j

/-- The second reduced chunk is the feed-forward's output rows. -/
theorem red2_at (d : Dev nD) (a : Fin 64) (j : Fin 512) : red2 I d (ix2 a j) = P.ff (bat d) (inHalf (row64 d a)) j := by
  refine (pay79_at (fun e => slotv (rs2 I d) e) a j).trans ?_
  unfold Par.ff
  rw [sum_blk]
  exact Finset.sum_congr rfl fun c _ => rs2_at h d c a j
/-- So it is as it is sent. -/
theorem red2b_at (d : Dev nD) (a : Fin 64) (j : Fin 512) : red2b I d (ix3 0 a j) = P.ff (bat d) (inHalf (row64 d a)) j := by
  refine (pay80_at (fun e => slotv (rs2 I d) e) a j).trans ?_
  unfold Par.ff
  rw [sum_blk]
  exact Finset.sum_congr rfl fun c _ => rs2_at h d c a j
/-- The second all-gather brings the feed-forward's output rows. -/
theorem ag2_val (e : Dev nD) (a : Fin 64) (j : Fin 512) : slotv (ag2 I) e (ix3 0 a j) = P.ff (bat e) (inHalf (row64 e a)) j :=
  red2b_at h e a j

/-- The own chunk's result rows are the block's. -/
theorem outOwn_at (d : Dev nD) (a : Fin 64) (j : Fin 512) : outOwn I d (ix2 a j) = P.out (bat d) (inHalf (row64 d a)) j := by
  unfold outOwn
  rw [pay83_at, rows_at h, modrow_at h, modrow_at h, ag1_val h, red2_at h]
  rfl
/-- A gathered chunk's result rows are the block's. -/
theorem outOf_at (d e : Dev nD) (a : Fin 64) (j : Fin 512) : outOf I d e (ix2 a j) = P.out (bat e) (inHalf (row64 e a)) j := by
  unfold outOf
  rw [pay86_at, rows_at h, modrow_at h, modrow_at h, ag1_val h, ag2_val h]
  rfl

/-- The result every device leaves is the block's. -/
theorem outc_val (d : Dev nD) (r : Fin 512) (j : Fin 512) : outc I d (ix2 r j) = P.out (halfOf r) (inHalf r) j := by
  have hr : row64 (chunkOf r) (inChunk r) = r := Fin.ext (by show 64 * (r.val / 64) + r.val % 64 = r.val; omega)
  have e : ∀ X, X = P.out (bat (chunkOf r)) (inHalf (row64 (chunkOf r) (inChunk r))) j → X = P.out (halfOf r) (inHalf r) j := fun X hX => by
    rw [hX, ← half_row (chunkOf r) (inChunk r), hr]
  refine e _ ?_
  show (if chunkOf r = d then outOwn I d else outOf I d (chunkOf r)) (ix2 (inChunk r) j) = _
  split
  · rename_i hd; subst hd
    exact outOwn_at h _ _ j
  · exact outOf_at h d _ _ j

end Cert.Dit

end
-- ==== Proof.RVal.lean ====
/-
What the reference computes, index by index: the block's mathematics.
-/
module

public import proofs.«01_k».proof.Proof.Gen.ReferenceIdeal.Run
public import proofs.«01_k».proof.Proof.Spec

@[expose] public section

noncomputable section

namespace Cert.Dit

open Cert.ReferenceIdeal Cert.ReferenceIdeal.Gen Cert.ReferenceIdeal.Value
open Idealize.ShloMosaic Idealize.ShloMosaic.TcCoe

/-- The reference's parameters. -/
def parOf (V : Valuation τ sig (Elt Ideal)) : Par where
  x b r j := (V (Proc.devRef .tc main_arg0) : S2x256x512.Idx → EReal) (ix3 b r j)
  wq k n := (V (Proc.devRef .tc main_arg1) : S512x2048.Idx → EReal) (ix2 k n)
  wk k n := (V (Proc.devRef .tc main_arg2) : S512x2048.Idx → EReal) (ix2 k n)
  wv k n := (V (Proc.devRef .tc main_arg3) : S512x2048.Idx → EReal) (ix2 k n)
  wo n j := (V (Proc.devRef .tc main_arg4) : S2048x512.Idx → EReal) (ix2 n j)
  t b k := (V (Proc.devRef .tc main_arg5) : S2x128.Idx → EReal) (ix2 b k)
  wm k n := (V (Proc.devRef .tc main_arg6) : S128x3072.Idx → EReal) (ix2 k n)
  w1 k n := (V (Proc.devRef .tc main_arg7) : S512x2048.Idx → EReal) (ix2 k n)
  w2 n j := (V (Proc.devRef .tc main_arg8) : S2048x512.Idx → EReal) (ix2 n j)

variable (V : Valuation τ sig (Elt Ideal))

/-- The reference's modulation. -/
theorem v8_at (o : Fin 6) (b : Fin 2) (j : Fin 512) : res_main_v8 V (ix2 b (mcol o j)) = (parOf V).md o b j := by
  pointwise [res_main_v8]
  rfl

/-- Its part 0, at its own column. -/
theorem md0_at (b : Fin 2) (j : Fin 512) : res_main_v8 V (ix2 b (⟨j.val, by omega⟩ : Fin 3072)) = (parOf V).md 0 b j := by
  rw [← v8_at]
  exact congrArg (fun n => res_main_v8 V (ix2 b n)) (Fin.ext (by show j.val = 512 * 0 + j.val; omega))

/-- The reference's attention input. -/
theorem v42_at (b : Fin 2) (r : Fin 256) (j : Fin 512) : res_main_v42 V (ix3 b r j) = (parOf V).y b r j := by
  pointwise [res_main_v42, res_main_v18]
  refine Eq.trans ?_ (congrArg (fun z => z * (1 + (parOf V).md 0 b j) + (parOf V).md 1 b j) (norm_div ((parOf V).x b r) ((parOf V).x b r j - mean ((parOf V).x b r))))
  rw [md0_at, ← v8_at V 1]
  rfl

/-- A head's column. -/
def hcol' (h : Fin 32) (d : Fin 64) : Fin 2048 := ⟨h.val * 64 + d.val, by omega⟩

/-- The reference's scores. -/
theorem v51_at (b : Fin 2) (h : Fin 32) (i j : Fin 256) :
    (res_main_v51 V (ix4 b h i j) : EReal)
      = score (fun i d => (parOf V).proj (parOf V).wq b i (hcol' h d)) (fun i d => (parOf V).proj (parOf V).wk b i (hcol' h d)) i j := by
  pointwise [res_main_v51]
  simp only [v42_at]
  rfl

/-- The scores are reduced along their last axis. -/
theorem scores_reduce : S2x32x256x256.Reduces [3] S2x32x256 := by decide

/-- A row's index with a key put in. -/
theorem lift_scores (b : Fin 2) (h : Fin 32) (i k : Fin 256) : scores_reduce.lift (ix3 b h i) k = ix4 b h i k := by
  funext a
  refine Fin.ext ?_
  refine (scores_reduce.lift_val (ix3 b h i) k a).trans ?_
  fin_cases a <;> rfl

/-- The largest score of a row, as the fold over the row. -/
theorem fold_scores (x : S2x32x256x256.Idx → EReal) (c : EReal) (b : Fin 2) (h : Fin 32) (i : Fin 256) :
    (Finset.univ.filter fun j => reducesTo_S2x32x256x256_S2x32x256_d3.drop j = ix3 b h i).fold max c x
      = (Finset.univ : Finset (Fin 256)).fold max c fun k => x (ix4 b h i k) := by
  rw [Shape.ReducesTo.drop_eq_drop reducesTo_S2x32x256x256_S2x32x256_d3 scores_reduce]
  refine (scores_reduce.fold_filter_drop_single max c x (ix3 b h i)).trans ?_
  exact congrArg (fun f => (Finset.univ : Finset (Fin 256)).fold max c f) (funext fun k => congrArg x (lift_scores b h i k))

/-- The scores' exponentials. -/
theorem v56_at (b : Fin 2) (h : Fin 32) (i j : Fin 256) :
    (res_main_v56 V (ix4 b h i j) : EReal)
      = wexp (fun i d => (parOf V).proj (parOf V).wq b i (hcol' h d)) (fun i d => (parOf V).proj (parOf V).wk b i (hcol' h d)) i j := by
  pointwise [res_main_v56]
  refine (congrArg (fun z : EReal => Ideal.exp (@HSub.hSub EReal EReal EReal _ (res_main_v51 V (ix4 b h i j)) z)) (fold_scores (res_main_v51 V) cinf b h i)).trans ?_
  simp only [v51_at]
  rfl

/-- The residual stream after the attention. -/
theorem v69_at (b : Fin 2) (r : Fin 256) (j : Fin 512) : res_main_v69 V (ix3 b r j) = (parOf V).x1 b r j := by
  pointwise [res_main_v69]
  rw [show res_main_v8 V (ix2 b (⟨1024 + j.val, by omega⟩ : Fin 3072)) = (parOf V).md 2 b j from v8_at V 2 b j]
  refine congrArg (fun z => (parOf V).x b r j + (parOf V).md 2 b j * z) (Finset.sum_congr rfl fun n _ => congrArg (· * (parOf V).wo n j) ?_)
  have hc : ∀ d : Fin 64, hcol' ⟨n.val / 64, by omega⟩ d = hcol n d := fun d => Fin.ext (by show n.val / 64 * 64 + d.val = 64 * (n.val / 64) + d.val; omega)
  have hn : hcol n (lane n) = n := Fin.ext (by show 64 * (n.val / 64) + n.val % 64 = n.val; omega)
  simp only [v42_at, v56_at, hc]
  unfold Par.o head
  simp only [hn]
  refine congrArg (fun z => Ideal.div z _) (Finset.sum_congr rfl fun k _ => mul_comm _ _)

/-- The feed-forward's first product. -/
theorem v98_at (b : Fin 2) (r : Fin 256) (n : Fin 2048) :
    @Eq EReal (res_main_v98 V (ix3 b r n)) (∑ k, (parOf V).y2 b r k * (parOf V).w1 k n) := by
  pointwise [res_main_v98, res_main_v73]
  simp only [v69_at]
  refine Finset.sum_congr rfl fun k _ => congrArg (· * (parOf V).w1 k n) ?_
  refine Eq.trans ?_ (congrArg (fun z => z * (1 + (parOf V).md 3 b k) + (parOf V).md 4 b k) (norm_div ((parOf V).x1 b r) ((parOf V).x1 b r k - mean ((parOf V).x1 b r))))
  rw [← v8_at V 3, ← v8_at V 4]
  rfl

/-- The reference's result, as its run leaves it. -/
def refOut : S512x512.Idx → EReal :=
  shapeCast _ (addf (res_main_v69 V) (mulf (broadcastInDim S2x256x512 ![0, 1, 2] bcast_S2x1x512_S2x256x512_0_1_2 (broadcastInDim S2x1x512 ![0, 2] bcast_S2x512_S2x1x512_0_2 (extractStridedSlice S2x512 ![0, 2560] (res_main_v8 V) slices_S2x3072_S2x512_0_2560))) (Host.dotGeneral dot_S2x256x2048_S2048x512_S2x256x512_2_0_01_1_n_n none (Host.divf (res_main_v98 V) (addf (broadcastInDim S2x256x2048 ![] bcast_S_S2x256x2048 (constant S_ .f32 0x3F800000#32)) (Host.exp (Host.negf (res_main_v98 V))))) (extf .f32 (V (Proc.devRef .tc main_arg8)) bitsLt_bf16_f32)))) shapeCasts_S2x256x512_S512x512

/-- It is the block's result, the batches' rows below one another. -/
theorem refOut_at (r : Fin 512) (j : Fin 512) :
    refOut V (ix2 r j) = (parOf V).out ⟨r.val / 256, by omega⟩ ⟨r.val % 256, Nat.mod_lt _ (by decide)⟩ j := by
  pointwise [refOut]
  rw [v69_at, show res_main_v8 V (ix2 (⟨r.val / 256, by omega⟩ : Fin 2) (⟨2560 + j.val, by omega⟩ : Fin 3072)) = (parOf V).md 5 ⟨r.val / 256, by omega⟩ j from v8_at V 5 _ j]
  refine congrArg (fun z => (parOf V).x1 _ _ j + (parOf V).md 5 _ j * z) (Finset.sum_congr rfl fun n _ => congrArg (· * (parOf V).w2 n j) ?_)
  exact congrArg gate (v98_at V _ _ n)

end Cert.Dit

end
-- ==== Proof.Equation.lean ====
/-
The value claim: the kernel's devices and the reference leave the same result.
-/
module

public import proofs.«01_k».proof.Defs
public import proofs.«01_k».proof.Proof.Frames
public import proofs.«01_k».proof.Proof.KOut2
public import proofs.«01_k».proof.Proof.RVal

@[expose] public section

noncomputable section

namespace Cert.Dit

open Idealize.ShloMosaic Idealize.ShloMosaic.TcCoe Idealize.SL.Sem Idealize.ShloMosaic.StableHlo

/-! ## The blocks -/

/-- Device `c`'s columns of an array cut along its columns. -/
theorem cols_at (v : (⟨2, ![512, 2048]⟩ : Shape).Idx → EReal) (c : Fin 8) (k : Fin 512) (n : Fin 256) :
    Layout.block ⟨2, ![512, 256]⟩ ⟨2, ![512, 2048]⟩ 1 8 c v (by decide) (ix2 k n) = v (ix2 k (blk c n)) := by
  refine congrArg v (funext fun a => Fin.ext ?_)
  refine (Layout.Tiles.idx_val _ c (ix2 k n) a).trans ?_
  match a with
  | ⟨0, _⟩ => rfl
  | ⟨1, _⟩ => show c.val * 256 + n.val = 256 * c.val + n.val; omega

/-- Device `c`'s rows of an array cut along its rows. -/
theorem rows_cut_at (v : (⟨2, ![2048, 512]⟩ : Shape).Idx → EReal) (c : Fin 8) (n : Fin 256) (j : Fin 512) :
    Layout.block ⟨2, ![256, 512]⟩ ⟨2, ![2048, 512]⟩ 0 8 c v (by decide) (ix2 n j) = v (ix2 (blk c n) j) := by
  refine congrArg v (funext fun a => Fin.ext ?_)
  refine (Layout.Tiles.idx_val _ c (ix2 n j) a).trans ?_
  match a with
  | ⟨0, _⟩ => show c.val * 256 + n.val = 256 * c.val + n.val; omega
  | ⟨1, _⟩ => rfl

/-! ## The windows' blocks are whole arrays -/

section Windows
open Cert.KernelIdeal Cert.KernelIdeal.Gen
variable (m : (ℓ : Loc nD τ sig) → Buf (Elt Ideal) ℓ) (ρ : Dev nD → PrngReg)

/-- The window's block is the whole argument. -/
theorem ins_x (c : Dev nD) : (insOf m ρ c).x = m ((c.tc : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem ins_wq (c : Dev nD) : (insOf m ρ c).wq = m ((c.tc : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
theorem ins_wk (c : Dev nD) : (insOf m ρ c).wk = m ((c.tc : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _
theorem ins_wv (c : Dev nD) : (insOf m ρ c).wv = m ((c.tc : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) _
theorem ins_wo (c : Dev nD) : (insOf m ρ c).wo = m ((c.tc : Thread nD τ).loc main_arg4) := by
  have hz : (fun a => (win0_4.index (0 : Fin 1)) a * main_arg4.ty.shape.size a) = fun _ => 0 := funext fun a => by fin_cases a <;> decide
  exact Memref.read_access_unit_zero (Elt Ideal) main_arg4 hz (fun a => by fin_cases a <;> decide) _
theorem ins_t (c : Dev nD) : (insOf m ρ c).t = m ((c.tc : Thread nD τ).loc main_arg5) := by
  have hz : (fun a => (win0_5.index (0 : Fin 1)) a * main_arg5.ty.shape.size a) = fun _ => 0 := funext fun a => by fin_cases a <;> decide
  exact Memref.read_access_unit_zero (Elt Ideal) main_arg5 hz (fun a => by fin_cases a <;> decide) _
theorem ins_wm (c : Dev nD) : (insOf m ρ c).wm = m ((c.tc : Thread nD τ).loc main_arg6) := by
  have hz : (fun a => (win0_6.index (0 : Fin 1)) a * main_arg6.ty.shape.size a) = fun _ => 0 := funext fun a => by fin_cases a <;> decide
  exact Memref.read_access_unit_zero (Elt Ideal) main_arg6 hz (fun a => by fin_cases a <;> decide) _
theorem ins_w1 (c : Dev nD) : (insOf m ρ c).w1 = m ((c.tc : Thread nD τ).loc main_arg7) := by
  have hz : (fun a => (win0_7.index (0 : Fin 1)) a * main_arg7.ty.shape.size a) = fun _ => 0 := funext fun a => by fin_cases a <;> decide
  exact Memref.read_access_unit_zero (Elt Ideal) main_arg7 hz (fun a => by fin_cases a <;> decide) _
theorem ins_w2 (c : Dev nD) : (insOf m ρ c).w2 = m ((c.tc : Thread nD τ).loc main_arg8) := by
  have hz : (fun a => (win0_8.index (0 : Fin 1)) a * main_arg8.ty.shape.size a) = fun _ => 0 := funext fun a => by fin_cases a <;> decide
  exact Memref.read_access_unit_zero (Elt Ideal) main_arg8 hz (fun a => by fin_cases a <;> decide) _

/-- The result array ends at the computed contents. -/
theorem final_out (c : Dev nD) : finalA m ρ c (9 : Fin 10) = outc (insOf m ρ) c := by
  have hz : (fun a => (win0_9.index (0 : Fin 1)) a * main_v1.ty.shape.size a) = fun _ => 0 := funext fun a => by fin_cases a <;> decide
  have hr := Memref.read_access_unit_zero (Elt Ideal) main_v1 hz (fun a => by fin_cases a <;> decide) (finalA m ρ c (9 : Fin 10))
  refine hr.symm.trans ?_
  show (win0_9.blk (0 : Fin 1)).view.read (Elt Ideal) (finalA m ρ c (9 : Fin 10)) = _
  unfold finalA
  rw [show cfg0.N = ((0 : Fin 1) : Fin cfg0.N).val + 1 from rfl, (dats m ρ 0 c).arrAt_succ (9 : Fin 10) (0 : Fin 1)]
  rw [show (cfg0.win (9 : Fin 10)).flush (0 : Fin 1) = true from by decide, if_pos rfl]
  exact View.read_write_univ _ _

end Windows

/-! ## The claim -/

/-- The kernel's result on every device and the reference's are one array. -/
theorem algebraic : Cert.algebraic_KernelIdeal_ReferenceIdeal := by
  intro m g m' g' _ hin
  let V := launchContents m' (0 : Dev Cert.ReferenceIdeal.nD)
  have hS : Shard (parOf V) (insOf m g) := by
    refine ⟨fun c b r j => ?_, fun c k n => ?_, fun c k n => ?_, fun c k n => ?_, fun c n j => ?_, fun c b k => ?_, fun c k n => ?_,
      fun c k n => ?_, fun c n j => ?_⟩
    · rw [ins_x, (hin c).1]; rfl
    · rw [ins_wq, (hin c).2.1]; exact cols_at _ c k n
    · rw [ins_wk, (hin c).2.2.1]; exact cols_at _ c k n
    · rw [ins_wv, (hin c).2.2.2.1]; exact cols_at _ c k n
    · rw [ins_wo, (hin c).2.2.2.2.1]; exact rows_cut_at _ c n j
    · rw [ins_t, (hin c).2.2.2.2.2.1]; rfl
    · rw [ins_wm, (hin c).2.2.2.2.2.2.1]; rfl
    · rw [ins_w1, (hin c).2.2.2.2.2.2.2.1]; exact cols_at _ c k n
    · rw [ins_w2, (hin c).2.2.2.2.2.2.2.2]; exact rows_cut_at _ c n j
  have hout : ∀ c, outc (insOf m g) c = refOut V := fun c => funext fun i => by
    rw [eq_ix2 i]
    exact (outc_val hS c (i 0) (i 1)).trans (refOut_at V (i 0) (i 1)).symm
  refine ⟨refOut V, ?_, ?_⟩
  · exact (θ_run Cert.KernelIdeal.defs _ _).mono
      (fun r h c => ⟨((h.1 c (9 : Fin 10)).trans (final_out m g c)).trans (hout c), kept m g r h.1 c⟩) (run_main (F := Ideal) m g)
  · exact (θ_run Cert.ReferenceIdeal.defs _ _).mono (fun _ h => h 0) (Cert.ReferenceIdeal.Value.run m' g')

end Cert.Dit

end
-- ==== Proof.lean ====
/- The proof of the certificate. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Dit.frame_kernel, Cert.Dit.frame_ideal, Cert.Dit.frame_reference, trivial, Cert.Dit.algebraic⟩

end Cert.Proof

end
